-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![2, 8192, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 8192, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 512]⟩ ⟨3, ![2, 8192, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  bcast_S_S512x256 : S_.BroadcastsInDim S512x256 (![] : Fin 0 → Fin S512x256.rank)
  bcast_S_S2x256x4x64 : S_.BroadcastsInDim S2x256x4x64 (![] : Fin 0 → Fin S2x256x4x64.rank)

variable [Facts]

def fn {F : FTy → Type} [FloatOps F] (main_arg0 : FVec F S2x256x512 .bf16) (main_arg1 : FVec F S512x256 .bf16) (main_arg2 : FVec F S2x256x4x64 .bf16) (main_arg3 : FVec F S2x256x4x64 .bf16) (main_arg4 : FVec F S256x512 .bf16) : IVec S2x256x512 1 × IVec S512x256 1 × IVec S2x256x4x64 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x256x4x64 .bf16 := Host.absf main_arg2
  let main_cst_1 : FVec F S_ .bf16 := constant S_ .bf16 0x7F80#16
  let main_v7 : FVec F S2x256x4x64 .bf16 := broadcastInDim S2x256x4x64 ![] bcast_S_S2x256x4x64 main_cst_1
  let main_v8 : IVec S2x256x4x64 1 := cmpf .olt main_v6 main_v7
  (main_v2, main_v5, main_v8)
-- ==== Pre_finite_ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S_ : Shape := ⟨0, ![]⟩

class Facts : Prop where
  bcast_S_S2x8192x512 : S_.BroadcastsInDim S2x8192x512 (![] : Fin 0 → Fin S2x8192x512.rank)
  bcast_S_S512x256 : S_.BroadcastsInDim S512x256 (![] : Fin 0 → Fin S512x256.rank)
  bcast_S_S2x8192x4x64 : S_.BroadcastsInDim S2x8192x4x64 (![] : Fin 0 → Fin S2x8192x4x64.rank)

variable [Facts]

def fn {F : FTy → Type} [FloatOps F] (main_arg0 : FVec F S2x8192x512 .bf16) (main_arg1 : FVec F S512x256 .bf16) (main_arg2 : FVec F S2x8192x4x64 .bf16) (main_arg3 : FVec F S2x8192x4x64 .bf16) (main_arg4 : FVec F S256x512 .bf16) : IVec S2x8192x512 1 × IVec S512x256 1 × IVec S2x8192x4x64 1 :=
  let main_v0 : FVec F S2x8192x512 .bf16 := Host.absf main_arg0
  let main_cst : FVec F S_ .bf16 := constant S_ .bf16 0x7F80#16
  let main_v1 : FVec F S2x8192x512 .bf16 := broadcastInDim S2x8192x512 ![] bcast_S_S2x8192x512 main_cst
  let main_v2 : IVec S2x8192x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x8192x4x64 .bf16 := Host.absf main_arg2
  let main_cst_1 : FVec F S_ .bf16 := constant S_ .bf16 0x7F80#16
  let main_v7 : FVec F S2x8192x4x64 .bf16 := broadcastInDim S2x8192x4x64 ![] bcast_S_S2x8192x4x64 main_cst_1
  let main_v8 : IVec S2x8192x4x64 1 := cmpf .olt main_v6 main_v7
  (main_v2, main_v5, main_v8)
-- ==== Kernel.lean ====
abbrev S2x256x512 : Shape := ⟨3, ![2, 256, 512]⟩
abbrev S512x256 : Shape := ⟨2, ![512, 256]⟩
abbrev S2x256x4x64 : Shape := ⟨4, ![2, 256, 4, 64]⟩
abbrev S256x512 : Shape := ⟨2, ![256, 512]⟩
abbrev S2x2x544x4x64 : Shape := ⟨5, ![2, 2, 544, 4, 64]⟩
abbrev S3x2x32x4x64 : Shape := ⟨5, ![3, 2, 32, 4, 64]⟩
abbrev S1x2x4x32x66 : Shape := ⟨5, ![1, 2, 4, 32, 66]⟩
abbrev S32x2x4x32x66 : Shape := ⟨5, ![32, 2, 4, 32, 66]⟩
abbrev S2 : Shape := ⟨1, ![2]⟩
abbrev S31 : Shape := ⟨1, ![31]⟩
abbrev S1 : Shape := ⟨1, ![1]⟩
abbrev S_ : Shape := ⟨0, ![]⟩
abbrev S1x2x256x4x64 : Shape := ⟨5, ![1, 2, 256, 4, 64]⟩
abbrev S2x128x4x64 : Shape := ⟨4, ![2, 128, 4, 64]⟩
abbrev S1x2x128x4x64 : Shape := ⟨5, ![1, 2, 128, 4, 64]⟩
abbrev S2x32x4x64 : Shape := ⟨4, ![2, 32, 4, 64]⟩
abbrev S1x2x32x4x64 : Shape := ⟨5, ![1, 2, 32, 4, 64]⟩
abbrev S2x2x128x4x64 : Shape := ⟨5, ![2, 2, 128, 4, 64]⟩
abbrev S1x256x512 : Shape := ⟨3, ![1, 256, 512]⟩
abbrev S256x256 : Shape := ⟨2, ![256, 256]⟩
abbrev S256x4x64 : Shape := ⟨3, ![256, 4, 64]⟩
abbrev S32x4x64 : Shape := ⟨3, ![32, 4, 64]⟩
abbrev S1x1x32x4x64 : Shape := ⟨5, ![1, 1, 32, 4, 64]⟩
abbrev S1x1x32x1x64 : Shape := ⟨5, ![1, 1, 32, 1, 64]⟩
abbrev S32x64 : Shape := ⟨2, ![32, 64]⟩
abbrev S1x256x1x64 : Shape := ⟨4, ![1, 256, 1, 64]⟩
abbrev S256x64 : Shape := ⟨2, ![256, 64]⟩
abbrev S32x256 : Shape := ⟨2, ![32, 256]⟩
abbrev S32 : Shape := ⟨1, ![32]⟩
abbrev S32x1 : Shape := ⟨2, ![32, 1]⟩
abbrev S1x1x1x32x64 : Shape := ⟨5, ![1, 1, 1, 32, 64]⟩
abbrev S1x1x1x32x1 : Shape := ⟨5, ![1, 1, 1, 32, 1]⟩
abbrev S2x4x32x66 : Shape := ⟨4, ![2, 4, 32, 66]⟩
abbrev S256x544 : Shape := ⟨2, ![256, 544]⟩
abbrev S1x128 : Shape := ⟨2, ![1, 128]⟩
abbrev S1x256 : Shape := ⟨2, ![1, 256]⟩
abbrev S1x32 : Shape := ⟨2, ![1, 32]⟩
abbrev S1x544 : Shape := ⟨2, ![1, 544]⟩
abbrev S256x1x64 : Shape := ⟨3, ![256, 1, 64]⟩
abbrev S1x1x544x1x64 : Shape := ⟨5, ![1, 1, 544, 1, 64]⟩
abbrev S544x64 : Shape := ⟨2, ![544, 64]⟩
abbrev S256 : Shape := ⟨1, ![256]⟩
abbrev S256x1 : Shape := ⟨2, ![256, 1]⟩
abbrev S1x256x4x64 : Shape := ⟨4, ![1, 256, 4, 64]⟩
abbrev S2x4x32x1 : Shape := ⟨4, ![2, 4, 32, 1]⟩
abbrev S2x4x32x64 : Shape := ⟨4, ![2, 4, 32, 64]⟩
abbrev S2x1x32x64 : Shape := ⟨4, ![2, 1, 32, 64]⟩
abbrev S2x32x64 : Shape := ⟨3, ![2, 32, 64]⟩
abbrev S2x32x1x64 : Shape := ⟨4, ![2, 32, 1, 64]⟩
abbrev S1x32x4x64 : Shape := ⟨4, ![1, 32, 4, 64]⟩
abbrev S32x512 : Shape := ⟨2, ![32, 512]⟩
abbrev S1x32x512 : Shape := ⟨3, ![1, 32, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x4x64, .bf16⟩
  | .hbm, ⟨3, _⟩ => ⟨S2x256x4x64, .bf16⟩
  | .hbm, ⟨4, _⟩ => ⟨S256x512, .bf16⟩
  | .hbm, ⟨5, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .f32⟩
  | .local _ .vmem, ⟨6, _⟩ => ⟨S2x2x544x4x64, .bf16⟩
  | .local _ .vmem, ⟨7, _⟩ => ⟨S3x2x32x4x64, .bf16⟩
  | .local _ .vmem, ⟨8, _⟩ => ⟨S1x2x4x32x66, .bf16⟩
  | .local _ .vmem, ⟨9, _⟩ => ⟨S32x2x4x32x66, .bf16⟩
  | .local _ .vmem, ⟨10, _⟩ => ⟨S2x256x4x64, .f32⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .eq v2 c0_i32
  let v5 : BitVec 32 := Scalar.extui v4
  let c0_i32_0 : BitVec 32 := 0#32
  let v6 : BitVec 1 := Scalar.cmpi .ne v5 c0_i32_0
  v6

def k0_dev1 : Nat :=
  let c0_i32_520 : BitVec 32 := 0#32
  let c1_i32_518 : BitVec 32 := 1#32
  let c1_i32_519 : BitVec 32 := 1#32
  let v601 : BitVec 32 := Scalar.muli c1_i32_518 c1_i32_519
  let v602 : BitVec 32 := Scalar.addi c0_i32_520 v601
  v602.toNat
def k0_dev2 : Nat :=
  let c0_i32_523 : BitVec 32 := 0#32
  let c2_i32 : BitVec 32 := 2#32
  let c1_i32_522 : BitVec 32 := 1#32
  let v603 : BitVec 32 := Scalar.muli c2_i32 c1_i32_522
  let v604 : BitVec 32 := Scalar.addi c0_i32_523 v603
  v604.toNat
def k0_dev3 : Nat :=
  let c0_i32_526 : BitVec 32 := 0#32
  let c3_i32 : BitVec 32 := 3#32
  let c1_i32_525 : BitVec 32 := 1#32
  let v605 : BitVec 32 := Scalar.muli c3_i32 c1_i32_525
  let v606 : BitVec 32 := Scalar.addi c0_i32_526 v605
  v606.toNat
def k0_dev4 : Nat :=
  let c0_i32_529 : BitVec 32 := 0#32
  let c4_i32 : BitVec 32 := 4#32
  let c1_i32_528 : BitVec 32 := 1#32
  let v607 : BitVec 32 := Scalar.muli c4_i32 c1_i32_528
  let v608 : BitVec 32 := Scalar.addi c0_i32_529 v607
  v608.toNat
def k0_dev5 : Nat :=
  let c0_i32_532 : BitVec 32 := 0#32
  let c5_i32 : BitVec 32 := 5#32
  let c1_i32_531 : BitVec 32 := 1#32
  let v609 : BitVec 32 := Scalar.muli c5_i32 c1_i32_531
  let v610 : BitVec 32 := Scalar.addi c0_i32_532 v609
  v610.toNat
def k0_dev6 : Nat :=
  let c0_i32_535 : BitVec 32 := 0#32
  let c6_i32 : BitVec 32 := 6#32
  let c1_i32_534 : BitVec 32 := 1#32
  let v611 : BitVec 32 := Scalar.muli c6_i32 c1_i32_534
  let v612 : BitVec 32 := Scalar.addi c0_i32_535 v611
  v612.toNat
def k0_dev7 : Nat :=
  let c0_i32_538 : BitVec 32 := 0#32
  let c7_i32 : BitVec 32 := 7#32
  let c1_i32_537 : BitVec 32 := 1#32
  let v613 : BitVec 32 := Scalar.muli c7_i32 c1_i32_537
  let v614 : BitVec 32 := Scalar.addi c0_i32_538 v613
  v614.toNat
def k0_dev8 : Nat :=
  let c0_i32_541 : BitVec 32 := 0#32
  let c8_i32 : BitVec 32 := 8#32
  let c1_i32_540 : BitVec 32 := 1#32
  let v615 : BitVec 32 := Scalar.muli c8_i32 c1_i32_540
  let v616 : BitVec 32 := Scalar.addi c0_i32_541 v615
  v616.toNat
def k0_dev9 : Nat :=
  let c0_i32_544 : BitVec 32 := 0#32
  let c9_i32 : BitVec 32 := 9#32
  let c1_i32_543 : BitVec 32 := 1#32
  let v617 : BitVec 32 := Scalar.muli c9_i32 c1_i32_543
  let v618 : BitVec 32 := Scalar.addi c0_i32_544 v617
  v618.toNat
def k0_dev10 : Nat :=
  let c0_i32_547 : BitVec 32 := 0#32
  let c10_i32 : BitVec 32 := 10#32
  let c1_i32_546 : BitVec 32 := 1#32
  let v619 : BitVec 32 := Scalar.muli c10_i32 c1_i32_546
  let v620 : BitVec 32 := Scalar.addi c0_i32_547 v619
  v620.toNat
def k0_dev11 : Nat :=
  let c0_i32_550 : BitVec 32 := 0#32
  let c11_i32 : BitVec 32 := 11#32
  let c1_i32_549 : BitVec 32 := 1#32
  let v621 : BitVec 32 := Scalar.muli c11_i32 c1_i32_549
  let v622 : BitVec 32 := Scalar.addi c0_i32_550 v621
  v622.toNat
def k0_dev12 : Nat :=
  let c0_i32_553 : BitVec 32 := 0#32
  let c12_i32 : BitVec 32 := 12#32
  let c1_i32_552 : BitVec 32 := 1#32
  let v623 : BitVec 32 := Scalar.muli c12_i32 c1_i32_552
  let v624 : BitVec 32 := Scalar.addi c0_i32_553 v623
  v624.toNat
def k0_dev13 : Nat :=
  let c0_i32_556 : BitVec 32 := 0#32
  let c13_i32 : BitVec 32 := 13#32
  let c1_i32_555 : BitVec 32 := 1#32
  let v625 : BitVec 32 := Scalar.muli c13_i32 c1_i32_555
  let v626 : BitVec 32 := Scalar.addi c0_i32_556 v625
  v626.toNat
def k0_dev14 : Nat :=
  let c0_i32_559 : BitVec 32 := 0#32
  let c14_i32 : BitVec 32 := 14#32
  let c1_i32_558 : BitVec 32 := 1#32
  let v627 : BitVec 32 := Scalar.muli c14_i32 c1_i32_558
  let v628 : BitVec 32 := Scalar.addi c0_i32_559 v627
  v628.toNat
def k0_dev15 : Nat :=
  let c0_i32_562 : BitVec 32 := 0#32
  let c15_i32 : BitVec 32 := 15#32
  let c1_i32_561 : BitVec 32 := 1#32
  let v629 : BitVec 32 := Scalar.muli c15_i32 c1_i32_561
  let v630 : BitVec 32 := Scalar.addi c0_i32_562 v629
  v630.toNat
def k0_dev16 : Nat :=
  let c0_i32_565 : BitVec 32 := 0#32
  let c16_i32 : BitVec 32 := 16#32
  let c1_i32_564 : BitVec 32 := 1#32
  let v631 : BitVec 32 := Scalar.muli c16_i32 c1_i32_564
  let v632 : BitVec 32 := Scalar.addi c0_i32_565 v631
  v632.toNat
def k0_dev17 : Nat :=
  let c0_i32_568 : BitVec 32 := 0#32
  let c17_i32 : BitVec 32 := 17#32
  let c1_i32_567 : BitVec 32 := 1#32
  let v633 : BitVec 32 := Scalar.muli c17_i32 c1_i32_567
  let v634 : BitVec 32 := Scalar.addi c0_i32_568 v633
  v634.toNat
def k0_dev18 : Nat :=
  let c0_i32_571 : BitVec 32 := 0#32
  let c18_i32 : BitVec 32 := 18#32
  let c1_i32_570 : BitVec 32 := 1#32
  let v635 : BitVec 32 := Scalar.muli c18_i32 c1_i32_570
  let v636 : BitVec 32 := Scalar.addi c0_i32_571 v635
  v636.toNat
def k0_dev19 : Nat :=
  let c0_i32_574 : BitVec 32 := 0#32
  let c19_i32 : BitVec 32 := 19#32
  let c1_i32_573 : BitVec 32 := 1#32
  let v637 : BitVec 32 := Scalar.muli c19_i32 c1_i32_573
  let v638 : BitVec 32 := Scalar.addi c0_i32_574 v637
  v638.toNat
def k0_dev20 : Nat :=
  let c0_i32_577 : BitVec 32 := 0#32
  let c20_i32 : BitVec 32 := 20#32
  let c1_i32_576 : BitVec 32 := 1#32
  let v639 : BitVec 32 := Scalar.muli c20_i32 c1_i32_576
  let v640 : BitVec 32 := Scalar.addi c0_i32_577 v639
  v640.toNat
def k0_dev21 : Nat :=
  let c0_i32_580 : BitVec 32 := 0#32
  let c21_i32 : BitVec 32 := 21#32
  let c1_i32_579 : BitVec 32 := 1#32
  let v641 : BitVec 32 := Scalar.muli c21_i32 c1_i32_579
  let v642 : BitVec 32 := Scalar.addi c0_i32_580 v641
  v642.toNat
def k0_dev22 : Nat :=
  let c0_i32_583 : BitVec 32 := 0#32
  let c22_i32 : BitVec 32 := 22#32
  let c1_i32_582 : BitVec 32 := 1#32
  let v643 : BitVec 32 := Scalar.muli c22_i32 c1_i32_582
  let v644 : BitVec 32 := Scalar.addi c0_i32_583 v643
  v644.toNat
def k0_dev23 : Nat :=
  let c0_i32_586 : BitVec 32 := 0#32
  let c23_i32 : BitVec 32 := 23#32
  let c1_i32_585 : BitVec 32 := 1#32
  let v645 : BitVec 32 := Scalar.muli c23_i32 c1_i32_585
  let v646 : BitVec 32 := Scalar.addi c0_i32_586 v645
  v646.toNat
def k0_dev24 : Nat :=
  let c0_i32_589 : BitVec 32 := 0#32
  let c24_i32 : BitVec 32 := 24#32
  let c1_i32_588 : BitVec 32 := 1#32
  let v647 : BitVec 32 := Scalar.muli c24_i32 c1_i32_588
  let v648 : BitVec 32 := Scalar.addi c0_i32_589 v647
  v648.toNat
def k0_dev25 : Nat :=
  let c0_i32_592 : BitVec 32 := 0#32
  let c25_i32 : BitVec 32 := 25#32
  let c1_i32_591 : BitVec 32 := 1#32
  let v649 : BitVec 32 := Scalar.muli c25_i32 c1_i32_591
  let v650 : BitVec 32 := Scalar.addi c0_i32_592 v649
  v650.toNat
def k0_dev26 : Nat :=
  let c0_i32_595 : BitVec 32 := 0#32
  let c26_i32 : BitVec 32 := 26#32
  let c1_i32_594 : BitVec 32 := 1#32
  let v651 : BitVec 32 := Scalar.muli c26_i32 c1_i32_594
  let v652 : BitVec 32 := Scalar.addi c0_i32_595 v651
  v652.toNat
def k0_dev27 : Nat :=
  let c0_i32_598 : BitVec 32 := 0#32
  let c27_i32 : BitVec 32 := 27#32
  let c1_i32_597 : BitVec 32 := 1#32
  let v653 : BitVec 32 := Scalar.muli c27_i32 c1_i32_597
  let v654 : BitVec 32 := Scalar.addi c0_i32_598 v653
  v654.toNat
def k0_dev28 : Nat :=
  let c0_i32_601 : BitVec 32 := 0#32
  let c28_i32 : BitVec 32 := 28#32
  let c1_i32_600 : BitVec 32 := 1#32
  let v655 : BitVec 32 := Scalar.muli c28_i32 c1_i32_600
  let v656 : BitVec 32 := Scalar.addi c0_i32_601 v655
  v656.toNat
def k0_dev29 : Nat :=
  let c0_i32_604 : BitVec 32 := 0#32
  let c29_i32 : BitVec 32 := 29#32
  let c1_i32_603 : BitVec 32 := 1#32
  let v657 : BitVec 32 := Scalar.muli c29_i32 c1_i32_603
  let v658 : BitVec 32 := Scalar.addi c0_i32_604 v657
  v658.toNat
def k0_dev30 : Nat :=
  let c0_i32_607 : BitVec 32 := 0#32
  let c30_i32 : BitVec 32 := 30#32
  let c1_i32_606 : BitVec 32 := 1#32
  let v659 : BitVec 32 := Scalar.muli c30_i32 c1_i32_606
  let v660 : BitVec 32 := Scalar.addi c0_i32_607 v659
  v660.toNat
def k0_dev31 : Nat :=
  let c0_i32_611 : BitVec 32 := 0#32
  let c31_i32_609 : BitVec 32 := 31#32
  let c1_i32_610 : BitVec 32 := 1#32
  let v661 : BitVec 32 := Scalar.muli c31_i32_609 c1_i32_610
  let v662 : BitVec 32 := Scalar.addi c0_i32_611 v661
  v662.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1 : BitVec 32 := 0#32
  let v7 : BitVec 1 := Scalar.cmpi .ne v2 c0_i32_1
  let v8 : BitVec 32 := Scalar.extui v7
  let c0_i32_2 : BitVec 32 := 0#32
  let v9 : BitVec 1 := Scalar.cmpi .ne v8 c0_i32_2
  v9

def k0_dev32 : Nat :=
  let c0_i32_520 : BitVec 32 := 0#32
  let c0_i32_518 : BitVec 32 := 0#32
  let c1_i32_519 : BitVec 32 := 1#32
  let v601 : BitVec 32 := Scalar.muli c0_i32_518 c1_i32_519
  let v602 : BitVec 32 := Scalar.addi c0_i32_520 v601
  v602.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3 : BitVec 32 := 0#32
  let v10 : BitVec 1 := Scalar.cmpi .sgt v2 c0_i32_3
  let c31_i32 : BitVec 32 := 31#32
  let v11 : BitVec 1 := Scalar.cmpi .slt v2 c31_i32
  let v12 : BitVec 1 := Scalar.andi v10 v11
  let v13 : BitVec 32 := Scalar.extui v12
  let c0_i32_4 : BitVec 32 := 0#32
  let v14 : BitVec 1 := Scalar.cmpi .ne v13 c0_i32_4
  v14

def k0_dev33 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_517 : BitVec 32 := 1#32
  let v601 : BitVec 32 := Scalar.addi v2 c1_i32_517
  let c32_i32_518 : BitVec 32 := 32#32
  let c0_i32_519 : BitVec 32 := 0#32
  let v602 : BitVec 1 := Scalar.cmpi .eq c32_i32_518 c0_i32_519
  let c1_i32_520 : BitVec 32 := 1#32
  let v603 : BitVec 32 := Scalar.select v602 c1_i32_520 c32_i32_518
  let v604 : BitVec 32 := Scalar.remsi v601 v603
  let c0_i32_522 : BitVec 32 := 0#32
  let v606 : BitVec 1 := Scalar.cmpi .slt v604 c0_i32_522
  let c0_i32_523 : BitVec 32 := 0#32
  let v607 : BitVec 1 := Scalar.cmpi .slt v603 c0_i32_523
  let v608 : BitVec 1 := Scalar.xori v606 v607
  let c0_i32_521 : BitVec 32 := 0#32
  let v605 : BitVec 1 := Scalar.cmpi .ne v604 c0_i32_521
  let v609 : BitVec 1 := Scalar.andi v608 v605
  let v610 : BitVec 32 := Scalar.addi v604 v603
  let v611 : BitVec 32 := Scalar.select v609 v610 v604
  let c1_i32_525 : BitVec 32 := 1#32
  let v612 : BitVec 32 := Scalar.muli v611 c1_i32_525
  let v613 : BitVec 32 := Scalar.addi c0_i32_526 v612
  v613.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v15 : BitVec 1 := Scalar.cmpi .sgt v2 c1_i32_5
  let v16 : BitVec 32 := Scalar.extui v15
  let c0_i32_6 : BitVec 32 := 0#32
  let v17 : BitVec 1 := Scalar.cmpi .ne v16 c0_i32_6
  v17

def k0_dev34 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_517 : BitVec 32 := 1#32
  let v601 : BitVec 32 := Scalar.subi v2 c1_i32_517
  let c1_i32_519 : BitVec 32 := 1#32
  let v602 : BitVec 32 := Scalar.muli v601 c1_i32_519
  let v603 : BitVec 32 := Scalar.addi c0_i32_520 v602
  v603.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_32 : BitVec 32 := 31#32
  let v44 : BitVec 1 := Scalar.cmpi .slt v2 c31_i32_32
  let v45 : BitVec 32 := Scalar.extui v44
  let c0_i32_33 : BitVec 32 := 0#32
  let v46 : BitVec 1 := Scalar.cmpi .ne v45 c0_i32_33
  v46

def k0_dev35 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_517 : BitVec 32 := 1#32
  let v601 : BitVec 32 := Scalar.addi v2 c1_i32_517
  let c32_i32_518 : BitVec 32 := 32#32
  let c0_i32_519 : BitVec 32 := 0#32
  let v602 : BitVec 1 := Scalar.cmpi .eq c32_i32_518 c0_i32_519
  let c1_i32_520 : BitVec 32 := 1#32
  let v603 : BitVec 32 := Scalar.select v602 c1_i32_520 c32_i32_518
  let v604 : BitVec 32 := Scalar.remsi v601 v603
  let c0_i32_522 : BitVec 32 := 0#32
  let v606 : BitVec 1 := Scalar.cmpi .slt v604 c0_i32_522
  let c0_i32_523 : BitVec 32 := 0#32
  let v607 : BitVec 1 := Scalar.cmpi .slt v603 c0_i32_523
  let v608 : BitVec 1 := Scalar.xori v606 v607
  let c0_i32_521 : BitVec 32 := 0#32
  let v605 : BitVec 1 := Scalar.cmpi .ne v604 c0_i32_521
  let v609 : BitVec 1 := Scalar.andi v608 v605
  let v610 : BitVec 32 := Scalar.addi v604 v603
  let v611 : BitVec 32 := Scalar.select v609 v610 v604
  let c1_i32_526 : BitVec 32 := 1#32
  let v612 : BitVec 32 := Scalar.muli v611 c1_i32_526
  let v613 : BitVec 32 := Scalar.addi c0_i32_527 v612
  v613.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_34 : BitVec 32 := 0#32
  let v47 : BitVec 1 := Scalar.cmpi .sgt v2 c0_i32_34
  let v48 : BitVec 32 := Scalar.extui v47
  let c0_i32_35 : BitVec 32 := 0#32
  let v49 : BitVec 1 := Scalar.cmpi .ne v48 c0_i32_35
  v49

def k0_dev36 (d0 : Dev nD) : Nat :=
  let c0_i32_527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_517 : BitVec 32 := 1#32
  let v601 : BitVec 32 := Scalar.subi v2 c1_i32_517
  let c32_i32_518 : BitVec 32 := 32#32
  let c0_i32_519 : BitVec 32 := 0#32
  let v602 : BitVec 1 := Scalar.cmpi .eq c32_i32_518 c0_i32_519
  let c1_i32_520 : BitVec 32 := 1#32
  let v603 : BitVec 32 := Scalar.select v602 c1_i32_520 c32_i32_518
  let v604 : BitVec 32 := Scalar.remsi v601 v603
  let c0_i32_522 : BitVec 32 := 0#32
  let v606 : BitVec 1 := Scalar.cmpi .slt v604 c0_i32_522
  let c0_i32_523 : BitVec 32 := 0#32
  let v607 : BitVec 1 := Scalar.cmpi .slt v603 c0_i32_523
  let v608 : BitVec 1 := Scalar.xori v606 v607
  let c0_i32_521 : BitVec 32 := 0#32
  let v605 : BitVec 1 := Scalar.cmpi .ne v604 c0_i32_521
  let v609 : BitVec 1 := Scalar.andi v608 v605
  let v610 : BitVec 32 := Scalar.addi v604 v603
  let v611 : BitVec 32 := Scalar.select v609 v610 v604
  let c1_i32_526 : BitVec 32 := 1#32
  let v612 : BitVec 32 := Scalar.muli v611 c1_i32_526
  let v613 : BitVec 32 := Scalar.addi c0_i32_527 v612
  v613.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_45 : BitVec 32 := 0#32
  let v60 : BitVec 1 := Scalar.cmpi .eq v2 c0_i32_45
  let v61 : BitVec 32 := Scalar.extui v60
  let c0_i32_46 : BitVec 32 := 0#32
  let v62 : BitVec 1 := Scalar.cmpi .ne v61 c0_i32_46
  v62

def k0_dev37 : Nat :=
  let c0_i32_549 : BitVec 32 := 0#32
  let c1_i32_547 : BitVec 32 := 1#32
  let c1_i32_548 : BitVec 32 := 1#32
  let v621 : BitVec 32 := Scalar.muli c1_i32_547 c1_i32_548
  let v622 : BitVec 32 := Scalar.addi c0_i32_549 v621
  v622.toNat
def k0_dev38 : Nat :=
  let c0_i32_553 : BitVec 32 := 0#32
  let c2_i32 : BitVec 32 := 2#32
  let c1_i32_552 : BitVec 32 := 1#32
  let v627 : BitVec 32 := Scalar.muli c2_i32 c1_i32_552
  let v628 : BitVec 32 := Scalar.addi c0_i32_553 v627
  v628.toNat
def k0_dev39 : Nat :=
  let c0_i32_557 : BitVec 32 := 0#32
  let c3_i32 : BitVec 32 := 3#32
  let c1_i32_556 : BitVec 32 := 1#32
  let v633 : BitVec 32 := Scalar.muli c3_i32 c1_i32_556
  let v634 : BitVec 32 := Scalar.addi c0_i32_557 v633
  v634.toNat
def k0_dev40 : Nat :=
  let c0_i32_561 : BitVec 32 := 0#32
  let c4_i32 : BitVec 32 := 4#32
  let c1_i32_560 : BitVec 32 := 1#32
  let v639 : BitVec 32 := Scalar.muli c4_i32 c1_i32_560
  let v640 : BitVec 32 := Scalar.addi c0_i32_561 v639
  v640.toNat
def k0_dev41 : Nat :=
  let c0_i32_565 : BitVec 32 := 0#32
  let c5_i32 : BitVec 32 := 5#32
  let c1_i32_564 : BitVec 32 := 1#32
  let v645 : BitVec 32 := Scalar.muli c5_i32 c1_i32_564
  let v646 : BitVec 32 := Scalar.addi c0_i32_565 v645
  v646.toNat
def k0_dev42 : Nat :=
  let c0_i32_569 : BitVec 32 := 0#32
  let c6_i32 : BitVec 32 := 6#32
  let c1_i32_568 : BitVec 32 := 1#32
  let v651 : BitVec 32 := Scalar.muli c6_i32 c1_i32_568
  let v652 : BitVec 32 := Scalar.addi c0_i32_569 v651
  v652.toNat
def k0_dev43 : Nat :=
  let c0_i32_573 : BitVec 32 := 0#32
  let c7_i32 : BitVec 32 := 7#32
  let c1_i32_572 : BitVec 32 := 1#32
  let v657 : BitVec 32 := Scalar.muli c7_i32 c1_i32_572
  let v658 : BitVec 32 := Scalar.addi c0_i32_573 v657
  v658.toNat
def k0_dev44 : Nat :=
  let c0_i32_577 : BitVec 32 := 0#32
  let c8_i32 : BitVec 32 := 8#32
  let c1_i32_576 : BitVec 32 := 1#32
  let v663 : BitVec 32 := Scalar.muli c8_i32 c1_i32_576
  let v664 : BitVec 32 := Scalar.addi c0_i32_577 v663
  v664.toNat
def k0_dev45 : Nat :=
  let c0_i32_581 : BitVec 32 := 0#32
  let c9_i32 : BitVec 32 := 9#32
  let c1_i32_580 : BitVec 32 := 1#32
  let v669 : BitVec 32 := Scalar.muli c9_i32 c1_i32_580
  let v670 : BitVec 32 := Scalar.addi c0_i32_581 v669
  v670.toNat
def k0_dev46 : Nat :=
  let c0_i32_585 : BitVec 32 := 0#32
  let c10_i32 : BitVec 32 := 10#32
  let c1_i32_584 : BitVec 32 := 1#32
  let v675 : BitVec 32 := Scalar.muli c10_i32 c1_i32_584
  let v676 : BitVec 32 := Scalar.addi c0_i32_585 v675
  v676.toNat
def k0_dev47 : Nat :=
  let c0_i32_589 : BitVec 32 := 0#32
  let c11_i32 : BitVec 32 := 11#32
  let c1_i32_588 : BitVec 32 := 1#32
  let v681 : BitVec 32 := Scalar.muli c11_i32 c1_i32_588
  let v682 : BitVec 32 := Scalar.addi c0_i32_589 v681
  v682.toNat
def k0_dev48 : Nat :=
  let c0_i32_593 : BitVec 32 := 0#32
  let c12_i32 : BitVec 32 := 12#32
  let c1_i32_592 : BitVec 32 := 1#32
  let v687 : BitVec 32 := Scalar.muli c12_i32 c1_i32_592
  let v688 : BitVec 32 := Scalar.addi c0_i32_593 v687
  v688.toNat
def k0_dev49 : Nat :=
  let c0_i32_597 : BitVec 32 := 0#32
  let c13_i32 : BitVec 32 := 13#32
  let c1_i32_596 : BitVec 32 := 1#32
  let v693 : BitVec 32 := Scalar.muli c13_i32 c1_i32_596
  let v694 : BitVec 32 := Scalar.addi c0_i32_597 v693
  v694.toNat
def k0_dev50 : Nat :=
  let c0_i32_601 : BitVec 32 := 0#32
  let c14_i32 : BitVec 32 := 14#32
  let c1_i32_600 : BitVec 32 := 1#32
  let v699 : BitVec 32 := Scalar.muli c14_i32 c1_i32_600
  let v700 : BitVec 32 := Scalar.addi c0_i32_601 v699
  v700.toNat
def k0_dev51 : Nat :=
  let c0_i32_605 : BitVec 32 := 0#32
  let c15_i32 : BitVec 32 := 15#32
  let c1_i32_604 : BitVec 32 := 1#32
  let v705 : BitVec 32 := Scalar.muli c15_i32 c1_i32_604
  let v706 : BitVec 32 := Scalar.addi c0_i32_605 v705
  v706.toNat
def k0_dev52 : Nat :=
  let c0_i32_609 : BitVec 32 := 0#32
  let c16_i32 : BitVec 32 := 16#32
  let c1_i32_608 : BitVec 32 := 1#32
  let v711 : BitVec 32 := Scalar.muli c16_i32 c1_i32_608
  let v712 : BitVec 32 := Scalar.addi c0_i32_609 v711
  v712.toNat
def k0_dev53 : Nat :=
  let c0_i32_613 : BitVec 32 := 0#32
  let c17_i32 : BitVec 32 := 17#32
  let c1_i32_612 : BitVec 32 := 1#32
  let v717 : BitVec 32 := Scalar.muli c17_i32 c1_i32_612
  let v718 : BitVec 32 := Scalar.addi c0_i32_613 v717
  v718.toNat
def k0_dev54 : Nat :=
  let c0_i32_617 : BitVec 32 := 0#32
  let c18_i32 : BitVec 32 := 18#32
  let c1_i32_616 : BitVec 32 := 1#32
  let v723 : BitVec 32 := Scalar.muli c18_i32 c1_i32_616
  let v724 : BitVec 32 := Scalar.addi c0_i32_617 v723
  v724.toNat
def k0_dev55 : Nat :=
  let c0_i32_621 : BitVec 32 := 0#32
  let c19_i32 : BitVec 32 := 19#32
  let c1_i32_620 : BitVec 32 := 1#32
  let v729 : BitVec 32 := Scalar.muli c19_i32 c1_i32_620
  let v730 : BitVec 32 := Scalar.addi c0_i32_621 v729
  v730.toNat
def k0_dev56 : Nat :=
  let c0_i32_625 : BitVec 32 := 0#32
  let c20_i32 : BitVec 32 := 20#32
  let c1_i32_624 : BitVec 32 := 1#32
  let v735 : BitVec 32 := Scalar.muli c20_i32 c1_i32_624
  let v736 : BitVec 32 := Scalar.addi c0_i32_625 v735
  v736.toNat
def k0_dev57 : Nat :=
  let c0_i32_629 : BitVec 32 := 0#32
  let c21_i32 : BitVec 32 := 21#32
  let c1_i32_628 : BitVec 32 := 1#32
  let v741 : BitVec 32 := Scalar.muli c21_i32 c1_i32_628
  let v742 : BitVec 32 := Scalar.addi c0_i32_629 v741
  v742.toNat
def k0_dev58 : Nat :=
  let c0_i32_633 : BitVec 32 := 0#32
  let c22_i32 : BitVec 32 := 22#32
  let c1_i32_632 : BitVec 32 := 1#32
  let v747 : BitVec 32 := Scalar.muli c22_i32 c1_i32_632
  let v748 : BitVec 32 := Scalar.addi c0_i32_633 v747
  v748.toNat
def k0_dev59 : Nat :=
  let c0_i32_637 : BitVec 32 := 0#32
  let c23_i32 : BitVec 32 := 23#32
  let c1_i32_636 : BitVec 32 := 1#32
  let v753 : BitVec 32 := Scalar.muli c23_i32 c1_i32_636
  let v754 : BitVec 32 := Scalar.addi c0_i32_637 v753
  v754.toNat
def k0_dev60 : Nat :=
  let c0_i32_641 : BitVec 32 := 0#32
  let c24_i32 : BitVec 32 := 24#32
  let c1_i32_640 : BitVec 32 := 1#32
  let v759 : BitVec 32 := Scalar.muli c24_i32 c1_i32_640
  let v760 : BitVec 32 := Scalar.addi c0_i32_641 v759
  v760.toNat
def k0_dev61 : Nat :=
  let c0_i32_645 : BitVec 32 := 0#32
  let c25_i32 : BitVec 32 := 25#32
  let c1_i32_644 : BitVec 32 := 1#32
  let v765 : BitVec 32 := Scalar.muli c25_i32 c1_i32_644
  let v766 : BitVec 32 := Scalar.addi c0_i32_645 v765
  v766.toNat
def k0_dev62 : Nat :=
  let c0_i32_649 : BitVec 32 := 0#32
  let c26_i32 : BitVec 32 := 26#32
  let c1_i32_648 : BitVec 32 := 1#32
  let v771 : BitVec 32 := Scalar.muli c26_i32 c1_i32_648
  let v772 : BitVec 32 := Scalar.addi c0_i32_649 v771
  v772.toNat
def k0_dev63 : Nat :=
  let c0_i32_653 : BitVec 32 := 0#32
  let c27_i32 : BitVec 32 := 27#32
  let c1_i32_652 : BitVec 32 := 1#32
  let v777 : BitVec 32 := Scalar.muli c27_i32 c1_i32_652
  let v778 : BitVec 32 := Scalar.addi c0_i32_653 v777
  v778.toNat
def k0_dev64 : Nat :=
  let c0_i32_657 : BitVec 32 := 0#32
  let c28_i32 : BitVec 32 := 28#32
  let c1_i32_656 : BitVec 32 := 1#32
  let v783 : BitVec 32 := Scalar.muli c28_i32 c1_i32_656
  let v784 : BitVec 32 := Scalar.addi c0_i32_657 v783
  v784.toNat
def k0_dev65 : Nat :=
  let c0_i32_661 : BitVec 32 := 0#32
  let c29_i32 : BitVec 32 := 29#32
  let c1_i32_660 : BitVec 32 := 1#32
  let v789 : BitVec 32 := Scalar.muli c29_i32 c1_i32_660
  let v790 : BitVec 32 := Scalar.addi c0_i32_661 v789
  v790.toNat
def k0_dev66 : Nat :=
  let c0_i32_665 : BitVec 32 := 0#32
  let c30_i32 : BitVec 32 := 30#32
  let c1_i32_664 : BitVec 32 := 1#32
  let v795 : BitVec 32 := Scalar.muli c30_i32 c1_i32_664
  let v796 : BitVec 32 := Scalar.addi c0_i32_665 v795
  v796.toNat
def k0_dev67 : Nat :=
  let c0_i32_670 : BitVec 32 := 0#32
  let c31_i32_668 : BitVec 32 := 31#32
  let c1_i32_669 : BitVec 32 := 1#32
  let v801 : BitVec 32 := Scalar.muli c31_i32_668 c1_i32_669
  let v802 : BitVec 32 := Scalar.addi c0_i32_670 v801
  v802.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_309 : BitVec 32 := 0#32
  let v306 : BitVec 1 := Scalar.cmpi .ne v2 c0_i32_309
  let v307 : BitVec 32 := Scalar.extui v306
  let c0_i32_310 : BitVec 32 := 0#32
  let v308 : BitVec 1 := Scalar.cmpi .ne v307 c0_i32_310
  v308

def k0_off1 (d0 : Dev nD) : Fin 5 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_522 : BitVec 32 := 0#32
  let c0_i32_523 : BitVec 32 := 0#32
  let c0_i32_524 : BitVec 32 := 0#32
  let c0_i32_525 : BitVec 32 := 0#32
  ![v2.toNat, 0, 0, 0, 0]
def k0_dev68 : Nat :=
  let c0_i32_521 : BitVec 32 := 0#32
  let c0_i32_519 : BitVec 32 := 0#32
  let c1_i32_520 : BitVec 32 := 1#32
  let v601 : BitVec 32 := Scalar.muli c0_i32_519 c1_i32_520
  let v602 : BitVec 32 := Scalar.addi c0_i32_521 v601
  v602.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_507 : BitVec 32 := 0#32
  let v586 : BitVec 1 := Scalar.cmpi .eq v2 c0_i32_507
  let v587 : BitVec 32 := Scalar.extui v586
  let c0_i32_508 : BitVec 32 := 0#32
  let v588 : BitVec 1 := Scalar.cmpi .ne v587 c0_i32_508
  v588

def k0_off2 (d0 : Dev nD) : Fin 5 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_522 : BitVec 32 := 0#32
  let c0_i32_523 : BitVec 32 := 0#32
  let c0_i32_524 : BitVec 32 := 0#32
  let c0_i32_525 : BitVec 32 := 0#32
  ![v2.toNat, 0, 0, 0, 0]
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_515 : BitVec 32 := 0#32
  let v598 : BitVec 1 := Scalar.cmpi .ne v2 c0_i32_515
  let v599 : BitVec 32 := Scalar.extui v598
  let c0_i32_516 : BitVec 32 := 0#32
  let v600 : BitVec 1 := Scalar.cmpi .ne v599 c0_i32_516
  v600

def k0_off3 (d0 : Dev nD) : Fin 5 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_521 : BitVec 32 := 0#32
  let c0_i32_522 : BitVec 32 := 0#32
  let c0_i32_523 : BitVec 32 := 0#32
  let c0_i32_524 : BitVec 32 := 0#32
  ![v2.toNat, 0, 0, 0, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S512x256 : Shape := ⟨2, ![512, 256]⟩
abbrev S2x8192x4x64 : Shape := ⟨4, ![2, 8192, 4, 64]⟩
abbrev S256x512 : Shape := ⟨2, ![256, 512]⟩
abbrev S2x8192x256 : Shape := ⟨3, ![2, 8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x4x8192x8192 : Shape := ⟨4, ![2, 4, 8192, 8192]⟩
abbrev S1x1x8192x8192 : Shape := ⟨4, ![1, 1, 8192, 8192]⟩
abbrev S2x4x8192 : Shape := ⟨3, ![2, 4, 8192]⟩
abbrev S2x4x8192x1 : Shape := ⟨4, ![2, 4, 8192, 1]⟩
abbrev S1x1x8192x1 : Shape := ⟨4, ![1, 1, 8192, 1]⟩
abbrev S2x4x64x8192 : Shape := ⟨4, ![2, 4, 64, 8192]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x512, .bf16⟩
  | .hbm, ⟨1, _⟩ => ⟨S512x256, .bf16⟩
  | .hbm, ⟨2, _⟩ => ⟨S2x8192x4x64, .bf16⟩
  | .hbm, ⟨3, _⟩ => ⟨S2x8192x4x64, .bf16⟩
  | .hbm, ⟨4, _⟩ => ⟨S256x512, .bf16⟩
  | .hbm, ⟨5, _⟩ => ⟨S2x8192x256, .f32⟩
  | .hbm, ⟨6, _⟩ => ⟨S2x8192x256, .bf16⟩
  | .hbm, ⟨7, _⟩ => ⟨S2x8192x4x64, .bf16⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S_, .i32⟩
  | .hbm, ⟨20, _⟩ => ⟨S1x8192, .i32⟩
  | .hbm, ⟨21, _⟩ => ⟨S1x8192, .i1⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .i1⟩
  | .hbm, ⟨29, _⟩ => ⟨S2x4x8192x8192, .f32⟩
  | .hbm, ⟨30, _⟩ => ⟨S2x4x8192x8192, .bf16⟩
  | .hbm, ⟨31, _⟩ => ⟨S2x4x8192x8192, .f32⟩
  | .hbm, ⟨32, _⟩ => ⟨S_, .f32⟩
  | .hbm, ⟨33, _⟩ => ⟨S2x4x8192x8192, .f32⟩
  | .hbm, ⟨34, _⟩ => ⟨S2x4x8192x8192, .f32⟩
  | .hbm, ⟨35, _⟩ => ⟨S1x1x8192x8192, .i1⟩
  | .hbm, ⟨36, _⟩ => ⟨S_, .f32⟩
  | .hbm, ⟨37, _⟩ => ⟨S_, .f32⟩
  | .hbm, ⟨38, _⟩ => ⟨S2x4x8192x8192, .i1⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S_, .i1⟩
  | .hbm, ⟨48, _⟩ => ⟨S8192, .i1⟩
  | .hbm, ⟨49, _⟩ => ⟨S1x1x8192x1, .i1⟩
  | .hbm, ⟨50, _⟩ => ⟨S_, .f32⟩
  | .hbm, ⟨51, _⟩ => ⟨S2x4x8192, .f32⟩
  | .hbm, ⟨52, _⟩ => ⟨S2x4x8192x1, .f32⟩
  | .hbm, ⟨53, _⟩ => ⟨S_, .f32⟩
  | .hbm, ⟨54, _⟩ => ⟨S_, .f32⟩
  | .hbm, ⟨55, _⟩ => ⟨S2x4x8192x1, .i1⟩
  | .hbm, ⟨56, _⟩ => ⟨S2x4x8192x1, .f32⟩
  | .hbm, ⟨57, _⟩ => ⟨S2x4x8192x1, .f32⟩
  | .hbm, ⟨58, _⟩ => ⟨S2x4x8192x8192, .f32⟩
  | .hbm, ⟨59, _⟩ => ⟨S2x4x8192x8192, .f32⟩
  | .hbm, ⟨60, _⟩ => ⟨S1x1x8192x1, .i1⟩
  | .hbm, ⟨61, _⟩ => ⟨S_, .f32⟩
  | .hbm, ⟨62, _⟩ => ⟨S_, .f32⟩
  | .hbm, ⟨63, _⟩ => ⟨S2x4x8192x8192, .i1⟩
  | .hbm, ⟨64, _⟩ => ⟨S2x4x8192x8192, .f32⟩
  | .hbm, ⟨65, _⟩ => ⟨S2x4x8192x8192, .f32⟩
  | .hbm, ⟨66, _⟩ => ⟨S2x4x64x8192, .f32⟩
  | .hbm, ⟨67, _⟩ => ⟨S2x8192x4x64, .f32⟩
  | .hbm, ⟨68, _⟩ => ⟨S2x8192x256, .f32⟩
  | .hbm, ⟨69, _⟩ => ⟨S2x8192x512, .f32⟩
  | _, _ => ⟨S2x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Proof.KernelIdealSpec.lean ====
/-
What each device's buffers hold, as functions of the staged inputs of all the devices: the projected queries, the
buffer sent from device 0 to every other device, the window of keys and values, the partial results, and the output.
-/
module

public import proofs.«01_k».proof.Proof.Gen.KernelIdeal.Skeleton
public import Idealize.ShloMosaic.Lib.Pointwise.Index

@[expose] public section

noncomputable section

namespace Cert.KernelIdeal.Att

open Cert.KernelIdeal Cert.KernelIdeal.Gen
open Idealize.ShloMosaic

variable {F : FTy → Type} [FloatOps F] [Named F]

/-- The staged inputs of every device. -/
structure Inp (F : FTy → Type) where
  x : Dev nD → Vec F S2x256x512 .bf16
  wq : Dev nD → Vec F S512x256 .bf16
  k : Dev nD → Vec F S2x256x4x64 .bf16
  v : Dev nD → Vec F S2x256x4x64 .bf16
  wo : Dev nD → Vec F S256x512 .bf16

variable (A : Inp F)

/-- The device before `c` (device 0 has none and is sent to itself). -/
def prv (c : Dev nD) : Dev nD := ⟨c.val - 1, lt_of_le_of_lt (Nat.sub_le _ _) c.isLt⟩
/-- The device after `c` (device 31 has none and is sent to itself). -/
def nxt (c : Dev nD) : Dev nD := if h : c.val + 1 < 32 then ⟨c.val + 1, h⟩ else c

/-- The kernel's word for the device's place. -/
abbrev V2 (c : Dev nD) : BitVec 32 := Scalar.remsi (Scalar.divsi (Dev.word c) 1#32) 32#32

/-- Batch `b` of the queries of device `c`. -/
def xsl (c : Dev nD) (b : Fin 2) : Vec F S1x256x512 .bf16 := fun i => A.x c (ix3 b (i 1) (i 2))
def Qv (c : Dev nD) (b : Fin 2) : FVec F S256x4x64 .f32 := k0_pay119 (A.wq c) (xsl A c b)

/-- The first 32 rows of a block of keys or values. -/
def top (f : Vec F S2x256x4x64 .bf16) : Vec F S2x32x4x64 .bf16 :=
  fun i => f (ix4 (i 0) (Fin.castLE (by decide : 32 ≤ 256) (i 1)) (i 2) (i 3))

/-- What device 0 sends to every other device: its first keys, its first values and its first queries. -/
def BC : Vec F S3x2x32x4x64 .bf16 := fun i =>
  if (i 0).val = 0 then k0_pay1 (top (A.k 0)) (ix5 0 (i 1) (i 2) (i 3) (i 4))
  else if (i 0).val = 1 then k0_pay2 (top (A.v 0)) (ix5 0 (i 1) (i 2) (i 3) (i 4))
  else k0_pay3 (Qv A 0 (i 1)) (ix5 0 0 (i 2) (i 3) (i 4))

/-- One of the three thirds of that buffer. -/
def bcs (s : Fin 3) : Vec F S1x2x32x4x64 .bf16 := fun i => BC A (ix5 s (i 1) (i 2) (i 3) (i 4))

/-- Device `c`'s own keys (0) and values (1), as stored in the window. -/
def kvs (c : Dev nD) (s : Fin 2) : FVec F S1x2x256x4x64 .bf16 :=
  if s.val = 0 then k0_pay107 (k0_pay106 (A.k c)) else k0_pay108 (A.v c)

def zL (s : Fin 2) : FVec F S1x2x128x4x64 .bf16 := if s.val = 0 then k0_pay110 else k0_pay111
def zR (s : Fin 2) : FVec F S1x2x128x4x64 .bf16 := if s.val = 0 then k0_pay116 else k0_pay117
def zE (s : Fin 2) : FVec F S1x2x32x4x64 .bf16 := if s.val = 0 then k0_pay113 else k0_pay114
def gE (s : Fin 2) : FVec F S1x2x32x4x64 .bf16 := if s.val = 0 then k0_pay121 (bcs A 0) else k0_pay122 (bcs A 1)

/-- The window of device `c`: 128 columns from the device before, its own 256, 128 from the device after, and the
    32 global ones. -/
def WS (c : Dev nD) : Vec F S2x2x544x4x64 .bf16 := fun i =>
  if h1 : (i 2).val < 128 then
    if c.val = 0 then zL (i 0) (ix5 0 (i 1) ⟨(i 2).val, h1⟩ (i 3) (i 4))
    else kvs A (prv c) (i 0) (ix5 0 (i 1) ⟨(i 2).val + 128, by omega⟩ (i 3) (i 4))
  else if h2 : (i 2).val < 384 then kvs A c (i 0) (ix5 0 (i 1) ⟨(i 2).val - 128, by omega⟩ (i 3) (i 4))
  else if h3 : (i 2).val < 512 then
    if c.val = 31 then zR (i 0) (ix5 0 (i 1) ⟨(i 2).val - 384, by omega⟩ (i 3) (i 4))
    else kvs A (nxt c) (i 0) (ix5 0 (i 1) ⟨(i 2).val - 384, by omega⟩ (i 3) (i 4))
  else
    if c.val = 0 then zE (i 0) (ix5 0 (i 1) ⟨(i 2).val - 512, by have : (i 2).val < 544 := (i 2).isLt; omega⟩ (i 3) (i 4))
    else gE A (i 0) (ix5 0 (i 1) ⟨(i 2).val - 512, by have : (i 2).val < 544 := (i 2).isLt; omega⟩ (i 3) (i 4))

/-- Head `h` of the global queries of batch `b`, of device `c`'s keys (or values), and of the window. -/
def qg (b : Fin 2) (h : Fin 4) : Vec F S1x1x32x1x64 .bf16 := fun i => BC A (ix5 2 b (i 2) h (i 4))
def hd4 (f : Vec F S2x256x4x64 .bf16) (b : Fin 2) (h : Fin 4) : Vec F S1x256x1x64 .bf16 := fun i => f (ix4 b (i 1) h (i 3))
def wsl (c : Dev nD) (s b : Fin 2) (h : Fin 4) : Vec F S1x1x544x1x64 .bf16 := fun i => WS A c (ix5 s b (i 2) h (i 4))

/-- Device `c`'s partial result for the global queries: the weighted values, the maximum, the sum. -/
def PART (c : Dev nD) : Vec F S1x2x4x32x66 .bf16 := fun i =>
  if h : (i 4).val < 64 then
    k0_pay128 (k0_pay127 (qg A (i 1) (i 2)) (hd4 (A.k c) (i 1) (i 2)) (hd4 (A.v c) (i 1) (i 2))) (ix5 0 0 0 (i 3) ⟨(i 4).val, h⟩)
  else if (i 4).val = 64 then k0_pay129 (k0_pay124 (qg A (i 1) (i 2)) (hd4 (A.k c) (i 1) (i 2))) (ix5 0 0 0 (i 3) 0)
  else k0_pay130 (k0_pay126 (qg A (i 1) (i 2)) (hd4 (A.k c) (i 1) (i 2))) (ix5 0 0 0 (i 3) 0)

/-- All the partial results, as device 0 collects them. -/
def PRX : Vec F S32x2x4x32x66 .bf16 := fun i =>
  if (i 0).val = 0 then k0_pay178 (PART A 0) (ix5 0 (i 1) (i 2) (i 3) (i 4)) else PART A (i 0) (ix5 0 (i 1) (i 2) (i 3) (i 4))

def slot (j : Fin 32) : Vec F S1x2x4x32x66 .bf16 := fun i => PRX A (ix5 j (i 1) (i 2) (i 3) (i 4))

/-- The mask of device `c`. -/
def MASK (c : Dev nD) : IVec S256x544 1 :=
  k0_pay183 (V2 c) (k0_pay179 (V2 c)) (k0_pay180 (V2 c)) (k0_pay181 (V2 c)) (k0_pay182 (V2 c))

/-- Head `h` of the queries. -/
def qsel (q : FVec F S256x4x64 .f32) : Fin 4 → FVec F S256x64 .bf16
  | 0 => truncf .bf16 (shapeCast S256x64 (extractStridedSlice S256x1x64 ![0, 0, 0] q slices_S256x4x64_o0_0_0_S256x1x64) shapeCasts_S256x1x64_S256x64) bitsLt_bf16_f32
  | 1 => truncf .bf16 (shapeCast S256x64 (extractStridedSlice S256x1x64 ![0, 1, 0] q slices_S256x4x64_o0_1_0_S256x1x64) shapeCasts_S256x1x64_S256x64) bitsLt_bf16_f32
  | 2 => truncf .bf16 (shapeCast S256x64 (extractStridedSlice S256x1x64 ![0, 2, 0] q slices_S256x4x64_o0_2_0_S256x1x64) shapeCasts_S256x1x64_S256x64) bitsLt_bf16_f32
  | 3 => k0_pay196 q

/-- Head `h` of device `c`'s local attention in batch `b`. -/
def ctxh (c : Dev nD) (b : Fin 2) (h : Fin 4) : FVec F S1x256x1x64 .f32 :=
  k0_pay197 (MASK c) (qsel (Qv A c b) h) (wsl A c 0 b h) (wsl A c 1 b h)

def CTX (c : Dev nD) : Vec F S2x256x4x64 .f32 := fun i => ctxh A c (i 0) (i 2) (ix4 0 (i 1) 0 (i 3))

/-! The merge of the partial results `g 0, g 1, …`. -/

def wide (g : Vec F S1x2x4x32x66 .bf16) : FVec F S2x4x32x66 .f32 :=
  extf .f32 (shapeCast S2x4x32x66 g shapeCasts_S1x2x4x32x66_S2x4x32x66) bitsLt_bf16_f32

def mxOf (g : Vec F S1x2x4x32x66 .bf16) : FVec F S2x4x32x1 .f32 :=
  extractStridedSlice S2x4x32x1 ![0, 0, 0, 64] (wide g) slices_S2x4x32x66_o0_0_0_64_S2x4x32x1

def smOf (g : Vec F S1x2x4x32x66 .bf16) : FVec F S2x4x32x1 .f32 :=
  extractStridedSlice S2x4x32x1 ![0, 0, 0, 65] (wide g) slices_S2x4x32x66_o0_0_0_65_S2x4x32x1

def cxOf (g : Vec F S1x2x4x32x66 .bf16) : FVec F S2x4x32x64 .f32 :=
  extractStridedSlice S2x4x32x64 ![0, 0, 0, 0] (wide g) slices_S2x4x32x66_o0_0_0_0_S2x4x32x64

def MX (g : ℕ → Vec F S1x2x4x32x66 .bf16) : ℕ → FVec F S2x4x32x1 .f32
  | 0 => mxOf (g 0)
  | n + 1 => maximumf (MX g n) (mxOf (g (n + 1)))

def wt (M : FVec F S2x4x32x1 .f32) (g : Vec F S1x2x4x32x66 .bf16) : FVec F S2x4x32x1 .f32 := exp (subf (mxOf g) M)

def LS (M : FVec F S2x4x32x1 .f32) (g : ℕ → Vec F S1x2x4x32x66 .bf16) : ℕ → FVec F S2x4x32x1 .f32
  | 0 => broadcast S2x4x32x1 (Scalar.ofBits .f32 0x00000000#32)
  | n + 1 => addf (LS M g n) (mulf (wt M (g n)) (smOf (g n)))

def CS (M : FVec F S2x4x32x1 .f32) (g : ℕ → Vec F S1x2x4x32x66 .bf16) : ℕ → FVec F S2x4x32x64 .f32
  | 0 => broadcast S2x4x32x64 (Scalar.ofBits .f32 0x00000000#32)
  | n + 1 => addf (CS M g n) (mulf (broadcastTo S2x4x32x64 (wt M (g n)) broadcasts_S2x4x32x1_S2x4x32x64) (cxOf (g n)))

def slots (n : ℕ) : Vec F S1x2x4x32x66 .bf16 := slot A (if h : n < 32 then ⟨n, h⟩ else 0)

def GM : FVec F S2x4x32x1 .f32 := MX (slots A) 31
/-- The merged rows, all heads. -/
def GC : FVec F S2x4x32x64 .f32 :=
  divf (CS (GM A) (slots A) 32) (broadcastTo S2x4x32x64 (LS (GM A) (slots A) 32) broadcasts_S2x4x32x1_S2x4x32x64)

/-- Head `h` of the merged rows, as stored. -/
def hsel (q : FVec F S2x4x32x64 .f32) : Fin 4 → FVec F S2x32x1x64 .f32
  | 0 => shapeCast S2x32x1x64 (shapeCast S2x32x64 (extractStridedSlice S2x1x32x64 ![0, 0, 0, 0] q slices_S2x4x32x64_o0_0_0_0_S2x1x32x64) shapeCasts_S2x1x32x64_S2x32x64) shapeCasts_S2x32x64_S2x32x1x64
  | 1 => k0_pay101 (shapeCast S2x32x64 (extractStridedSlice S2x1x32x64 ![0, 1, 0, 0] q slices_S2x4x32x64_o0_1_0_0_S2x1x32x64) shapeCasts_S2x1x32x64_S2x32x64)
  | 2 => k0_pay102 q
  | 3 => k0_pay103 q

/-- The merged rows of batch `b`. -/
def ctxg (b : Fin 2) : Vec F S1x32x4x64 .f32 := fun i => hsel (GC A) (i 2) (ix4 b (i 1) 0 (i 3))

/-- The rows of the local attention of batch `b`. -/
def ctxb (c : Dev nD) (b : Fin 2) : Vec F S1x256x4x64 .f32 := fun i => CTX A c (ix4 b (i 1) (i 2) (i 3))

/-- The output of local attention alone. -/
def OUTL (c : Dev nD) : Vec F S2x256x512 .f32 := fun i =>
  if (i 0).val = 0 then k0_pay200 (k0_pay199 (A.wo c) (ctxb A c 0)) (ix3 0 (i 1) (i 2))
  else k0_pay201 (k0_pay198 (A.wo c)) (ctxb A c 1) (ix3 0 (i 1) (i 2))

/-- The output: device 0's first 32 rows are the merged ones. -/
def OUT (c : Dev nD) : Vec F S2x256x512 .f32 := fun i =>
  if h : c.val = 0 ∧ (i 1).val < 32 then
    if (i 0).val = 0 then k0_pay104 (k0_pay198 (A.wo c)) (ctxg A 0) (ix3 0 ⟨(i 1).val, h.2⟩ (i 2))
    else k0_pay105 (k0_pay198 (A.wo c)) (ctxg A 1) (ix3 0 ⟨(i 1).val, h.2⟩ (i 2))
  else OUTL A c i

end Cert.KernelIdeal.Att

end
-- ==== Proof.KernelIdealProto.lean ====
/-
The protocol of the kernel's semaphores. Every device has 39 cells: its barrier semaphore and its 38 transfer
semaphores. Each is used for one round; the contributions to a cell are named by the device that makes them.
-/
module

public import proofs.«01_k».proof.Proof.KernelIdealSpec
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resources -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Memrefs, locations and regions -/

abbrev wsM : Memref sig .tc .vmem S2x2x544x4x64 .bf16 := Memref.whole cc0_scratch0
abbrev bcM : Memref sig .tc .vmem S3x2x32x4x64 .bf16 := Memref.whole cc0_scratch1
abbrev ptM : Memref sig .tc .vmem S1x2x4x32x66 .bf16 := Memref.whole cc0_scratch2
abbrev rxM : Memref sig .tc .vmem S32x2x4x32x66 .bf16 := Memref.whole cc0_scratch3
abbrev cxM : Memref sig .tc .vmem S2x256x4x64 .f32 := Memref.whole cc0_scratch4

abbrev wsL (c : Dev nD) : Loc nD τ sig := (c : Thread nD τ).loc cc0_scratch0
abbrev bcL (c : Dev nD) : Loc nD τ sig := (c : Thread nD τ).loc cc0_scratch1
abbrev ptL (c : Dev nD) : Loc nD τ sig := (c : Thread nD τ).loc cc0_scratch2
abbrev rxL (c : Dev nD) : Loc nD τ sig := (c : Thread nD τ).loc cc0_scratch3
abbrev cxL (c : Dev nD) : Loc nD τ sig := (c : Thread nD τ).loc cc0_scratch4

/-- The entries of the window whose column is in `[o, o + n)`. -/
def reg (o n : ℕ) : Finset S2x2x544x4x64.Idx := Finset.univ.filter fun i => o ≤ (i 2).val ∧ (i 2).val < o + n
/-- The entries of the collected partial results in slot `j`. -/
def sreg (j : ℕ) : Finset S32x2x4x32x66.Idx := Finset.univ.filter fun i => (i 0).val = j

def wsPts (c : Dev nD) (o n : ℕ) (q : PosShare TreeShare) (f : Buf (Elt F) (wsL c)) : sProp 𝕄 := wsL c ↦[reg o n]{q} f
def bcPts (c : Dev nD) (q : PosShare TreeShare) (f : Buf (Elt F) (bcL c)) : sProp 𝕄 := bcL c ↦{q} f
def ptPts (c : Dev nD) (f : Buf (Elt F) (ptL c)) : sProp 𝕄 := ptL c ↦{fullShare} f
def rxPts (j : ℕ) (f : Buf (Elt F) (rxL 0)) : sProp 𝕄 := rxL 0 ↦[sreg j]{fullShare} f

instance wsPts_st (c : Dev nD) (o n q f) : BI.Storable (upEmb : UEmb _ 𝕄) (wsPts (F := F) c o n q f) := by unfold wsPts; infer_instance
instance bcPts_st (c : Dev nD) (q f) : BI.Storable (upEmb : UEmb _ 𝕄) (bcPts (F := F) c q f) := by unfold bcPts; infer_instance
instance ptPts_st (c : Dev nD) (f) : BI.Storable (upEmb : UEmb _ 𝕄) (ptPts (F := F) c f) := by unfold ptPts; infer_instance
instance rxPts_st (j : ℕ) (f) : BI.Storable (upEmb : UEmb _ 𝕄) (rxPts (F := F) j f) := by unfold rxPts; infer_instance

/-! ## The cells -/

abbrev barS : Sem sig := (SemArray.scalar (sig.barrier 0 rfl) : Sems sig S_).sem

/-- A device's cells: 0 the barrier; 1, 2 the halo sends (left, right); 3, 4 the halo receives; 5..35 the sends of the
    shared buffer; 36 its receive; 37 the send of the partial result; 38 the receives of the partial results. -/
abbrev csem (k : Fin 39) : SemLoc sig := if k = 0 then .reg barS else .dma ⟨5 + k.val, by have := k.isLt; show 5 + k.val < 44; omega⟩
abbrev kcell (ck : Dev nD × Fin 39) : GSem nD τ sig := ((ck.1 : Thread nD τ), csem ck.2)

/-- Which of its device's cells a semaphore is (1 for one that is not among them). -/
def kOf : SemLoc sig → Fin 39
  | .reg _ => 0
  | .dma q => if h : 6 ≤ q.val then ⟨q.val - 5, by have : q.val < 44 := q.isLt; omega⟩ else 1

theorem kOf_csem (k : Fin 39) : kOf (csem k) = k := by revert k; decide

abbrev Nh : ℕ := ((wsM).slice (Rect.unit (s := S2x2x544x4x64) ![0, 0, 0, 0, 0] S2x2x128x4x64.size inb_S2x2x544x4x64_S2x2x128x4x64_0_0_0_0_0) (fun _ => rfl)).view.dmaCredit
abbrev Nb : ℕ := (bcM).view.dmaCredit
abbrev Np : ℕ := (ptM).view.dmaCredit

theorem Nh_pos : 0 < Nh := View.dmaCredit_pos _ (by decide)
theorem Nb_pos : 0 < Nb := View.dmaCredit_pos _ (by decide)
theorem Np_pos : 0 < Np := View.dmaCredit_pos _ (by decide)

/-- Device `d` contributes to cell `k` of device `c`. -/
def Pd (c : Dev nD) (k : Fin 39) (d : Dev nD) : Prop :=
  (k.val = 0 ∧ d.val ≠ c.val ∧ (c.val = 0 ∨ d.val = 0 ∨ d.val + 1 = c.val ∨ d.val = c.val + 1))
  ∨ (k.val = 1 ∧ c.val ≠ 0 ∧ d.val = c.val) ∨ (k.val = 2 ∧ c.val ≠ 31 ∧ d.val = c.val)
  ∨ (k.val = 3 ∧ c.val ≠ 0 ∧ d.val + 1 = c.val) ∨ (k.val = 4 ∧ c.val ≠ 31 ∧ d.val = c.val + 1)
  ∨ (5 ≤ k.val ∧ k.val ≤ 35 ∧ c.val = 0 ∧ d.val = 0) ∨ (k.val = 36 ∧ c.val ≠ 0 ∧ d.val = 0)
  ∨ (k.val = 37 ∧ c.val ≠ 0 ∧ d.val = c.val) ∨ (k.val = 38 ∧ c.val = 0 ∧ d.val ≠ 0)

instance (c : Dev nD) (k : Fin 39) : DecidablePred (Pd c k) := fun d => by unfold Pd; infer_instance

def dut (c : Dev nD) (k : Fin 39) : Finset (Dev nD) := Finset.univ.filter (Pd c k)

theorem mem_dut {c : Dev nD} {k : Fin 39} {d : Dev nD} : d ∈ dut c k ↔ Pd c k d := by simp [dut]

/-- The units of a contribution. -/
def amt (k : Fin 39) : ℕ := if k.val = 0 then 1 else if k.val ≤ 4 then Nh else if k.val ≤ 36 then Nb else Np

theorem amt_pos (k : Fin 39) : 0 < amt k := by
  unfold amt; split
  · exact Nat.one_pos
  split
  · exact Nh_pos
  split
  · exact Nb_pos
  · exact Np_pos

variable (A : Inp F)

/-- What device `d`'s signal hands device `c`: the memory that `c` will write on `d`. -/
def barPay (c d : Dev nD) : sProp 𝕄 :=
  iprop((if c.val = 0 then iprop(∃ f, bcPts (F := F) d fullShare f) else iprop(emp))
    ∗ (if d.val = c.val + 1 then iprop(∃ f, wsPts (F := F) d 0 128 fullShare f) else iprop(emp))
    ∗ (if d.val + 1 = c.val then iprop(∃ f, wsPts (F := F) d 384 128 fullShare f) else iprop(emp))
    ∗ (if d.val = 0 then iprop(∃ f, rxPts (F := F) c.val f) else iprop(emp)))

instance barPay_st (c d : Dev nD) : BI.Storable (upEmb : UEmb _ 𝕄) (barPay (F := F) c d) := by
  unfold barPay; (repeat' split) <;> infer_instance

/-- What a contribution by `d` to cell `k` of device `c` hands over. -/
def pay (c : Dev nD) (k : Fin 39) (d : Dev nD) : sProp 𝕄 :=
  if k.val = 0 then barPay c d
  else if k.val = 1 then wsPts c 128 128 fullShare.right (WS A c)
  else if k.val = 2 then wsPts c 256 128 fullShare.right (WS A c)
  else if k.val = 3 then wsPts c 0 128 fullShare (WS A c)
  else if k.val = 4 then wsPts c 384 128 fullShare (WS A c)
  else if k.val ≤ 35 then bcPts 0 (Transfers.shareTokN fullShare (k.val - 5)) (BC A)
  else if k.val = 36 then bcPts c fullShare (BC A)
  else if k.val = 37 then ptPts c (PART A c)
  else rxPts d.val (PRX A)

instance pay_st (c : Dev nD) (k d) : BI.Storable (upEmb : UEmb _ 𝕄) (pay A c k d) := by
  unfold pay; (repeat' split) <;> infer_instance

/-- The schedule: one round on every cell. -/
def rd : Rounds.Schedule (GSem nD τ sig) (Dev nD) 𝕄 where
  duties g r := if r = 0 then dut g.1.1 (kOf g.2) else ∅
  unitless _ := False
  amount g _ _ := amt (kOf g.2)
  payload g _ d := pay A g.1.1 (kOf g.2) d
  amount_pos g _ _ _ := amt_pos _

instance rd_payload_storable (g : GSem nD τ sig) (r : ℕ) (d : Dev nD) : BI.Storable (upEmb : UEmb _ 𝕄) ((rd A).payload g r d) := by
  show BI.Storable upEmb (pay A g.1.1 (kOf g.2) d); infer_instance

theorem duties_rd (c : Dev nD) (k : Fin 39) : (rd A).duties (kcell (c, k)) 0 = dut c k := by
  show (if (0 : ℕ) = 0 then dut c (kOf (csem k)) else ∅) = _; rw [if_pos rfl, kOf_csem]
theorem duties_later (g : GSem nD τ sig) : ∀ r, 1 ≤ r → (rd A).duties g r = ∅ := fun r hr => if_neg (by omega)
theorem amount_rd (c : Dev nD) (k : Fin 39) (d : Dev nD) : (rd A).amount (kcell (c, k)) 0 d = amt k := by
  show amt (kOf (csem k)) = _; rw [kOf_csem]
theorem payload_rd (c : Dev nD) (k : Fin 39) (d : Dev nD) : (rd A).payload (kcell (c, k)) 0 d = pay A c k d := by
  show pay A c (kOf (csem k)) d = _; rw [kOf_csem]
/-- The units a cell expects. -/
def expc (c : Dev nD) (k : Fin 39) : ℕ := (dut c k).card * amt k
theorem expect_rd (c : Dev nD) (k : Fin 39) : (rd A).expect (kcell (c, k)) 0 = expc c k := by
  unfold Schedule.expect Schedule.amountOf expc
  rw [duties_rd, Finset.sum_congr rfl fun d _ => amount_rd A c k d, Finset.sum_const, smul_eq_mul]

/-! ## What a device owes -/

/-- The cells whose contributions are made by another device. -/
def OwK (k : Fin 39) : Prop := k.val = 0 ∨ k.val = 3 ∨ k.val = 4 ∨ k.val = 36 ∨ k.val = 38
instance : DecidablePred OwK := fun k => by unfold OwK; infer_instance

/-- The order in which device `c` makes its contributions. -/
def ord (c : Dev nD) (x : Dev nD × Fin 39) : ℕ :=
  if c.val = 0 then (if x.2.val = 0 then x.1.val else if x.2.val = 3 then 32 else 32 + x.1.val)
  else if x.2.val = 0 then (if x.1.val = 0 then 1 else if x.1.val = c.val + 1 then 2 else 3)
  else if x.2.val = 3 then 4 else if x.2.val = 4 then 5 else 6

/-- Device `c`'s contributions after the first `i` of them. -/
def ow (c : Dev nD) (i : ℕ) : Finset (Dev nD × Fin 39) :=
  Finset.univ.filter fun x => Pd x.1 x.2 c ∧ OwK x.2 ∧ i < ord c x

theorem mem_ow {c : Dev nD} {i : ℕ} {x : Dev nD × Fin 39} : x ∈ ow c i ↔ Pd x.1 x.2 c ∧ OwK x.2 ∧ i < ord c x := by simp [ow]

def OO (S : Finset (Dev nD × Fin 39)) : CellTallies nD τ sig Unit := ∑ x ∈ S, tallyAt (kcell x) () (amt x.2)

theorem ord_inj (c : Dev nD) {x y : Dev nD × Fin 39} (hx : Pd x.1 x.2 c) (kx : OwK x.2) (hy : Pd y.1 y.2 c) (ky : OwK y.2)
    (h : ord c x = ord c y) : x = y := by
  obtain ⟨⟨a, ha⟩, ⟨k, hk⟩⟩ := x; obtain ⟨⟨b, hb⟩, ⟨l, hl⟩⟩ := y; obtain ⟨c, hc⟩ := c
  simp only [Pd, OwK, ord] at hx kx hy ky h
  have hc' : c < 32 := hc
  have ha' : a < 32 := ha
  have hb' : b < 32 := hb
  have : a = b ∧ k = l := by
    split at h <;> rename_i h0
    · rcases kx with rfl | rfl | rfl | rfl | rfl <;> rcases ky with rfl | rfl | rfl | rfl | rfl <;> simp at hx hy h <;> omega
    · rcases kx with rfl | rfl | rfl | rfl | rfl <;> rcases ky with rfl | rfl | rfl | rfl | rfl <;> simp at hx hy h <;> (try split at h) <;> (try split at h) <;> (try split at h) <;> (try split at h) <;> omega
  obtain ⟨rfl, rfl⟩ := this; rfl

/-- The next contribution, split off. -/
theorem ow_peel (c : Dev nD) (i : ℕ) (x : Dev nD × Fin 39) (hx : Pd x.1 x.2 c) (kx : OwK x.2) (h : ord c x = i + 1) :
    OO (ow c i) = OO (ow c (i + 1)) + tallyAt (kcell x) () (amt x.2) := by
  have he : ow c i = insert x (ow c (i + 1)) := by
    ext y; rw [Finset.mem_insert, mem_ow, mem_ow]
    constructor
    · rintro ⟨hy, ky, hi⟩
      by_cases hyx : ord c y = i + 1
      · exact Or.inl (ord_inj c hy ky hx kx (hyx.trans h.symm))
      · exact Or.inr ⟨hy, ky, by omega⟩
    · rintro (rfl | ⟨hy, ky, hi⟩)
      · exact ⟨hx, kx, by omega⟩
      · exact ⟨hy, ky, by omega⟩
  unfold OO
  rw [he, Finset.sum_insert (by rw [mem_ow]; omega), add_comm]

/-- A number at which the device has no contribution, skipped. -/
theorem ow_skip (c : Dev nD) (i j : ℕ) (hij : i ≤ j) (h : ∀ x : Dev nD × Fin 39, Pd x.1 x.2 c → OwK x.2 → ¬ (i < ord c x ∧ ord c x ≤ j)) :
    ow c i = ow c j := by
  ext y; rw [mem_ow, mem_ow]
  constructor
  · rintro ⟨hy, ky, hi⟩; exact ⟨hy, ky, by have := h y hy ky; omega⟩
  · rintro ⟨hy, ky, hi⟩; exact ⟨hy, ky, by omega⟩

/-! ## The levels -/

def lvk (k : Fin 39) : ℕ := if k.val = 0 then 1 else if k.val = 36 then 2 else if k.val = 3 ∨ k.val = 4 ∨ k.val = 38 then 3 else 0
def L (g : GSem nD τ sig) : Finset Unit := if g.1.2 = .tc then {()} else ∅
def lv (g : GSem nD τ sig) (_ : Unit) : ℕ := lvk (kOf g.2)

theorem L_of_ne (g : GSem nD τ sig) (h : g.1.2 ≠ .tc) : L g = ∅ := if_neg h
theorem L_tc (c : Dev nD) (sm : SemLoc sig) : L ((c : Thread nD τ), sm) = {()} := if_pos rfl

theorem kcell_injective : Function.Injective (kcell : Dev nD × Fin 39 → GSem nD τ sig) := by
  rintro ⟨c, k⟩ ⟨c', k'⟩ h
  have h1 : c = c' := by have := congrArg (fun g : GSem nD τ sig => g.1.1) h; exact this
  have h2 : k = k' := by rw [← kOf_csem k, ← kOf_csem k']; exact congrArg (fun g : GSem nD τ sig => kOf g.2) h
  rw [h1, h2]

theorem OO_apply (S : Finset (Dev nD × Fin 39)) (g : GSem nD τ sig) (u : Unit) :
    OO S g u = ∑ x ∈ S, if g = kcell x then amt x.2 else 0 := by
  unfold OO
  rw [Finset.sum_apply, Finsupp.finset_sum_apply]
  refine Finset.sum_congr rfl fun x _ => ?_
  rw [tallyAt_apply]; simp

theorem OO_cell (S : Finset (Dev nD × Fin 39)) (x : Dev nD × Fin 39) (u : Unit) : OO S (kcell x) u = if x ∈ S then amt x.2 else 0 := by
  rw [OO_apply]
  have : ∀ y ∈ S, (if kcell x = kcell y then amt y.2 else 0) = if x = y then amt y.2 else 0 := fun y _ => by
    by_cases h : x = y
    · rw [if_pos h, if_pos (congrArg kcell h)]
    · rw [if_neg h, if_neg fun h' => h (kcell_injective h')]
  rw [Finset.sum_congr rfl this, Finset.sum_ite_eq]

theorem OO_pos {S : Finset (Dev nD × Fin 39)} {g : GSem nD τ sig} {u : Unit} (h : 0 < OO S g u) : ∃ x ∈ S, g = kcell x := by
  rw [OO_apply] at h
  by_contra hn
  push Not at hn
  rw [Finset.sum_eq_zero fun x hx => if_neg (hn x hx)] at h
  exact Nat.lt_irrefl 0 h

/-- A device may wait for a cell below the cells that it still owes. -/
theorem mayWait_of (c : Dev nD) (sm : SemLoc sig) (S : Finset (Dev nD × Fin 39)) (h : ∀ x ∈ S, lvk (kOf sm) < lvk x.2) :
    (levAts L lv : sProp 𝕄) ⊢ MayWait (c : Thread nD τ) sm () (OO S) :=
  MayOwe.of_cut (L := L) (lev := lv) (lvk (kOf sm)) (fun p hp => by rw [Finset.mem_singleton.mp hp, L_tc]; exact Finset.mem_singleton_self _)
    (fun g u hg => by obtain ⟨x, -, rfl⟩ := OO_pos hg; rw [L_tc]; exact Finset.mem_singleton_self _)
    (fun p hp => by rw [Finset.mem_singleton.mp hp]; exact le_refl _)
    (fun g u hg => by obtain ⟨x, hx, rfl⟩ := OO_pos hg; show _ < lvk (kOf (csem x.2)); rw [kOf_csem]; exact h x hx)

end Cert.KernelIdeal.Att

end
-- ==== Proof.KernelIdealSteps.lean ====
/-
One rule per kind of step of the kernel: a signal, a wait for a whole round, a wait for part of a round, a transfer.
-/
module

public import proofs.«01_k».proof.Proof.KernelIdealProto

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (A : Inp F) (K : Dev nD × Fin 39 → ℕ)

/-- The invariants of all the cells, that every cell is at round 0, and the levels. -/
def ctx : sProp 𝕄 :=
  iprop((bigSep Finset.univ fun ck : Dev nD × Fin 39 => cellInv ER (rd A) (K ck) (kcell ck))
    ∗ (bigSep Finset.univ fun ck : Dev nD × Fin 39 => reached ER (kcell ck) 0) ∗ levAts L lv)

instance ctx_persistent : BI.Persistent (ctx A K) := by unfold ctx; infer_instance

theorem inv_at (ck : Dev nD × Fin 39) :
    (bigSep Finset.univ fun ck : Dev nD × Fin 39 => cellInv ER (rd A) (K ck) (kcell ck)) ⊢ cellInv ER (rd A) (K ck) (kcell ck) :=
  bigSep_elim (Finset.mem_univ ck)
theorem reached_at (ck : Dev nD × Fin 39) :
    (bigSep Finset.univ fun ck : Dev nD × Fin 39 => (reached ER (kcell ck) 0 : sProp 𝕄)) ⊢ reached ER (kcell ck) 0 :=
  bigSep_elim (Finset.mem_univ ck)

theorem ctx_inv (ck : Dev nD × Fin 39) : ctx A K ⊢ cellInv ER (rd A) (K ck) (kcell ck) := by
  unfold ctx; iintro ⟨H, -, -⟩; iapply (inv_at A K ck); iexact H
theorem ctx_reached (ck : Dev nD × Fin 39) : ctx A K ⊢ reached ER (kcell ck) 0 := by
  unfold ctx; iintro ⟨-, H, -⟩; iapply (reached_at ck); iexact H
theorem ctx_lev : ctx A K ⊢ levAts L lv := by unfold ctx; iintro ⟨-, -, H⟩; iexact H

/-- What device `c` still owes after `i` contributions. -/
def ows (c : Dev nD) (i : ℕ) : sProp 𝕄 := iprop(∃ W, owes (c : Thread nD τ) (OO (ow c i)) W)

/-- Device `c`'s positions: past the round on the cells in `D`, before it on the others. -/
def AP (c : Dev nD) (D : Finset (Fin 39)) : sProp 𝕄 :=
  bigSep Finset.univ fun k : Fin 39 => atPos ER (kcell (c, k)) (if k ∈ D then 1 else 0) ∅ 0

theorem AP_take (c : Dev nD) (D : Finset (Fin 39)) (k : Fin 39) (h : k ∉ D) :
    (AP (F := F) c D : sProp 𝕄) = iprop(atPos ER (kcell (c, k)) 0 ∅ 0
      ∗ bigSep (Finset.univ.erase k) fun k : Fin 39 => atPos ER (kcell (c, k)) (if k ∈ D then 1 else 0) ∅ 0) := by
  unfold AP; rw [bigSep_univ_at _ k, if_neg h]

theorem AP_put (c : Dev nD) (D : Finset (Fin 39)) (k : Fin 39) :
    iprop(atPos ER (kcell (c, k)) 1 ∅ 0
      ∗ bigSep (Finset.univ.erase k) fun k : Fin 39 => atPos ER (kcell (c, k)) (if k ∈ D then 1 else 0) ∅ 0) = (AP (F := F) c (insert k D) : sProp 𝕄) := by
  unfold AP; rw [bigSep_univ_at _ k, if_pos (Finset.mem_insert_self _ _)]
  congr 1
  exact bigSep_congr fun j hj => by
    have hjk := (Finset.mem_erase.mp hj).1
    by_cases hD : j ∈ D
    · rw [if_pos hD, if_pos (Finset.mem_insert_of_mem hD)]
    · rw [if_neg hD, if_neg fun h => (Finset.mem_insert.mp h).elim hjk hD]

theorem mem_duties {d : Dev nD} {k : Fin 39} {c : Dev nD} (h : Pd d k c) : c ∈ (rd A).duties (kcell (d, k)) 0 := by
  rw [duties_rd, mem_dut]; exact h

theorem pays_of (d : Dev nD) (k : Fin 39) (S : Finset (Dev nD)) : bigSep S (fun p => (rd A).payload (kcell (d, k)) 0 p) = bigSep S (pay A d k) :=
  bigSep_congr fun p _ => payload_rd A d k p

/-- A signal to device `d`'s barrier. -/
theorem sig_step {c d : Dev nD} {i : ℕ} {n : Dev nD} (hn : n = d) (hP : Pd d 0 c) (hi : ord c (d, 0) = i + 1) {kw : ℕ} (hk : kw = 1)
    {α : Type} {Q : α → sProp 𝕄} {k : PUnit → Prog (TpuEff nD τ sig (Elt F) Λ₀ .tc) α} :
    iprop(ctx A K ∗ ows c i ∗ dutyTok ER (kcell (d, 0)) 0 c ∗ barPay (F := F) d c)
      ⊢ iprop((ows c (i + 1) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) barS kw) k) Q) := by
  subst hn; subst hk
  have hd : c ∈ (rd A).duties ((n : Thread nD τ), SemLoc.reg barS) 0 := mem_duties A (d := n) (k := 0) hP
  unfold ows
  iintro ⟨#HR, ⟨%W, HO⟩, HT, HP⟩
  iintro Hk
  ihave HI := (ctx_inv A K (n, 0)) $$ HR
  ihave Hr := (ctx_reached A K (n, 0)) $$ HR
  iapply (Rounds.wp_signal 𝒱₀ ER (rd A) (c : Thread nD τ) none (dst := (n : Thread nD τ)) (κ := K (n, 0)) (r := 0)
      (d := c) hd
      (amount_rd A n 0 c) () (OO (ow c (i + 1))) (ow_peel c i (n, 0) hP (Or.inl rfl) hi)) $$ [HI HO HT HP Hr]
  · isplitl [HI]; · iexact HI
    isplitl [HO]; · iexact HO
    isplitl [HT]; · iexact HT
    isplitl [HP]
    · iapply (show barPay (F := F) n c ⊢ (rd A).payload ((n : Thread nD τ), SemLoc.reg barS) 0 c from
        Entails.of_eq ((payload_rd A n 0 c).trans (if_pos rfl)).symm)
      iexact HP
    · iexact Hr
  iintro HO
  iapply Hk
  iexists W; iexact HO

/-- A wait for the whole round of the device's cell `k`. -/
theorem wait_step {c : Dev nD} (k : Fin 39) {D : Finset (Fin 39)} (hD : k ∉ D) {i : ℕ} (hlt : ∀ x ∈ ow c i, lvk k < lvk x.2)
    {w : TpuEff nD τ sig (Elt F) Λ₀ .tc PUnit} {n : ℕ} (hn : n = expc c k)
    (hw : ∀ K' : PUnit → sProp 𝕄, wpE (defs₀ (F := F)) 𝒱₀ (c : Thread nD τ) none Set.univ w K' = waitSpec (c : Thread nD τ) Set.univ (csem k) n K')
    {α : Type} {Q : α → sProp 𝕄} {kk : PUnit → Prog (TpuEff nD τ sig (Elt F) Λ₀ .tc) α} :
    iprop(ctx A K ∗ ows c i ∗ AP c D ∗ cred (tallyAt (kcell (c, k)) () (expc c k)))
      ⊢ iprop(((ows c i ∗ AP c (insert k D) ∗ bigSep (dut c k) (pay A c k)) -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  rw [← hn]
  have he : 0 + n = (rd A).expect ((c : Thread nD τ), csem k) 0 := (Nat.zero_add _).trans (hn.trans (expect_rd A c k).symm)
  unfold ows ctx
  rw [AP_take c D k hD, ← AP_put c D k]
  iintro ⟨⟨#HRi, -, #Hl⟩, ⟨%W, HO⟩, ⟨Hat, Hrest⟩, HC⟩
  iintro Hk
  ihave HI := (inv_at A K (c, k)) $$ HRi
  have H := Rounds.wp_wait_rest_token (Q := Q) (k := kk) 𝒱₀ ER (rd A) (c : Thread nD τ) none (κ := K (c, k)) hw (Set.mem_univ _) () (O := OO (ow c i)) (W := W)
      (R := 0) (m := 0) (T := ∅) he
  iapply H $$ [HI HC HO Hat]
  · isplitl [HI]; · iexact HI
    isplitl [HC]; · iexact HC
    isplitl [HO]; · iexact HO
    isplitr; · iapply (mayWait_of c (csem k) (ow c i) (by rw [kOf_csem]; exact hlt)); iexact Hl
    iexact Hat
  iintro ⟨HO, Hat, -, Hpay⟩
  iapply Hk
  isplitl [HO]; · iexists _; iexact HO
  isplitl [Hat Hrest]
  · isplitl [Hat]; · iexact Hat
    iexact Hrest
  · iapply (Entails.of_eq (show bigSep ((rd A).duties (kcell (c, k)) 0 \ ∅) (fun d => (rd A).payload (kcell (c, k)) 0 d) = bigSep (dut c k) (pay A c k) by
      rw [Finset.sdiff_empty, duties_rd]; exact pays_of A c k _))
    iexact Hpay

/-- A transfer to device `c'`: from the device's cell `k₁` to the cell `k₂` of `c'`. -/
theorem send_step {c c' : Dev nD} (k₁ k₂ : Fin 39) {i : ℕ} {n : Dev nD} (hn : n = c') (h₁ : Pd c k₁ c) (h₂ : Pd c' k₂ c) (ho : OwK k₂)
    (hi : ord c (c', k₂) = i + 1) {sp sp' : Space} {s : Shape} {e : EltTy} {src : Memref sig .tc sp s e} {dst : Memref sig .tc sp' s e}
    {hsc : (dst : Memref sig ((n : Thread nD τ)).2.kind sp' s e).view.ref.isScScratch = false} {sS sem : SemLoc sig} (hS : sS = csem k₁) (hR : sem = csem k₂)
    {hsrc : src.view.WordExact} {hdst : dst.view.WordExact} {hsem : DmaTarget.Typed sp sem (.remote (n : Thread nD τ) dst sS hsc)}
    (N : ℕ) (hN : dst.view.amount sem = N) (a₁ : amt k₁ = N) (a₂ : amt k₂ = N)
    {q : PosShare TreeShare} {fs : Buf (Elt F) (src.view.loc (c : Thread nD τ))} {fd : Buf (Elt F) (dst.view.loc (c' : Thread nD τ))}
    (hp₁ : (src.view.loc (c : Thread nD τ) ↦[src.view.set]{q} fs) ⊢ pay A c k₁ c)
    (hp₂ : (dst.view.loc (c' : Thread nD τ) ↦[dst.view.set]{fullShare} (dst.view.write (Elt F) fd (src.view.read (Elt F) fs) Finset.univ)) ⊢ pay A c' k₂ c)
    {α : Type} {Q : α → sProp 𝕄} {kk : PUnit → Prog (TpuEff nD τ sig (Elt F) Λ₀ .tc) α} :
    iprop(ctx A K ∗ ows c i ∗ dutyTok ER (kcell (c, k₁)) 0 c ∗ dutyTok ER (kcell (c', k₂)) 0 c
        ∗ (src.view.loc (c : Thread nD τ) ↦[src.view.set]{q} fs) ∗ (dst.view.loc (c' : Thread nD τ) ↦[dst.view.set]{fullShare} fd))
      ⊢ iprop(((ows c (i + 1) ∗ cred (tallyAt (kcell (c, k₁)) () N)) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.remote (n : Thread nD τ) dst sS hsc) sem hsrc hdst hsem) kk) Q) := by
  subst hn hS hR
  have hd₁ : c ∈ (rd A).duties ((c : Thread nD τ), csem k₁) 0 := mem_duties A (d := c) (k := k₁) h₁
  have hd₂ : c ∈ (rd A).duties ((n : Thread nD τ), csem k₂) 0 := mem_duties A (d := n) (k := k₂) h₂
  have hO : OO (ow c i) = OO (ow c (i + 1)) + tallyAt ((n : Thread nD τ), csem k₂) () N := (ow_peel c i (n, k₂) h₂ ho hi).trans (by rw [← a₂])
  unfold ows
  iintro ⟨#HR, ⟨%W, HO⟩, HT1, HT2, Hs, Hd⟩
  iintro Hk
  ihave HI1 := (ctx_inv A K (c, k₁)) $$ HR
  ihave HI2 := (ctx_inv A K (n, k₂)) $$ HR
  ihave Hr1 := (ctx_reached A K (c, k₁)) $$ HR
  ihave Hr2 := (ctx_reached A K (n, k₂)) $$ HR
  iapply (Rounds.wp_send_pointsTo 𝒱₀ ER (rd A) (c : Thread nD τ) none (κ₁ := K (c, k₁)) (κ₂ := K (n, k₂)) (r₁ := 0) (r₂ := 0) (d₁ := c) (d₂ := c)
      (q := q) (fs := fs) (fd := fd)
      hd₁ hd₂
      () () N hN ((amount_rd A c k₁ c).trans a₁) ((amount_rd A n k₂ c).trans a₂) (OO (ow c (i + 1)))
      hO (W := W)
      (hp₁.trans (Entails.of_eq (payload_rd A c k₁ c).symm)) (hp₂.trans (Entails.of_eq (payload_rd A n k₂ c).symm))) $$ [HI1 HI2 Hr1 Hr2 HO HT1 HT2 Hs Hd]
  · isplitl [HI1]; · iexact HI1
    isplitl [HI2]; · iexact HI2
    isplitl [Hs]; · iexact Hs
    isplitl [Hd]; · iexact Hd
    isplitl [HO]; · iexact HO
    isplitl [HT1]; · iexact HT1
    isplitl [Hr1]; · iexact Hr1
    isplitl [HT2]; · iexact HT2
    iexact Hr2
  iintro ⟨HC, HO⟩
  iapply Hk
  isplitl [HO]; · iexists W; iexact HO
  iexact HC

/-! ## Waits for part of a round: device 0 collecting the partial results -/

/-- Device 0 after `j` of the 31 waits: the slots that it holds so far. -/
def PX (j : ℕ) : sProp 𝕄 :=
  iprop(∃ T : Finset (Dev nD), ⌜T ⊆ dut 0 38⌝ ∗ atPos ER (kcell (0, 38)) 0 T (j * Np) ∗ bigSep T (pay A 0 38))

/-- The credit for the waits that are left. -/
def CX (j : ℕ) : sProp 𝕄 := cred (tallyAt (kcell ((0 : Dev nD), (38 : Fin 39))) () (j * Np))

theorem CX_succ (j : ℕ) : (CX (F := F) (j + 1) : sProp 𝕄) ⊢ iprop(cred (tallyAt (kcell ((0 : Dev nD), (38 : Fin 39))) () Np) ∗ CX (F := F) j) := by
  unfold CX
  rw [show (j + 1) * Np = Np + j * Np by rw [Nat.add_mul, Nat.one_mul, Nat.add_comm], ← tallyAt_add]
  exact (cred_add _ _).1

omit [FloatOps F] [Named F] in
theorem join_sdiff {ι : Type} [DecidableEq ι] {T S : Finset ι} (h : T ⊆ S) {Φ : ι → sProp 𝕄} :
    (iprop(bigSep T Φ ∗ bigSep (S \ T) Φ) : sProp 𝕄) = bigSep S Φ :=
  (bigSep_sdiff_split h).symm

theorem part_wait {j : ℕ} {i : ℕ} (h0 : ow 0 i = ∅) {w : TpuEff nD τ sig (Elt F) Λ₀ .tc PUnit} {n : ℕ} (hn : n = Np)
    (hw : ∀ K' : PUnit → sProp 𝕄, wpE (defs₀ (F := F)) 𝒱₀ ((0 : Dev nD) : Thread nD τ) none Set.univ w K' = waitSpec ((0 : Dev nD) : Thread nD τ) Set.univ (csem 38) n K')
    {α : Type} {Q : α → sProp 𝕄} {kk : PUnit → Prog (TpuEff nD τ sig (Elt F) Λ₀ .tc) α} :
    iprop(ctx A K ∗ ows 0 i ∗ PX A j ∗ cred (tallyAt (kcell ((0 : Dev nD), (38 : Fin 39))) () Np))
      ⊢ iprop(((ows 0 i ∗ PX A (j + 1)) -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ (.op w kk) Q) := by
  subst hn
  unfold ows PX
  iintro ⟨#HR, ⟨%W, HO⟩, ⟨%T, %hT, Hat, HP⟩, HC⟩
  iintro Hk
  ihave HI := (ctx_inv A K (0, 38)) $$ HR
  iapply (Rounds.wp_wait 𝒱₀ ER (rd A) ((0 : Dev nD) : Thread nD τ) none (κ := K (0, 38)) hw (Set.mem_univ _) (cr := Finsupp.single () Np)
      (O := OO (ow 0 i)) (W := W) {(csem 38, ())} (R := 0) (m := j * Np) (T := T) (by simp)
      (by intro x hx; obtain ⟨u, -, rfl⟩ := Finset.mem_image.mp hx; exact Finset.mem_singleton_self _)) $$ [HI HC HO Hat]
  · isplitl [HI]; · iexact HI
    isplitl [HC]; · iexact HC
    isplitl [HO]; · iexact HO
    isplitr
    · rw [h0, show OO ∅ = 0 from Finset.sum_empty]
      iapply (Entails.of_eq (MayOwe_zero ((0 : Dev nD) : Thread nD τ) _).symm); iempintro
    iexact Hat
  iintro %S ⟨%hS, HO, Hat, Hpay⟩
  iapply Hk
  isplitl [HO]; · iexists _; iexact HO
  iexists S
  isplitr
  · ipureintro; have := hS.2.1; rwa [show (rd A).duties (((0 : Dev nD) : Thread nD τ), csem 38) 0 = dut 0 38 from duties_rd A 0 38] at this
  rw [show (j + 1) * Np = j * Np + Np by rw [Nat.add_mul, Nat.one_mul]]
  isplitl [Hat]; · iexact Hat
  rw [← join_sdiff hS.1]
  isplitl [HP]; · iexact HP
  iapply (Entails.of_eq (pays_of A 0 38 (S \ T))); iexact Hpay

theorem last_wait {i : ℕ} (h0 : ow 0 i = ∅) {w : TpuEff nD τ sig (Elt F) Λ₀ .tc PUnit} {n : ℕ} (hn : n = Np)
    (hw : ∀ K' : PUnit → sProp 𝕄, wpE (defs₀ (F := F)) 𝒱₀ ((0 : Dev nD) : Thread nD τ) none Set.univ w K' = waitSpec ((0 : Dev nD) : Thread nD τ) Set.univ (csem 38) n K')
    {α : Type} {Q : α → sProp 𝕄} {kk : PUnit → Prog (TpuEff nD τ sig (Elt F) Λ₀ .tc) α} :
    iprop(ctx A K ∗ ows 0 i ∗ PX A 30 ∗ cred (tallyAt (kcell ((0 : Dev nD), (38 : Fin 39))) () Np))
      ⊢ iprop(((ows 0 i ∗ atPos ER (kcell ((0 : Dev nD), (38 : Fin 39))) 1 ∅ 0 ∗ bigSep (dut 0 38) (pay A 0 38))
            -∗ wp frame (wpE (defs₀ (F := F)) 𝒱₀ ((0 : Dev nD) : Thread nD τ) none) Set.univ (kk ⟨⟩) Q)
        -∗ wp frame (wpE (defs₀ (F := F)) 𝒱₀ ((0 : Dev nD) : Thread nD τ) none) Set.univ (.op w kk) Q) := by
  subst hn
  have he : 30 * Np + Np = (rd A).expect (((0 : Dev nD) : Thread nD τ), csem 38) 0 := by
    refine Eq.trans ?_ (expect_rd A 0 38).symm
    show 30 * Np + Np = (dut 0 38).card * amt 38
    rw [show (dut 0 38).card = 31 by decide, show amt 38 = Np from rfl]; omega
  unfold ows PX
  iintro ⟨#HR, ⟨%W, HO⟩, ⟨%T, %hT, Hat, HP⟩, HC⟩
  iintro Hk
  ihave HI := (ctx_inv A K (0, 38)) $$ HR
  iapply (Rounds.wp_wait_rest_token 𝒱₀ ER (rd A) ((0 : Dev nD) : Thread nD τ) none (κ := K (0, 38)) hw (Set.mem_univ _) ()
      (O := OO (ow 0 i)) (W := W) (R := 0) (m := 30 * Np) (T := T)
      he) $$ [HI HC HO Hat]
  · isplitl [HI]; · iexact HI
    isplitl [HC]; · iexact HC
    isplitl [HO]; · iexact HO
    isplitr
    · rw [h0, show OO ∅ = 0 from Finset.sum_empty]
      iapply (Entails.of_eq (MayOwe_zero ((0 : Dev nD) : Thread nD τ) _).symm); iempintro
    iexact Hat
  iintro ⟨HO, Hat, -, Hpay⟩
  iapply Hk
  isplitl [HO]; · iexists _; iexact HO
  isplitl [Hat]; · iexact Hat
  rw [show (rd A).duties (((0 : Dev nD) : Thread nD τ), csem 38) 0 = dut 0 38 from duties_rd A 0 38]
  ihave HP2 := (Entails.of_eq (pays_of A 0 38 (dut 0 38 \ T))) $$ Hpay
  rw [← join_sdiff hT]
  isplitl [HP]; · iexact HP
  iexact HP2

end Cert.KernelIdeal.Att

end
-- ==== Proof.KernelIdealMem.lean ====
/-
Loads and stores of the kernel's buffers. A buffer that is being filled is held at contents that agree with the final
ones on the part written so far.
-/
module

public import proofs.«01_k».proof.Proof.KernelIdealSteps

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The part `T` of a buffer, at contents that are `G` on `S`. -/
def Kn (ℓ : Loc nD τ sig) (T S : Finset (Idx ℓ)) (G : Buf (Elt F) ℓ) : sProp 𝕄 :=
  iprop(∃ f, ⌜∀ i ∈ S, f i = G i⌝ ∗ (ℓ ↦[T]{fullShare} f))

theorem kn_start {ℓ : Loc nD τ sig} {T : Finset (Idx ℓ)} (G : Buf (Elt F) ℓ) :
    (iprop(∃ f, ℓ ↦[T]{fullShare} f) : sProp 𝕄) ⊢ Kn ℓ T ∅ G := by
  unfold Kn; iintro ⟨%f, H⟩; iexists f
  isplitr
  · ipureintro; intro i hi; exact absurd hi (Finset.notMem_empty i)
  · iexact H

theorem kn_of {ℓ : Loc nD τ sig} {T S : Finset (Idx ℓ)} {g G : Buf (Elt F) ℓ} (h : ∀ i ∈ S, g i = G i) :
    (ℓ ↦[T]{fullShare} g : sProp 𝕄) ⊢ Kn ℓ T S G := by
  unfold Kn; iintro H; iexists g
  isplitr
  · ipureintro; exact h
  · iexact H

theorem kn_done {ℓ : Loc nD τ sig} {T S : Finset (Idx ℓ)} {G : Buf (Elt F) ℓ} (h : T ⊆ S) :
    Kn ℓ T S G ⊢ (ℓ ↦[T]{fullShare} G : sProp 𝕄) := by
  unfold Kn; iintro ⟨%f, %hf, H⟩
  iapply (Entails.of_eq (pointsTo_congr fun i hi => hf i (h hi))); iexact H

variable {α : Type} {c : Dev nD}

/-- A load whose value isn't used: the program goes on whatever it is. -/
theorem kn_ld {sp : CoreSpace} {s : Shape} {e : EltTy} {m : Memref sig .tc sp s e} {r : Rect s} {hl : m.view.LoadsAt r.toLoadRect}
    {T S : Finset (Idx ((m.access r).loc (c : Thread nD τ)))} {G : Buf (Elt F) ((m.access r).loc (c : Thread nD τ))}
    (hT : (m.access r).set ⊆ T)
    {Q : α → sProp 𝕄} {p : Prog (TpuEff nD τ sig (Elt F) Λ₀ .tc) α} :
    Kn ((m.access r).loc (c : Thread nD τ)) T S G
      ⊢ iprop((Kn ((m.access r).loc (c : Thread nD τ)) T S G -∗ wp frame (wpE (defs₀ (F := F)) 𝒱₀ (c : Thread nD τ) none) Set.univ p Q)
        -∗ wp frame (wpE (defs₀ (F := F)) 𝒱₀ (c : Thread nD τ) none) Set.univ (.op (.load m r.toLoadRect hl) fun _ => p) Q) := by
  unfold Kn
  iintro ⟨%f, %hf, H⟩
  iintro Hk
  iapply (wp_load_rect 𝒱₀ (c : Thread nD τ) none Set.univ (m := m) (r := r) hT) $$ H
  iintro H
  iapply Hk
  iexists f
  isplitr
  · ipureintro; exact hf
  · iexact H

theorem kn_mono {ℓ : Loc nD τ sig} {T S S' : Finset (Idx ℓ)} {G : Buf (Elt F) ℓ} (h : S' ⊆ S) :
    (Kn ℓ T S G : sProp 𝕄) ⊢ Kn ℓ T S' G := by
  unfold Kn; iintro ⟨%f, %hf, H⟩; iexists f
  isplitr
  · ipureintro; exact fun i hi => hf i (h hi)
  · iexact H

/-- A store of the final contents of its rectangle. -/
theorem kn_st {sp : CoreSpace} {s : Shape} {e : EltTy} {m : Memref sig .tc sp s e} {r : Rect s} {w : r.shape.Idx → Elt F e}
    {hx : (m.access r).Stores Finset.univ} {hm : (Finset.univ : Finset r.shape.Idx) = Finset.univ ∨ ∀ a, r.stride a = 1}
    {T S S' : Finset (Idx ((m.access r).loc (c : Thread nD τ)))} {G : Buf (Elt F) ((m.access r).loc (c : Thread nD τ))}
    (hw : (m.access r).read (Elt F) G = w) (hT : (m.access r).set ⊆ T) (hS : S' ⊆ S ∪ (m.access r).set)
    {Q : α → sProp 𝕄} {k : PUnit → Prog (TpuEff nD τ sig (Elt F) Λ₀ .tc) α} :
    Kn ((m.access r).loc (c : Thread nD τ)) T S G
      ⊢ iprop((Kn ((m.access r).loc (c : Thread nD τ)) T S' G -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  subst hw
  unfold Kn
  iintro ⟨%f, %hf, H⟩
  iintro Hk
  iapply (wp_store 𝒱₀ (c : Thread nD τ) none Set.univ (m := m) (r := r) (Mk := Finset.univ) (by rw [View.setOn_univ]; exact hT)) $$ H
  iintro H
  iapply Hk
  iexists _
  isplitr
  on_goal 2 => iexact H
  ipureintro
  intro i hi
  rw [View.write_read_eq_piecewise, View.setOn_univ]
  by_cases h : i ∈ (m.access r).set
  · rw [Finset.piecewise_eq_of_mem _ _ _ h]
  · rw [Finset.piecewise_eq_of_notMem _ _ _ h]
    exact hf i ((Finset.mem_union.mp (hS hi)).resolve_right h)

/-- A load of part of a buffer at known contents. -/
theorem ld {sp : CoreSpace} {s : Shape} {e : EltTy} {m : Memref sig .tc sp s e} {r : Rect s} {hl : m.view.LoadsAt r.toLoadRect}
    {S : Finset (Idx ((m.access r).loc (c : Thread nD τ)))} {q : PosShare TreeShare} {G : Buf (Elt F) ((m.access r).loc (c : Thread nD τ))}
    (hS : (m.access r).set ⊆ S) {w : r.shape.Idx → Elt F e} (hw : (m.access r).read (Elt F) G = w)
    {Q : α → sProp 𝕄} {k : (r.shape.Idx → Elt F e) → Prog (TpuEff nD τ sig (Elt F) Λ₀ .tc) α} :
    ((m.access r).loc (c : Thread nD τ) ↦[S]{q} G)
      ⊢ iprop((((m.access r).loc (c : Thread nD τ) ↦[S]{q} G) -∗ wp frame (wpE (defs₀ (F := F)) 𝒱₀ (c : Thread nD τ) none) Set.univ (k w) Q)
        -∗ wp frame (wpE (defs₀ (F := F)) 𝒱₀ (c : Thread nD τ) none) Set.univ (.op (.load m r.toLoadRect hl) k) Q) := by
  subst hw
  exact wp_load_rect 𝒱₀ (c : Thread nD τ) none Set.univ (m := m) (r := r) hS

/-! ## The memrefs of the staged blocks -/

abbrev xM : Memref sig .tc .vmem S2x256x512 .bf16 := Memref.whole cc0_stg0_0
abbrev qM : Memref sig .tc .vmem S512x256 .bf16 := Memref.whole cc0_stg1_0
abbrev kM : Memref sig .tc .vmem S2x256x4x64 .bf16 := Memref.whole cc0_stg2_0
abbrev vM : Memref sig .tc .vmem S2x256x4x64 .bf16 := Memref.whole cc0_stg3_0
abbrev oM : Memref sig .tc .vmem S256x512 .bf16 := Memref.whole cc0_stg4_0
abbrev uM : Memref sig .tc .vmem S2x256x512 .f32 := Memref.whole cc0_stg5_0

theorem hx : xM.IsWhole := Memref.isWhole_whole _
theorem hq : qM.IsWhole := Memref.isWhole_whole _
theorem hk : kM.IsWhole := Memref.isWhole_whole _
theorem hv : vM.IsWhole := Memref.isWhole_whole _
theorem ho : oM.IsWhole := Memref.isWhole_whole _
theorem hu : uM.IsWhole := Memref.isWhole_whole _
theorem hws : wsM.IsWhole := Memref.isWhole_whole _
theorem hbc : bcM.IsWhole := Memref.isWhole_whole _
theorem hpt : ptM.IsWhole := Memref.isWhole_whole _
theorem hrx : rxM.IsWhole := Memref.isWhole_whole _
theorem hcx : cxM.IsWhole := Memref.isWhole_whole _

variable (A : Inp F) (c)

def xPts : sProp 𝕄 := (c : Thread nD τ).loc cc0_stg0_0 ↦{fullShare} A.x c
def qPts : sProp 𝕄 := (c : Thread nD τ).loc cc0_stg1_0 ↦{fullShare} A.wq c
def kPts : sProp 𝕄 := (c : Thread nD τ).loc cc0_stg2_0 ↦{fullShare} A.k c
def vPts : sProp 𝕄 := (c : Thread nD τ).loc cc0_stg3_0 ↦{fullShare} A.v c
def oPts : sProp 𝕄 := (c : Thread nD τ).loc cc0_stg4_0 ↦{fullShare} A.wo c

abbrev W' (Q : α → sProp 𝕄) (p : Prog (TpuEff nD τ sig (Elt F) Λ₀ .tc) α) : sProp 𝕄 :=
  wp frame (wpE (defs₀ (F := F)) 𝒱₀ (c : Thread nD τ) none) Set.univ p Q

theorem w_ret {Q : α → sProp 𝕄} (a : α) : Q a ⊢ W' c Q (.ret a) := le_wp_ret _ _ _ a Q

theorem w_bind {β : Type} {Q : β → sProp 𝕄} (p : Prog (TpuEff nD τ sig (Elt F) Λ₀ .tc) α) (k : α → Prog (TpuEff nD τ sig (Elt F) Λ₀ .tc) β) :
    W' c Q (p.bind k) = W' c (fun a => W' c Q (k a)) p := wp_bind _ _ _ p k Q

/-! ## Where a rectangle places an index -/

theorem emb5 {d off size : Fin 5 → ℕ} {inb : ∀ a, off a + size a ≤ d a} (i : (⟨5, size⟩ : Shape).Idx) (j : (⟨5, d⟩ : Shape).Idx)
    (h0 : off 0 + (i 0).val = (j 0).val) (h1 : off 1 + (i 1).val = (j 1).val) (h2 : off 2 + (i 2).val = (j 2).val)
    (h3 : off 3 + (i 3).val = (j 3).val) (h4 : off 4 + (i 4).val = (j 4).val) : (Rect.unit (s := ⟨5, d⟩) off size inb).emb i = j := by
  funext a
  refine Fin.ext ?_
  show off a + 1 * (i a).val = (j a).val
  rw [Nat.one_mul]
  match a with
  | 0 => exact h0 | 1 => exact h1 | 2 => exact h2 | 3 => exact h3 | 4 => exact h4

theorem emb4 {d off size : Fin 4 → ℕ} {inb : ∀ a, off a + size a ≤ d a} (i : (⟨4, size⟩ : Shape).Idx) (j : (⟨4, d⟩ : Shape).Idx)
    (h0 : off 0 + (i 0).val = (j 0).val) (h1 : off 1 + (i 1).val = (j 1).val) (h2 : off 2 + (i 2).val = (j 2).val)
    (h3 : off 3 + (i 3).val = (j 3).val) : (Rect.unit (s := ⟨4, d⟩) off size inb).emb i = j := by
  funext a
  refine Fin.ext ?_
  show off a + 1 * (i a).val = (j a).val
  rw [Nat.one_mul]
  match a with
  | 0 => exact h0 | 1 => exact h1 | 2 => exact h2 | 3 => exact h3

theorem emb3 {d off size : Fin 3 → ℕ} {inb : ∀ a, off a + size a ≤ d a} (i : (⟨3, size⟩ : Shape).Idx) (j : (⟨3, d⟩ : Shape).Idx)
    (h0 : off 0 + (i 0).val = (j 0).val) (h1 : off 1 + (i 1).val = (j 1).val) (h2 : off 2 + (i 2).val = (j 2).val) :
    (Rect.unit (s := ⟨3, d⟩) off size inb).emb i = j := by
  funext a
  refine Fin.ext ?_
  show off a + 1 * (i a).val = (j a).val
  rw [Nat.one_mul]
  match a with
  | 0 => exact h0 | 1 => exact h1 | 2 => exact h2

theorem z0 {n : ℕ} (h : n < 1) : 0 = n := by omega
theorem z1 (m : ℕ) {n : ℕ} (h : n < 1) : m + n = m := by omega

theorem ext5 {d : Fin 5 → ℕ} (i j : (⟨5, d⟩ : Shape).Idx) (h0 : i 0 = j 0) (h1 : i 1 = j 1) (h2 : i 2 = j 2) (h3 : i 3 = j 3) (h4 : i 4 = j 4) : i = j := by
  funext a
  match a with
  | 0 => exact h0 | 1 => exact h1 | 2 => exact h2 | 3 => exact h3 | 4 => exact h4

theorem ext4 {d : Fin 4 → ℕ} (i j : (⟨4, d⟩ : Shape).Idx) (h0 : i 0 = j 0) (h1 : i 1 = j 1) (h2 : i 2 = j 2) (h3 : i 3 = j 3) : i = j := by
  funext a
  match a with
  | 0 => exact h0 | 1 => exact h1 | 2 => exact h2 | 3 => exact h3

theorem ext3 {d : Fin 3 → ℕ} (i j : (⟨3, d⟩ : Shape).Idx) (h0 : i 0 = j 0) (h1 : i 1 = j 1) (h2 : i 2 = j 2) : i = j := by
  funext a
  match a with
  | 0 => exact h0 | 1 => exact h1 | 2 => exact h2

/-! ## Membership in a rectangle -/

theorem mem5 {d off size : Fin 5 → ℕ} {inb : ∀ a, off a + size a ≤ d a} {i : (⟨5, d⟩ : Shape).Idx}
    (h0 : off 0 ≤ (i 0).val ∧ (i 0).val < off 0 + size 0) (h1 : off 1 ≤ (i 1).val ∧ (i 1).val < off 1 + size 1)
    (h2 : off 2 ≤ (i 2).val ∧ (i 2).val < off 2 + size 2) (h3 : off 3 ≤ (i 3).val ∧ (i 3).val < off 3 + size 3)
    (h4 : off 4 ≤ (i 4).val ∧ (i 4).val < off 4 + size 4) : i ∈ (Rect.unit (s := ⟨5, d⟩) off size inb).set := by
  rw [Rect.mem_set_unit]
  intro a
  match a with
  | 0 => exact h0 | 1 => exact h1 | 2 => exact h2 | 3 => exact h3 | 4 => exact h4

theorem mem4 {d off size : Fin 4 → ℕ} {inb : ∀ a, off a + size a ≤ d a} {i : (⟨4, d⟩ : Shape).Idx}
    (h0 : off 0 ≤ (i 0).val ∧ (i 0).val < off 0 + size 0) (h1 : off 1 ≤ (i 1).val ∧ (i 1).val < off 1 + size 1)
    (h2 : off 2 ≤ (i 2).val ∧ (i 2).val < off 2 + size 2) (h3 : off 3 ≤ (i 3).val ∧ (i 3).val < off 3 + size 3) :
    i ∈ (Rect.unit (s := ⟨4, d⟩) off size inb).set := by
  rw [Rect.mem_set_unit]
  intro a
  match a with
  | 0 => exact h0 | 1 => exact h1 | 2 => exact h2 | 3 => exact h3

theorem mem3 {d off size : Fin 3 → ℕ} {inb : ∀ a, off a + size a ≤ d a} {i : (⟨3, d⟩ : Shape).Idx}
    (h0 : off 0 ≤ (i 0).val ∧ (i 0).val < off 0 + size 0) (h1 : off 1 ≤ (i 1).val ∧ (i 1).val < off 1 + size 1)
    (h2 : off 2 ≤ (i 2).val ∧ (i 2).val < off 2 + size 2) : i ∈ (Rect.unit (s := ⟨3, d⟩) off size inb).set := by
  rw [Rect.mem_set_unit]
  intro a
  match a with
  | 0 => exact h0 | 1 => exact h1 | 2 => exact h2

/-! ## The loads -/

theorem ld_qg (b : Fin 2) (h : Fin 4) {q : PosShare TreeShare} {inb} {hl}
    {Q : α → sProp 𝕄} {k : Vec F S1x1x32x1x64 .bf16 → Prog (TpuEff nD τ sig (Elt F) Λ₀ .tc) α} :
    bcPts (F := F) c q (BC A) ⊢ iprop((bcPts (F := F) c q (BC A) -∗ W' c Q (k (qg A b h)))
      -∗ W' c Q (.op (.load bcM (Rect.unit (s := S3x2x32x4x64) ![2, b.val, 0, h.val, 0] S1x1x32x1x64.size inb).toLoadRect hl) k)) := by
  unfold bcPts
  exact ld (c := c) (m := bcM) (r := Rect.unit (s := S3x2x32x4x64) ![2, b.val, 0, h.val, 0] S1x1x32x1x64.size inb) (S := Finset.univ) (G := BC A)
    (Finset.subset_univ _) (w := qg A b h) (funext fun i => congrArg (BC A)
      (emb5 i (ix5 2 b (i 2) h (i 4)) (z1 2 (i 0).isLt) (z1 _ (i 1).isLt) (Nat.zero_add _) (z1 _ (i 3).isLt) (Nat.zero_add _)))

theorem ld_bcs (t : Fin 3) {q : PosShare TreeShare} {inb} {hl}
    {Q : α → sProp 𝕄} {k : Vec F S1x2x32x4x64 .bf16 → Prog (TpuEff nD τ sig (Elt F) Λ₀ .tc) α} :
    bcPts (F := F) c q (BC A) ⊢ iprop((bcPts (F := F) c q (BC A) -∗ W' c Q (k (bcs A t)))
      -∗ W' c Q (.op (.load bcM (Rect.unit (s := S3x2x32x4x64) ![t.val, 0, 0, 0, 0] S1x2x32x4x64.size inb).toLoadRect hl) k)) := by
  unfold bcPts
  exact ld (c := c) (m := bcM) (r := Rect.unit (s := S3x2x32x4x64) ![t.val, 0, 0, 0, 0] S1x2x32x4x64.size inb) (S := Finset.univ) (G := BC A)
    (Finset.subset_univ _) (w := bcs A t) (funext fun i => congrArg (BC A)
      (emb5 i (ix5 t (i 1) (i 2) (i 3) (i 4)) (z1 _ (i 0).isLt) (Nat.zero_add _) (Nat.zero_add _) (Nat.zero_add _) (Nat.zero_add _)))

theorem ld_kh (b : Fin 2) (h : Fin 4) {inb} {hl}
    {Q : α → sProp 𝕄} {k : Vec F S1x256x1x64 .bf16 → Prog (TpuEff nD τ sig (Elt F) Λ₀ .tc) α} :
    kPts c A ⊢ iprop((kPts c A -∗ W' c Q (k (hd4 (A.k c) b h)))
      -∗ W' c Q (.op (.load kM (Rect.unit (s := S2x256x4x64) ![b.val, 0, h.val, 0] S1x256x1x64.size inb).toLoadRect hl) k)) := by
  unfold kPts
  exact ld (c := c) (m := kM) (r := Rect.unit (s := S2x256x4x64) ![b.val, 0, h.val, 0] S1x256x1x64.size inb) (S := Finset.univ) (G := A.k c)
    (Finset.subset_univ _) (w := hd4 (A.k c) b h) (funext fun i => congrArg (A.k c)
      (emb4 i (ix4 b (i 1) h (i 3)) (z1 _ (i 0).isLt) (Nat.zero_add _) (z1 _ (i 2).isLt) (Nat.zero_add _)))

theorem ld_vh (b : Fin 2) (h : Fin 4) {inb} {hl}
    {Q : α → sProp 𝕄} {k : Vec F S1x256x1x64 .bf16 → Prog (TpuEff nD τ sig (Elt F) Λ₀ .tc) α} :
    vPts c A ⊢ iprop((vPts c A -∗ W' c Q (k (hd4 (A.v c) b h)))
      -∗ W' c Q (.op (.load vM (Rect.unit (s := S2x256x4x64) ![b.val, 0, h.val, 0] S1x256x1x64.size inb).toLoadRect hl) k)) := by
  unfold vPts
  exact ld (c := c) (m := vM) (r := Rect.unit (s := S2x256x4x64) ![b.val, 0, h.val, 0] S1x256x1x64.size inb) (S := Finset.univ) (G := A.v c)
    (Finset.subset_univ _) (w := hd4 (A.v c) b h) (funext fun i => congrArg (A.v c)
      (emb4 i (ix4 b (i 1) h (i 3)) (z1 _ (i 0).isLt) (Nat.zero_add _) (z1 _ (i 2).isLt) (Nat.zero_add _)))

theorem ld_kt {inb} {hl} {Q : α → sProp 𝕄} {k : Vec F S2x32x4x64 .bf16 → Prog (TpuEff nD τ sig (Elt F) Λ₀ .tc) α} :
    kPts c A ⊢ iprop((kPts c A -∗ W' c Q (k (top (A.k c))))
      -∗ W' c Q (.op (.load kM (Rect.unit (s := S2x256x4x64) ![0, 0, 0, 0] S2x32x4x64.size inb).toLoadRect hl) k)) := by
  unfold kPts
  exact ld (c := c) (m := kM) (r := Rect.unit (s := S2x256x4x64) ![0, 0, 0, 0] S2x32x4x64.size inb) (S := Finset.univ) (G := A.k c)
    (Finset.subset_univ _) (w := top (A.k c)) (funext fun i => congrArg (A.k c)
      (emb4 i (ix4 (i 0) (Fin.castLE (by decide : 32 ≤ 256) (i 1)) (i 2) (i 3)) (Nat.zero_add _) (Nat.zero_add _) (Nat.zero_add _) (Nat.zero_add _)))

theorem ld_vt {inb} {hl} {Q : α → sProp 𝕄} {k : Vec F S2x32x4x64 .bf16 → Prog (TpuEff nD τ sig (Elt F) Λ₀ .tc) α} :
    vPts c A ⊢ iprop((vPts c A -∗ W' c Q (k (top (A.v c))))
      -∗ W' c Q (.op (.load vM (Rect.unit (s := S2x256x4x64) ![0, 0, 0, 0] S2x32x4x64.size inb).toLoadRect hl) k)) := by
  unfold vPts
  exact ld (c := c) (m := vM) (r := Rect.unit (s := S2x256x4x64) ![0, 0, 0, 0] S2x32x4x64.size inb) (S := Finset.univ) (G := A.v c)
    (Finset.subset_univ _) (w := top (A.v c)) (funext fun i => congrArg (A.v c)
      (emb4 i (ix4 (i 0) (Fin.castLE (by decide : 32 ≤ 256) (i 1)) (i 2) (i 3)) (Nat.zero_add _) (Nat.zero_add _) (Nat.zero_add _) (Nat.zero_add _)))

theorem ld_k {inb} {hl} {Q : α → sProp 𝕄} {k : Vec F S2x256x4x64 .bf16 → Prog (TpuEff nD τ sig (Elt F) Λ₀ .tc) α} :
    kPts c A ⊢ iprop((kPts c A -∗ W' c Q (k (A.k c)))
      -∗ W' c Q (.op (.load kM (Rect.unit (s := S2x256x4x64) ![0, 0, 0, 0] S2x256x4x64.size inb).toLoadRect hl) k)) := by
  unfold kPts
  exact ld (c := c) (m := kM) (r := Rect.unit (s := S2x256x4x64) ![0, 0, 0, 0] S2x256x4x64.size inb) (S := Finset.univ) (G := A.k c)
    (Finset.subset_univ _) (w := A.k c) (funext fun i => congrArg (A.k c)
      (emb4 i i (Nat.zero_add _) (Nat.zero_add _) (Nat.zero_add _) (Nat.zero_add _)))

theorem ld_v {inb} {hl} {Q : α → sProp 𝕄} {k : Vec F S2x256x4x64 .bf16 → Prog (TpuEff nD τ sig (Elt F) Λ₀ .tc) α} :
    vPts c A ⊢ iprop((vPts c A -∗ W' c Q (k (A.v c)))
      -∗ W' c Q (.op (.load vM (Rect.unit (s := S2x256x4x64) ![0, 0, 0, 0] S2x256x4x64.size inb).toLoadRect hl) k)) := by
  unfold vPts
  exact ld (c := c) (m := vM) (r := Rect.unit (s := S2x256x4x64) ![0, 0, 0, 0] S2x256x4x64.size inb) (S := Finset.univ) (G := A.v c)
    (Finset.subset_univ _) (w := A.v c) (funext fun i => congrArg (A.v c)
      (emb4 i i (Nat.zero_add _) (Nat.zero_add _) (Nat.zero_add _) (Nat.zero_add _)))

theorem emb2 {d off size : Fin 2 → ℕ} {inb : ∀ a, off a + size a ≤ d a} (i : (⟨2, size⟩ : Shape).Idx) (j : (⟨2, d⟩ : Shape).Idx)
    (h0 : off 0 + (i 0).val = (j 0).val) (h1 : off 1 + (i 1).val = (j 1).val) : (Rect.unit (s := ⟨2, d⟩) off size inb).emb i = j := by
  funext a
  refine Fin.ext ?_
  show off a + 1 * (i a).val = (j a).val
  rw [Nat.one_mul]
  match a with
  | 0 => exact h0 | 1 => exact h1

theorem ld_q {inb} {hl} {Q : α → sProp 𝕄} {k : Vec F S512x256 .bf16 → Prog (TpuEff nD τ sig (Elt F) Λ₀ .tc) α} :
    qPts c A ⊢ iprop((qPts c A -∗ W' c Q (k (A.wq c)))
      -∗ W' c Q (.op (.load qM (Rect.unit (s := S512x256) ![0, 0] S512x256.size inb).toLoadRect hl) k)) := by
  unfold qPts
  exact ld (c := c) (m := qM) (r := Rect.unit (s := S512x256) ![0, 0] S512x256.size inb) (S := Finset.univ) (G := A.wq c)
    (Finset.subset_univ _) (w := A.wq c) (funext fun i => congrArg (A.wq c) (emb2 i i (Nat.zero_add _) (Nat.zero_add _)))

theorem ld_o {inb} {hl} {Q : α → sProp 𝕄} {k : Vec F S256x512 .bf16 → Prog (TpuEff nD τ sig (Elt F) Λ₀ .tc) α} :
    oPts c A ⊢ iprop((oPts c A -∗ W' c Q (k (A.wo c)))
      -∗ W' c Q (.op (.load oM (Rect.unit (s := S256x512) ![0, 0] S256x512.size inb).toLoadRect hl) k)) := by
  unfold oPts
  exact ld (c := c) (m := oM) (r := Rect.unit (s := S256x512) ![0, 0] S256x512.size inb) (S := Finset.univ) (G := A.wo c)
    (Finset.subset_univ _) (w := A.wo c) (funext fun i => congrArg (A.wo c) (emb2 i i (Nat.zero_add _) (Nat.zero_add _)))

theorem ld_x (b : Fin 2) {inb} {hl} {Q : α → sProp 𝕄} {k : Vec F S1x256x512 .bf16 → Prog (TpuEff nD τ sig (Elt F) Λ₀ .tc) α} :
    xPts c A ⊢ iprop((xPts c A -∗ W' c Q (k (xsl A c b)))
      -∗ W' c Q (.op (.load xM (Rect.unit (s := S2x256x512) ![b.val, 0, 0] S1x256x512.size inb).toLoadRect hl) k)) := by
  unfold xPts
  exact ld (c := c) (m := xM) (r := Rect.unit (s := S2x256x512) ![b.val, 0, 0] S1x256x512.size inb) (S := Finset.univ) (G := A.x c)
    (Finset.subset_univ _) (w := xsl A c b) (funext fun i => congrArg (A.x c)
      (emb3 i (ix3 b (i 1) (i 2)) (z1 _ (i 0).isLt) (Nat.zero_add _) (Nat.zero_add _)))

theorem ld_ws (t b : Fin 2) (h : Fin 4) {q : PosShare TreeShare} {inb} {hl}
    {Q : α → sProp 𝕄} {k : Vec F S1x1x544x1x64 .bf16 → Prog (TpuEff nD τ sig (Elt F) Λ₀ .tc) α} :
    (wsL c ↦{q} WS A c) ⊢ iprop(((wsL c ↦{q} WS A c) -∗ W' c Q (k (wsl A c t b h)))
      -∗ W' c Q (.op (.load wsM (Rect.unit (s := S2x2x544x4x64) ![t.val, b.val, 0, h.val, 0] S1x1x544x1x64.size inb).toLoadRect hl) k)) := by
  exact ld (c := c) (m := wsM) (r := Rect.unit (s := S2x2x544x4x64) ![t.val, b.val, 0, h.val, 0] S1x1x544x1x64.size inb) (S := Finset.univ) (G := WS A c)
    (Finset.subset_univ _) (w := wsl A c t b h) (funext fun i => congrArg (WS A c)
      (emb5 i (ix5 t b (i 2) h (i 4)) (z1 _ (i 0).isLt) (z1 _ (i 1).isLt) (Nat.zero_add _) (z1 _ (i 3).isLt) (Nat.zero_add _)))

theorem ld_rx (j : Fin 32) {inb} {hl}
    {Q : α → sProp 𝕄} {k : Vec F S1x2x4x32x66 .bf16 → Prog (TpuEff nD τ sig (Elt F) Λ₀ .tc) α} :
    (rxL 0 ↦{fullShare} PRX A) ⊢ iprop(((rxL 0 ↦{fullShare} PRX A) -∗ W' 0 Q (k (slot A j)))
      -∗ W' 0 Q (.op (.load rxM (Rect.unit (s := S32x2x4x32x66) ![j.val, 0, 0, 0, 0] S1x2x4x32x66.size inb).toLoadRect hl) k)) := by
  exact ld (c := 0) (m := rxM) (r := Rect.unit (s := S32x2x4x32x66) ![j.val, 0, 0, 0, 0] S1x2x4x32x66.size inb) (S := Finset.univ) (G := PRX A)
    (Finset.subset_univ _) (w := slot A j) (funext fun i => congrArg (PRX A)
      (emb5 i (ix5 j (i 1) (i 2) (i 3) (i 4)) (z1 _ (i 0).isLt) (Nat.zero_add _) (Nat.zero_add _) (Nat.zero_add _) (Nat.zero_add _)))

theorem ld_pt {inb} {hl} {Q : α → sProp 𝕄} {k : Vec F S1x2x4x32x66 .bf16 → Prog (TpuEff nD τ sig (Elt F) Λ₀ .tc) α} :
    ptPts c (PART A c) ⊢ iprop((ptPts c (PART A c) -∗ W' c Q (k (PART A c)))
      -∗ W' c Q (.op (.load ptM (Rect.unit (s := S1x2x4x32x66) ![0, 0, 0, 0, 0] S1x2x4x32x66.size inb).toLoadRect hl) k)) := by
  unfold ptPts
  exact ld (c := c) (m := ptM) (r := Rect.unit (s := S1x2x4x32x66) ![0, 0, 0, 0, 0] S1x2x4x32x66.size inb) (S := Finset.univ) (G := PART A c)
    (Finset.subset_univ _) (w := PART A c) (funext fun i => congrArg (PART A c)
      (emb5 i i (Nat.zero_add _) (Nat.zero_add _) (Nat.zero_add _) (Nat.zero_add _) (Nat.zero_add _)))

theorem ld_cx (b : Fin 2) {inb} {hl} {Q : α → sProp 𝕄} {k : Vec F S1x256x4x64 .f32 → Prog (TpuEff nD τ sig (Elt F) Λ₀ .tc) α} :
    (cxL c ↦{fullShare} CTX A c) ⊢ iprop(((cxL c ↦{fullShare} CTX A c) -∗ W' c Q (k (ctxb A c b)))
      -∗ W' c Q (.op (.load cxM (Rect.unit (s := S2x256x4x64) ![b.val, 0, 0, 0] S1x256x4x64.size inb).toLoadRect hl) k)) := by
  exact ld (c := c) (m := cxM) (r := Rect.unit (s := S2x256x4x64) ![b.val, 0, 0, 0] S1x256x4x64.size inb) (S := Finset.univ) (G := CTX A c)
    (Finset.subset_univ _) (w := ctxb A c b) (funext fun i => congrArg (CTX A c)
      (emb4 i (ix4 b (i 1) (i 2) (i 3)) (z1 _ (i 0).isLt) (Nat.zero_add _) (Nat.zero_add _) (Nat.zero_add _)))

/-- Device 0's rows of attention with the merged ones in place. -/
def CTXG : Vec F S2x256x4x64 .f32 := fun i =>
  if h : (i 1).val < 32 then hsel (GC A) (i 2) (ix4 (i 0) ⟨(i 1).val, h⟩ 0 (i 3)) else CTX A 0 i

theorem ld_cg (b : Fin 2) {inb} {hl} {Q : α → sProp 𝕄} {k : Vec F S1x32x4x64 .f32 → Prog (TpuEff nD τ sig (Elt F) Λ₀ .tc) α} :
    (cxL 0 ↦{fullShare} CTXG A) ⊢ iprop(((cxL 0 ↦{fullShare} CTXG A) -∗ W' 0 Q (k (ctxg A b)))
      -∗ W' 0 Q (.op (.load cxM (Rect.unit (s := S2x256x4x64) ![b.val, 0, 0, 0] S1x32x4x64.size inb).toLoadRect hl) k)) := by
  refine ld (c := 0) (m := cxM) (r := Rect.unit (s := S2x256x4x64) ![b.val, 0, 0, 0] S1x32x4x64.size inb) (S := Finset.univ) (G := CTXG A)
    (Finset.subset_univ _) (w := ctxg A b) (funext fun i => (congrArg (CTXG A)
      (emb4 i (ix4 b (Fin.castLE (by decide : 32 ≤ 256) (i 1)) (i 2) (i 3)) (z1 _ (i 0).isLt) (Nat.zero_add _) (Nat.zero_add _) (Nat.zero_add _))).trans ?_)
  exact dif_pos (show ((i 1).val < 32) from (i 1).isLt)

end Cert.KernelIdeal.Att

end
-- ==== Proof.KernelIdealStores.lean ====
/-
The stores of the kernel: each writes the final contents of its rectangle.
-/
module

public import proofs.«01_k».proof.Proof.KernelIdealMem

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (c : Dev nD) {α : Type}

/-! ## The partial results -/

/-- Which store of the partial results writes an entry. -/
def ptKey (i : S1x2x4x32x66.Idx) : ℕ :=
  3 * (4 * (i 1).val + (i 2).val) + (if (i 4).val < 64 then 0 else if (i 4).val = 64 then 1 else 2)

/-- The partial results, the first `n` stores done. -/
def KP (n : ℕ) : sProp 𝕄 := Kn (ptL c) Finset.univ (Finset.univ.filter fun i : S1x2x4x32x66.Idx => ptKey i < n) (PART A c)

theorem ptKey_split (i : S1x2x4x32x66.Idx) (b : Fin 2) (h : Fin 4) (t : ℕ) (ht : t < 3) (h1 : ptKey i = 3 * (4 * b.val + h.val) + t) :
    (i 1).val = b.val ∧ (i 2).val = h.val ∧ (t = 0 → (i 4).val < 64) ∧ (t = 1 → (i 4).val = 64) ∧ (t = 2 → 65 ≤ (i 4).val) := by
  have hb := b.isLt; have hh := h.isLt
  have e1 : (i 1).val < 2 := (i 1).isLt
  have e2 : (i 2).val < 4 := (i 2).isLt
  unfold ptKey at h1
  split at h1
  · refine ⟨by omega, by omega, by omega, by omega, by omega⟩
  · split at h1 <;> refine ⟨by omega, by omega, by omega, by omega, by omega⟩

variable {Q : α → sProp (MT nD τ sig Unit (Elt F) ℕ UU ℕ)}

theorem st_pt0 (b : Fin 2) (h : Fin 4) {n : ℕ} (hn : n = 3 * (4 * b.val + h.val)) {inb} {hx} {hm} {w : Vec F S1x1x1x32x64 .bf16}
    (hw : k0_pay128 (k0_pay127 (qg A b h) (hd4 (A.k c) b h) (hd4 (A.v c) b h)) = w) {k : PUnit → Prog (TpuEff nD τ sig (Elt F) Λ₀ .tc) α} :
    KP A c n ⊢ iprop((KP A c (n + 1) -∗ W' c Q (k ⟨⟩))
      -∗ W' c Q (.op (.store ptM (Rect.unit (s := S1x2x4x32x66) ![0, b.val, h.val, 0, 0] S1x1x1x32x64.size inb) w Finset.univ hx hm) k)) := by
  subst hw hn
  refine kn_st (c := c) (m := ptM) (r := Rect.unit (s := S1x2x4x32x66) ![0, b.val, h.val, 0, 0] S1x1x1x32x64.size inb) (T := Finset.univ) (G := PART A c)
    (funext fun i => (congrArg (PART A c) (emb5 i (ix5 0 b h (i 3) (Fin.castLE (by decide : 64 ≤ 66) (i 4)))
      (z1 _ (i 0).isLt) (z1 _ (i 1).isLt) (z1 _ (i 2).isLt) (Nat.zero_add _) (Nat.zero_add _))).trans ?_) (Finset.subset_univ _) ?_
  · refine (dif_pos (show (i 4).val < 64 from (i 4).isLt)).trans ?_
    refine congrArg _ (ext5 _ _ ?_ ?_ ?_ rfl rfl) <;> exact Fin.ext (z0 (i _).isLt)
  · intro i hi
    rw [Finset.mem_union]
    by_cases hk : ptKey i < 3 * (4 * b.val + h.val)
    · exact Or.inl (Finset.mem_filter.mpr ⟨Finset.mem_univ _, hk⟩)
    · have hi' := (Finset.mem_filter.mp hi).2
      obtain ⟨h1, h2, h3, -, -⟩ := ptKey_split i b h 0 (by decide) (by omega)
      refine Or.inr ?_
      rw [show (ptM.access (Rect.unit (s := S1x2x4x32x66) ![0, b.val, h.val, 0, 0] S1x1x1x32x64.size inb)).set = _ from View.set_slice_whole _ _]
      exact mem5 ⟨Nat.zero_le _, (i 0).isLt⟩ ⟨h1.ge, by show _ < b.val + 1; omega⟩ ⟨h2.ge, by show _ < h.val + 1; omega⟩ ⟨Nat.zero_le _, by show _ < 0 + 32; rw [Nat.zero_add]; exact (i 3).isLt⟩
        ⟨Nat.zero_le _, by show _ < 0 + 64; have := h3 rfl; omega⟩

theorem st_pt1 (b : Fin 2) (h : Fin 4) {n : ℕ} (hn : n = 3 * (4 * b.val + h.val) + 1) {inb} {hx} {hm} {w : Vec F S1x1x1x32x1 .bf16}
    (hw : k0_pay129 (k0_pay124 (qg A b h) (hd4 (A.k c) b h)) = w) {k : PUnit → Prog (TpuEff nD τ sig (Elt F) Λ₀ .tc) α} :
    KP A c n ⊢ iprop((KP A c (n + 1) -∗ W' c Q (k ⟨⟩))
      -∗ W' c Q (.op (.store ptM (Rect.unit (s := S1x2x4x32x66) ![0, b.val, h.val, 0, 64] S1x1x1x32x1.size inb) w Finset.univ hx hm) k)) := by
  subst hw hn
  refine kn_st (c := c) (m := ptM) (r := Rect.unit (s := S1x2x4x32x66) ![0, b.val, h.val, 0, 64] S1x1x1x32x1.size inb) (T := Finset.univ) (G := PART A c)
    (funext fun i => (congrArg (PART A c) (emb5 i (ix5 0 b h (i 3) 64)
      (z1 _ (i 0).isLt) (z1 _ (i 1).isLt) (z1 _ (i 2).isLt) (Nat.zero_add _) (z1 64 (i 4).isLt))).trans ?_) (Finset.subset_univ _) ?_
  · refine (dif_neg (show ¬ (64 < 64) by decide)).trans ((if_pos rfl).trans ?_)
    refine congrArg _ (ext5 _ _ ?_ ?_ ?_ rfl ?_) <;> exact Fin.ext (z0 (i _).isLt)
  · intro i hi
    rw [Finset.mem_union]
    by_cases hk : ptKey i < 3 * (4 * b.val + h.val) + 1
    · exact Or.inl (Finset.mem_filter.mpr ⟨Finset.mem_univ _, hk⟩)
    · have hi' := (Finset.mem_filter.mp hi).2
      obtain ⟨h1, h2, -, h3, -⟩ := ptKey_split i b h 1 (by decide) (by omega)
      refine Or.inr ?_
      rw [show (ptM.access (Rect.unit (s := S1x2x4x32x66) ![0, b.val, h.val, 0, 64] S1x1x1x32x1.size inb)).set = _ from View.set_slice_whole _ _]
      exact mem5 ⟨Nat.zero_le _, (i 0).isLt⟩ ⟨h1.ge, by show _ < b.val + 1; omega⟩ ⟨h2.ge, by show _ < h.val + 1; omega⟩ ⟨Nat.zero_le _, by show _ < 0 + 32; rw [Nat.zero_add]; exact (i 3).isLt⟩
        ⟨(h3 rfl).ge, by show _ < 64 + 1; have := h3 rfl; omega⟩

theorem st_pt2 (b : Fin 2) (h : Fin 4) {n : ℕ} (hn : n = 3 * (4 * b.val + h.val) + 2) {inb} {hx} {hm} {w : Vec F S1x1x1x32x1 .bf16}
    (hw : k0_pay130 (k0_pay126 (qg A b h) (hd4 (A.k c) b h)) = w) {k : PUnit → Prog (TpuEff nD τ sig (Elt F) Λ₀ .tc) α} :
    KP A c n ⊢ iprop((KP A c (n + 1) -∗ W' c Q (k ⟨⟩))
      -∗ W' c Q (.op (.store ptM (Rect.unit (s := S1x2x4x32x66) ![0, b.val, h.val, 0, 65] S1x1x1x32x1.size inb) w Finset.univ hx hm) k)) := by
  subst hw hn
  refine kn_st (c := c) (m := ptM) (r := Rect.unit (s := S1x2x4x32x66) ![0, b.val, h.val, 0, 65] S1x1x1x32x1.size inb) (T := Finset.univ) (G := PART A c)
    (funext fun i => (congrArg (PART A c) (emb5 i (ix5 0 b h (i 3) 65)
      (z1 _ (i 0).isLt) (z1 _ (i 1).isLt) (z1 _ (i 2).isLt) (Nat.zero_add _) (z1 65 (i 4).isLt))).trans ?_) (Finset.subset_univ _) ?_
  · refine (dif_neg (show ¬ (65 < 64) by decide)).trans ((if_neg (show ¬ (65 = 64) by decide)).trans ?_)
    refine congrArg _ (ext5 _ _ ?_ ?_ ?_ rfl ?_) <;> exact Fin.ext (z0 (i _).isLt)
  · intro i hi
    rw [Finset.mem_union]
    by_cases hk : ptKey i < 3 * (4 * b.val + h.val) + 2
    · exact Or.inl (Finset.mem_filter.mpr ⟨Finset.mem_univ _, hk⟩)
    · have hi' := (Finset.mem_filter.mp hi).2
      obtain ⟨h1, h2, -, -, h3⟩ := ptKey_split i b h 2 (by decide) (by omega)
      refine Or.inr ?_
      rw [show (ptM.access (Rect.unit (s := S1x2x4x32x66) ![0, b.val, h.val, 0, 65] S1x1x1x32x1.size inb)).set = _ from View.set_slice_whole _ _]
      exact mem5 ⟨Nat.zero_le _, (i 0).isLt⟩ ⟨h1.ge, by show _ < b.val + 1; omega⟩ ⟨h2.ge, by show _ < h.val + 1; omega⟩ ⟨Nat.zero_le _, by show _ < 0 + 32; rw [Nat.zero_add]; exact (i 3).isLt⟩
        ⟨h3 rfl, by show _ < 65 + 1; exact (i 4).isLt⟩

theorem dl_pt {n : ℕ} {r : Rect S1x2x4x32x66} {hl} {p : Prog (TpuEff nD τ sig (Elt F) Λ₀ .tc) α} :
    KP A c n ⊢ iprop((KP A c n -∗ W' c Q p) -∗ W' c Q (.op (.load ptM r.toLoadRect hl) fun _ => p)) :=
  kn_ld (c := c) (m := ptM) (r := r) (T := Finset.univ) (Finset.subset_univ _)

theorem kp_start : (iprop(∃ f, ptPts (F := F) c f) : sProp 𝕄) ⊢ KP A c 0 := by
  refine (kn_start (PART A c)).trans ?_
  unfold KP
  rw [show (Finset.univ.filter fun i : S1x2x4x32x66.Idx => ptKey i < 0) = ∅ from Finset.filter_false_of_mem fun i _ => Nat.not_lt_zero _]
theorem kp_done : KP A c 24 ⊢ ptPts c (PART A c) := by
  refine kn_done fun i _ => Finset.mem_filter.mpr ⟨Finset.mem_univ _, ?_⟩
  have e1 : (i 1).val < 2 := (i 1).isLt
  have e2 : (i 2).val < 4 := (i 2).isLt
  unfold ptKey; split
  · omega
  · split <;> omega

/-! ## The rows of attention -/

/-- Device `c`'s rows of attention, the first `n` stores done. -/
def KC (n : ℕ) : sProp 𝕄 := Kn (cxL c) Finset.univ (Finset.univ.filter fun i : S2x256x4x64.Idx => 4 * (i 0).val + (i 2).val < n) (CTX A c)

theorem st_cx (b : Fin 2) (h : Fin 4) {n : ℕ} (hn : n = 4 * b.val + h.val) {inb} {hx} {hm} {w : Vec F S1x256x1x64 .f32}
    (hw : ctxh A c b h = w) {k : PUnit → Prog (TpuEff nD τ sig (Elt F) Λ₀ .tc) α} :
    KC A c n ⊢ iprop((KC A c (n + 1) -∗ W' c Q (k ⟨⟩))
      -∗ W' c Q (.op (.store cxM (Rect.unit (s := S2x256x4x64) ![b.val, 0, h.val, 0] S1x256x1x64.size inb) w Finset.univ hx hm) k)) := by
  subst hw hn
  refine kn_st (c := c) (m := cxM) (r := Rect.unit (s := S2x256x4x64) ![b.val, 0, h.val, 0] S1x256x1x64.size inb) (T := Finset.univ) (G := CTX A c)
    (funext fun i => (congrArg (CTX A c) (emb4 i (ix4 b (i 1) h (i 3)) (z1 _ (i 0).isLt) (Nat.zero_add _) (z1 _ (i 2).isLt) (Nat.zero_add _))).trans ?_) (Finset.subset_univ _) ?_
  · exact congrArg (ctxh A c b h) (ext4 _ _ (Fin.ext (z0 (i 0).isLt)) rfl (Fin.ext (z0 (i 2).isLt)) rfl)
  · intro i hi
    have e2 : (i 2).val < 4 := (i 2).isLt
    have hh := h.isLt
    rw [Finset.mem_union]
    by_cases hk : 4 * (i 0).val + (i 2).val < 4 * b.val + h.val
    · exact Or.inl (Finset.mem_filter.mpr ⟨Finset.mem_univ _, hk⟩)
    · have hi' := (Finset.mem_filter.mp hi).2
      refine Or.inr ?_
      rw [show (cxM.access (Rect.unit (s := S2x256x4x64) ![b.val, 0, h.val, 0] S1x256x1x64.size inb)).set = _ from View.set_slice_whole _ _]
      exact mem4 ⟨show b.val ≤ _ by omega, by show _ < b.val + 1; omega⟩ ⟨Nat.zero_le _, by show _ < 0 + 256; rw [Nat.zero_add]; exact (i 1).isLt⟩
        ⟨show h.val ≤ _ by omega, by show _ < h.val + 1; omega⟩ ⟨Nat.zero_le _, by show _ < 0 + 64; rw [Nat.zero_add]; exact (i 3).isLt⟩

theorem dl_cx {n : ℕ} {r : Rect S2x256x4x64} {hl} {p : Prog (TpuEff nD τ sig (Elt F) Λ₀ .tc) α} :
    KC A c n ⊢ iprop((KC A c n -∗ W' c Q p) -∗ W' c Q (.op (.load cxM r.toLoadRect hl) fun _ => p)) :=
  kn_ld (c := c) (m := cxM) (r := r) (T := Finset.univ) (Finset.subset_univ _)

theorem kc_start : (iprop(∃ f, cxL c ↦{fullShare} f) : sProp 𝕄) ⊢ KC A c 0 := by
  refine (kn_start (CTX A c)).trans ?_
  unfold KC
  rw [show (Finset.univ.filter fun i : S2x256x4x64.Idx => 4 * (i 0).val + (i 2).val < 0) = ∅ from Finset.filter_false_of_mem fun i _ => Nat.not_lt_zero _]
theorem kc_done : KC A c 8 ⊢ (cxL c ↦{fullShare} CTX A c) := by
  refine kn_done fun i _ => Finset.mem_filter.mpr ⟨Finset.mem_univ _, ?_⟩
  have e1 : (i 0).val < 2 := (i 0).isLt
  have e2 : (i 2).val < 4 := (i 2).isLt
  omega

/-- Device 0's rows of attention, `n` heads of the merged rows in place. -/
def KG (n : ℕ) : sProp 𝕄 := Kn (cxL 0) Finset.univ (Finset.univ.filter fun i : S2x256x4x64.Idx => 32 ≤ (i 1).val ∨ (i 2).val < n) (CTXG A)

theorem st_cg (h : Fin 4) {n : ℕ} (hn : n = h.val) {inb} {hx} {hm} {w : Vec F S2x32x1x64 .f32}
    (hw : hsel (GC A) h = w) {k : PUnit → Prog (TpuEff nD τ sig (Elt F) Λ₀ .tc) α} :
    KG A n ⊢ iprop((KG A (n + 1) -∗ W' 0 Q (k ⟨⟩))
      -∗ W' 0 Q (.op (.store cxM (Rect.unit (s := S2x256x4x64) ![0, 0, h.val, 0] S2x32x1x64.size inb) w Finset.univ hx hm) k)) := by
  subst hw hn
  refine kn_st (c := 0) (m := cxM) (r := Rect.unit (s := S2x256x4x64) ![0, 0, h.val, 0] S2x32x1x64.size inb) (T := Finset.univ) (G := CTXG A)
    (funext fun i => (congrArg (CTXG A) (emb4 i (ix4 (i 0) (Fin.castLE (by decide : 32 ≤ 256) (i 1)) h (i 3)) (Nat.zero_add _) (Nat.zero_add _) (z1 _ (i 2).isLt) (Nat.zero_add _))).trans ?_) (Finset.subset_univ _) ?_
  · refine (dif_pos (show ((i 1).val < 32) from (i 1).isLt)).trans ?_
    exact congrArg (hsel (GC A) h) (ext4 _ _ rfl rfl (Fin.ext (z0 (i 2).isLt)) rfl)
  · intro i hi
    rw [Finset.mem_union]
    by_cases hk : 32 ≤ (i 1).val ∨ (i 2).val < h.val
    · exact Or.inl (Finset.mem_filter.mpr ⟨Finset.mem_univ _, hk⟩)
    · have hi' := (Finset.mem_filter.mp hi).2
      refine Or.inr ?_
      rw [show (cxM.access (Rect.unit (s := S2x256x4x64) ![0, 0, h.val, 0] S2x32x1x64.size inb)).set = _ from View.set_slice_whole _ _]
      exact mem4 ⟨Nat.zero_le _, by show _ < 0 + 2; rw [Nat.zero_add]; exact (i 0).isLt⟩ ⟨Nat.zero_le _, by show _ < 0 + 32; omega⟩
        ⟨show h.val ≤ _ by omega, by show _ < h.val + 1; omega⟩ ⟨Nat.zero_le _, by show _ < 0 + 64; rw [Nat.zero_add]; exact (i 3).isLt⟩

theorem dl_cg {n : ℕ} {r : Rect S2x256x4x64} {hl} {p : Prog (TpuEff nD τ sig (Elt F) Λ₀ .tc) α} :
    KG A n ⊢ iprop((KG A n -∗ W' 0 Q p) -∗ W' 0 Q (.op (.load cxM r.toLoadRect hl) fun _ => p)) :=
  kn_ld (c := 0) (m := cxM) (r := r) (T := Finset.univ) (Finset.subset_univ _)

theorem kg_start : (cxL 0 ↦{fullShare} CTX A 0 : sProp 𝕄) ⊢ KG A 0 := by
  refine kn_of fun i hi => ?_
  have hi' := (Finset.mem_filter.mp hi).2
  unfold CTXG
  rw [dif_neg (Nat.not_lt.mpr (hi'.resolve_right (Nat.not_lt_zero _)))]
theorem kg_done : KG A 4 ⊢ (cxL 0 ↦{fullShare} CTXG A) :=
  kn_done fun i _ => Finset.mem_filter.mpr ⟨Finset.mem_univ _, Or.inr (i 2).isLt⟩

/-! ## The buffer that device 0 sends -/

def KB (n : ℕ) : sProp 𝕄 := Kn (bcL 0) Finset.univ
  (Finset.univ.filter fun i : S3x2x32x4x64.Idx => (if (i 0).val < 2 then (i 0).val else 2 + (i 1).val) < n) (BC A)

theorem st_bc0 {inb} {hx} {hm} {k : PUnit → Prog (TpuEff nD τ sig (Elt F) Λ₀ .tc) α} :
    KB A 0 ⊢ iprop((KB A 1 -∗ W' 0 Q (k ⟨⟩))
      -∗ W' 0 Q (.op (.store bcM (Rect.unit (s := S3x2x32x4x64) ![0, 0, 0, 0, 0] S1x2x32x4x64.size inb) (k0_pay1 (top (A.k 0))) Finset.univ hx hm) k)) := by
  refine kn_st (c := 0) (m := bcM) (r := Rect.unit (s := S3x2x32x4x64) ![0, 0, 0, 0, 0] S1x2x32x4x64.size inb) (T := Finset.univ) (G := BC A)
    (funext fun i => (congrArg (BC A) (emb5 i (ix5 0 (i 1) (i 2) (i 3) (i 4)) (z1 _ (i 0).isLt) (Nat.zero_add _) (Nat.zero_add _) (Nat.zero_add _) (Nat.zero_add _))).trans ?_) (Finset.subset_univ _) ?_
  · exact (if_pos rfl).trans (congrArg _ (ext5 _ _ (Fin.ext (z0 (i 0).isLt)) rfl rfl rfl rfl))
  · intro i hi
    have hi' := (Finset.mem_filter.mp hi).2
    refine Finset.mem_union.mpr (Or.inr ?_)
    rw [show (bcM.access (Rect.unit (s := S3x2x32x4x64) ![0, 0, 0, 0, 0] S1x2x32x4x64.size inb)).set = _ from View.set_slice_whole _ _]
    exact mem5 ⟨Nat.zero_le _, by show _ < 0 + 1; split at hi' <;> omega⟩ ⟨Nat.zero_le _, by show _ < 0 + 2; rw [Nat.zero_add]; exact (i 1).isLt⟩ ⟨Nat.zero_le _, by show _ < 0 + 32; rw [Nat.zero_add]; exact (i 2).isLt⟩
      ⟨Nat.zero_le _, by show _ < 0 + 4; rw [Nat.zero_add]; exact (i 3).isLt⟩ ⟨Nat.zero_le _, by show _ < 0 + 64; rw [Nat.zero_add]; exact (i 4).isLt⟩

theorem st_bc1 {inb} {hx} {hm} {k : PUnit → Prog (TpuEff nD τ sig (Elt F) Λ₀ .tc) α} :
    KB A 1 ⊢ iprop((KB A 2 -∗ W' 0 Q (k ⟨⟩))
      -∗ W' 0 Q (.op (.store bcM (Rect.unit (s := S3x2x32x4x64) ![1, 0, 0, 0, 0] S1x2x32x4x64.size inb) (k0_pay2 (top (A.v 0))) Finset.univ hx hm) k)) := by
  refine kn_st (c := 0) (m := bcM) (r := Rect.unit (s := S3x2x32x4x64) ![1, 0, 0, 0, 0] S1x2x32x4x64.size inb) (T := Finset.univ) (G := BC A)
    (funext fun i => (congrArg (BC A) (emb5 i (ix5 1 (i 1) (i 2) (i 3) (i 4)) (z1 1 (i 0).isLt) (Nat.zero_add _) (Nat.zero_add _) (Nat.zero_add _) (Nat.zero_add _))).trans ?_) (Finset.subset_univ _) ?_
  · exact (if_neg (show ¬ (1 = 0) by decide)).trans ((if_pos rfl).trans (congrArg _ (ext5 _ _ (Fin.ext (z0 (i 0).isLt)) rfl rfl rfl rfl)))
  · intro i hi
    have hi' := (Finset.mem_filter.mp hi).2
    rw [Finset.mem_union]
    by_cases hk : (i 0).val = 0
    · exact Or.inl (Finset.mem_filter.mpr ⟨Finset.mem_univ _, by rw [if_pos (by omega)]; omega⟩)
    refine Or.inr ?_
    rw [show (bcM.access (Rect.unit (s := S3x2x32x4x64) ![1, 0, 0, 0, 0] S1x2x32x4x64.size inb)).set = _ from View.set_slice_whole _ _]
    exact mem5 ⟨by show 1 ≤ _; omega, by show _ < 1 + 1; split at hi' <;> omega⟩ ⟨Nat.zero_le _, by show _ < 0 + 2; rw [Nat.zero_add]; exact (i 1).isLt⟩ ⟨Nat.zero_le _, by show _ < 0 + 32; rw [Nat.zero_add]; exact (i 2).isLt⟩
      ⟨Nat.zero_le _, by show _ < 0 + 4; rw [Nat.zero_add]; exact (i 3).isLt⟩ ⟨Nat.zero_le _, by show _ < 0 + 64; rw [Nat.zero_add]; exact (i 4).isLt⟩

theorem st_bc2 (b : Fin 2) {n : ℕ} (hn : n = 2 + b.val) {inb} {hx} {hm} {w : Vec F S1x1x32x4x64 .bf16} (hw : k0_pay3 (Qv A 0 b) = w) {k : PUnit → Prog (TpuEff nD τ sig (Elt F) Λ₀ .tc) α} :
    KB A n ⊢ iprop((KB A (n + 1) -∗ W' 0 Q (k ⟨⟩))
      -∗ W' 0 Q (.op (.store bcM (Rect.unit (s := S3x2x32x4x64) ![2, b.val, 0, 0, 0] S1x1x32x4x64.size inb) w Finset.univ hx hm) k)) := by
  subst hw hn
  refine kn_st (c := 0) (m := bcM) (r := Rect.unit (s := S3x2x32x4x64) ![2, b.val, 0, 0, 0] S1x1x32x4x64.size inb) (T := Finset.univ) (G := BC A)
    (funext fun i => (congrArg (BC A) (emb5 i (ix5 2 b (i 2) (i 3) (i 4)) (z1 2 (i 0).isLt) (z1 _ (i 1).isLt) (Nat.zero_add _) (Nat.zero_add _) (Nat.zero_add _))).trans ?_) (Finset.subset_univ _) ?_
  · exact (if_neg (show ¬ (2 = 0) by decide)).trans ((if_neg (show ¬ (2 = 1) by decide)).trans (congrArg _ (ext5 _ _ (Fin.ext (z0 (i 0).isLt)) (Fin.ext (z0 (i 1).isLt)) rfl rfl rfl)))
  · intro i hi
    have hi' := (Finset.mem_filter.mp hi).2
    rw [Finset.mem_union]
    by_cases hk : (if (i 0).val < 2 then (i 0).val else 2 + (i 1).val) < 2 + b.val
    · exact Or.inl (Finset.mem_filter.mpr ⟨Finset.mem_univ _, hk⟩)
    refine Or.inr ?_
    rw [show (bcM.access (Rect.unit (s := S3x2x32x4x64) ![2, b.val, 0, 0, 0] S1x1x32x4x64.size inb)).set = _ from View.set_slice_whole _ _]
    have e0 : (i 0).val < 3 := (i 0).isLt
    have h2 : 2 ≤ (i 0).val := by by_contra hc; rw [if_pos (by omega)] at hk; omega
    rw [if_neg (by omega)] at hi' hk
    exact mem5 ⟨h2, e0⟩ ⟨by show b.val ≤ _; omega, by show _ < b.val + 1; omega⟩ ⟨Nat.zero_le _, by show _ < 0 + 32; rw [Nat.zero_add]; exact (i 2).isLt⟩
      ⟨Nat.zero_le _, by show _ < 0 + 4; rw [Nat.zero_add]; exact (i 3).isLt⟩ ⟨Nat.zero_le _, by show _ < 0 + 64; rw [Nat.zero_add]; exact (i 4).isLt⟩

theorem dl_bc {n : ℕ} {r : Rect S3x2x32x4x64} {hl} {p : Prog (TpuEff nD τ sig (Elt F) Λ₀ .tc) α} :
    KB A n ⊢ iprop((KB A n -∗ W' 0 Q p) -∗ W' 0 Q (.op (.load bcM r.toLoadRect hl) fun _ => p)) :=
  kn_ld (c := 0) (m := bcM) (r := r) (T := Finset.univ) (Finset.subset_univ _)

theorem kb_start : (iprop(∃ f, bcPts (F := F) 0 fullShare f) : sProp 𝕄) ⊢ KB A 0 := by
  refine (kn_start (BC A)).trans ?_
  unfold KB
  rw [show (Finset.univ.filter fun i : S3x2x32x4x64.Idx => (if (i 0).val < 2 then (i 0).val else 2 + (i 1).val) < 0) = ∅ from Finset.filter_false_of_mem fun i _ => Nat.not_lt_zero _]
theorem kb_done : KB A 4 ⊢ bcPts 0 fullShare (BC A) := by
  refine kn_done fun i _ => Finset.mem_filter.mpr ⟨Finset.mem_univ _, ?_⟩
  have e1 : (i 1).val < 2 := (i 1).isLt
  split <;> omega

/-! ## The window -/

/-- Columns `[o, o + n)` of device `c`'s window, the keys (and the values) stored. -/
def KW (o n m : ℕ) : sProp 𝕄 := Kn (wsL c) (reg o n) ((reg o n).filter fun i : S2x2x544x4x64.Idx => (i 0).val < m) (WS A c)

theorem ws_sub (t : Fin 2) {o n : ℕ} {inb} :
    (wsM.access (Rect.unit (s := S2x2x544x4x64) ![t.val, 0, o, 0, 0] ![1, 2, n, 4, 64] inb)).set ⊆ reg o n := by
  rw [show (wsM.access (Rect.unit (s := S2x2x544x4x64) ![t.val, 0, o, 0, 0] ![1, 2, n, 4, 64] inb)).set = _ from View.set_slice_whole _ _]
  intro i hi
  exact Finset.mem_filter.mpr ⟨Finset.mem_univ _, (Rect.mem_set_unit.mp hi) 2⟩

theorem st_ws (t : Fin 2) {o n m : ℕ} (hm : m = t.val) {inb : ∀ a, (![t.val, 0, o, 0, 0] : Fin 5 → ℕ) a + (![1, 2, n, 4, 64] : Fin 5 → ℕ) a ≤ S2x2x544x4x64.size a} {hx} {hm'}
    {w : (⟨5, ![1, 2, n, 4, 64]⟩ : Shape).Idx → Elt F .bf16}
    (hw : ∀ (i : (⟨5, ![1, 2, n, 4, 64]⟩ : Shape).Idx) (hb : o + (i 2).val < 544), WS A c (ix5 t (i 1) ⟨o + (i 2).val, hb⟩ (i 3) (i 4)) = w i)
    {k : PUnit → Prog (TpuEff nD τ sig (Elt F) Λ₀ .tc) α} :
    KW A c o n m ⊢ iprop((KW A c o n (m + 1) -∗ W' c Q (k ⟨⟩))
      -∗ W' c Q (.op (.store wsM (Rect.unit (s := S2x2x544x4x64) ![t.val, 0, o, 0, 0] ![1, 2, n, 4, 64] inb) w Finset.univ hx hm') k)) := by
  subst hm
  refine kn_st (c := c) (m := wsM) (r := Rect.unit (s := S2x2x544x4x64) ![t.val, 0, o, 0, 0] ![1, 2, n, 4, 64] inb) (T := reg o n) (G := WS A c)
    (funext fun i => (congrArg (WS A c) (emb5 i (ix5 t (i 1) ⟨o + (i 2).val, ?_⟩ (i 3) (i 4)) (z1 _ (i 0).isLt) (Nat.zero_add _) rfl (Nat.zero_add _) (Nat.zero_add _))).trans (hw i _)) (ws_sub t) ?_
  · have h1 : o + n ≤ 544 := inb 2
    have h2 : (i 2).val < n := (i 2).isLt
    omega
  · intro i hi
    have hi' := (Finset.mem_filter.mp hi).2
    rw [Finset.mem_union]
    by_cases hk : (i 0).val < t.val
    · exact Or.inl (Finset.mem_filter.mpr ⟨(Finset.mem_filter.mp hi).1, hk⟩)
    refine Or.inr ?_
    rw [show (wsM.access (Rect.unit (s := S2x2x544x4x64) ![t.val, 0, o, 0, 0] ![1, 2, n, 4, 64] inb)).set = _ from View.set_slice_whole _ _]
    have hr := (Finset.mem_filter.mp (Finset.mem_filter.mp hi).1).2
    exact mem5 ⟨by show t.val ≤ _; omega, by show _ < t.val + 1; omega⟩ ⟨Nat.zero_le _, by show _ < 0 + 2; rw [Nat.zero_add]; exact (i 1).isLt⟩ hr
      ⟨Nat.zero_le _, by show _ < 0 + 4; rw [Nat.zero_add]; exact (i 3).isLt⟩ ⟨Nat.zero_le _, by show _ < 0 + 64; rw [Nat.zero_add]; exact (i 4).isLt⟩

theorem dl_ws (t : Fin 2) {o n m : ℕ} {inb} {hl} {p : Prog (TpuEff nD τ sig (Elt F) Λ₀ .tc) α} :
    KW A c o n m ⊢ iprop((KW A c o n m -∗ W' c Q p)
      -∗ W' c Q (.op (.load wsM (Rect.unit (s := S2x2x544x4x64) ![t.val, 0, o, 0, 0] ![1, 2, n, 4, 64] inb).toLoadRect hl) fun _ => p)) :=
  kn_ld (c := c) (m := wsM) (r := Rect.unit (s := S2x2x544x4x64) ![t.val, 0, o, 0, 0] ![1, 2, n, 4, 64] inb) (T := reg o n) (ws_sub t)

theorem kw_start {o n : ℕ} : (iprop(∃ f, wsPts (F := F) c o n fullShare f) : sProp 𝕄) ⊢ KW A c o n 0 := by
  refine (kn_start (WS A c)).trans ?_
  unfold KW
  rw [show ((reg o n).filter fun i : S2x2x544x4x64.Idx => (i 0).val < 0) = ∅ from Finset.filter_false_of_mem fun i _ => Nat.not_lt_zero _]
theorem kw_done {o n : ℕ} : KW A c o n 2 ⊢ wsPts c o n fullShare (WS A c) :=
  kn_done fun i hi => Finset.mem_filter.mpr ⟨hi, (i 0).isLt⟩

/-! ## Device 0's own partial -/

theorem rx_sub {inb} : (rxM.access (Rect.unit (s := S32x2x4x32x66) ![0, 0, 0, 0, 0] S1x2x4x32x66.size inb)).set ⊆ sreg 0 := by
  rw [show (rxM.access (Rect.unit (s := S32x2x4x32x66) ![0, 0, 0, 0, 0] S1x2x4x32x66.size inb)).set = _ from View.set_slice_whole _ _]
  intro i hi
  refine Finset.mem_filter.mpr ⟨Finset.mem_univ _, ?_⟩
  have h : (i 0).val < 0 + 1 := ((Rect.mem_set_unit.mp hi) 0).2
  omega

/-- Slot 0 of the collected partial results, `n` stores done. -/
def KR (n : ℕ) : sProp 𝕄 := Kn (rxL 0) (sreg 0) ((sreg 0).filter fun _ => 0 < n) (PRX A)

theorem dl_rx {n : ℕ} {inb} {hl} {p : Prog (TpuEff nD τ sig (Elt F) Λ₀ .tc) α} :
    KR A n ⊢ iprop((KR A n -∗ W' 0 Q p)
      -∗ W' 0 Q (.op (.load rxM (Rect.unit (s := S32x2x4x32x66) ![0, 0, 0, 0, 0] S1x2x4x32x66.size inb).toLoadRect hl) fun _ => p)) :=
  kn_ld (c := 0) (m := rxM) (r := Rect.unit (s := S32x2x4x32x66) ![0, 0, 0, 0, 0] S1x2x4x32x66.size inb) (T := sreg 0) rx_sub

theorem st_rx0 {inb} {hx} {hm} {k : PUnit → Prog (TpuEff nD τ sig (Elt F) Λ₀ .tc) α} :
    KR A 0 ⊢ iprop((KR A 1 -∗ W' 0 Q (k ⟨⟩))
      -∗ W' 0 Q (.op (.store rxM (Rect.unit (s := S32x2x4x32x66) ![0, 0, 0, 0, 0] S1x2x4x32x66.size inb) (k0_pay178 (PART A 0)) Finset.univ hx hm) k)) := by
  refine kn_st (c := 0) (m := rxM) (r := Rect.unit (s := S32x2x4x32x66) ![0, 0, 0, 0, 0] S1x2x4x32x66.size inb) (T := sreg 0) (G := PRX A)
    (funext fun i => (congrArg (PRX A) (emb5 i (ix5 0 (i 1) (i 2) (i 3) (i 4)) (z1 0 (i 0).isLt) (Nat.zero_add _) (Nat.zero_add _) (Nat.zero_add _) (Nat.zero_add _))).trans ?_) rx_sub ?_
  · unfold PRX
    exact (if_pos rfl).trans (congrArg _ (ext5 _ _ (Fin.ext (z0 (i 0).isLt)) rfl rfl rfl rfl))
  · intro i hi
    have hi' : (i 0).val = 0 := (Finset.mem_filter.mp (Finset.mem_filter.mp hi).1).2
    refine Finset.mem_union.mpr (Or.inr ?_)
    rw [show (rxM.access (Rect.unit (s := S32x2x4x32x66) ![0, 0, 0, 0, 0] S1x2x4x32x66.size inb)).set = _ from View.set_slice_whole _ _]
    exact mem5 ⟨Nat.zero_le _, by show _ < 0 + 1; omega⟩ ⟨Nat.zero_le _, by show _ < 0 + 2; rw [Nat.zero_add]; exact (i 1).isLt⟩ ⟨Nat.zero_le _, by show _ < 0 + 4; rw [Nat.zero_add]; exact (i 2).isLt⟩
      ⟨Nat.zero_le _, by show _ < 0 + 32; rw [Nat.zero_add]; exact (i 3).isLt⟩ ⟨Nat.zero_le _, by show _ < 0 + 66; rw [Nat.zero_add]; exact (i 4).isLt⟩

theorem kr_start : (iprop(∃ f, rxPts (F := F) 0 f) : sProp 𝕄) ⊢ KR A 0 := by
  exact (kn_start (PRX A)).trans (kn_mono fun i hi => absurd (Finset.mem_filter.mp hi).2 (Nat.lt_irrefl 0))
theorem kr_done : KR A 1 ⊢ rxPts 0 (PRX A) :=
  kn_done fun i hi => Finset.mem_filter.mpr ⟨hi, Nat.zero_lt_one⟩

/-! ## The output -/

abbrev uL (c : Dev nD) : Loc nD τ sig := (c : Thread nD τ).loc cc0_stg5_0

/-- The output of local attention on device `c`, `n` batches stored. -/
def KU (n : ℕ) : sProp 𝕄 := Kn (uL c) Finset.univ (Finset.univ.filter fun i : S2x256x512.Idx => (i 0).val < n) (OUTL A c)

theorem dl_u {n : ℕ} {r : Rect S2x256x512} {hl} {p : Prog (TpuEff nD τ sig (Elt F) Λ₀ .tc) α} :
    KU A c n ⊢ iprop((KU A c n -∗ W' c Q p) -∗ W' c Q (.op (.load uM r.toLoadRect hl) fun _ => p)) :=
  kn_ld (c := c) (m := uM) (r := r) (T := Finset.univ) (Finset.subset_univ _)

theorem st_u (b : Fin 2) {n : ℕ} (hn : n = b.val) {inb} {hx} {hm} {w : Vec F S1x256x512 .f32}
    (hw : ∀ (i : S1x256x512.Idx), OUTL A c (ix3 b (i 1) (i 2)) = w (ix3 0 (i 1) (i 2))) {k : PUnit → Prog (TpuEff nD τ sig (Elt F) Λ₀ .tc) α} :
    KU A c n ⊢ iprop((KU A c (n + 1) -∗ W' c Q (k ⟨⟩))
      -∗ W' c Q (.op (.store uM (Rect.unit (s := S2x256x512) ![b.val, 0, 0] S1x256x512.size inb) w Finset.univ hx hm) k)) := by
  subst hn
  refine kn_st (c := c) (m := uM) (r := Rect.unit (s := S2x256x512) ![b.val, 0, 0] S1x256x512.size inb) (T := Finset.univ) (G := OUTL A c)
    (funext fun i => (congrArg (OUTL A c) (emb3 i (ix3 b (i 1) (i 2)) (z1 _ (i 0).isLt) (Nat.zero_add _) (Nat.zero_add _))).trans
      ((hw i).trans (congrArg w (ext3 _ _ (Fin.ext (z0 (i 0).isLt)) rfl rfl)))) (Finset.subset_univ _) ?_
  intro i hi
  rw [Finset.mem_union]
  by_cases hk : (i 0).val < b.val
  · exact Or.inl (Finset.mem_filter.mpr ⟨Finset.mem_univ _, hk⟩)
  · have hi' := (Finset.mem_filter.mp hi).2
    refine Or.inr ?_
    rw [show (uM.access (Rect.unit (s := S2x256x512) ![b.val, 0, 0] S1x256x512.size inb)).set = _ from View.set_slice_whole _ _]
    exact mem3 ⟨by show b.val ≤ _; omega, by show _ < b.val + 1; omega⟩ ⟨Nat.zero_le _, by show _ < 0 + 256; rw [Nat.zero_add]; exact (i 1).isLt⟩
      ⟨Nat.zero_le _, by show _ < 0 + 512; rw [Nat.zero_add]; exact (i 2).isLt⟩

theorem ku_start : (iprop(∃ f, uL c ↦{fullShare} f) : sProp 𝕄) ⊢ KU A c 0 :=
  (kn_start (OUTL A c)).trans (kn_mono fun i hi => absurd (Finset.mem_filter.mp hi).2 (Nat.not_lt_zero _))
theorem ku_done : KU A c 2 ⊢ (uL c ↦{fullShare} OUTL A c) :=
  kn_done fun i _ => Finset.mem_filter.mpr ⟨Finset.mem_univ _, (i 0).isLt⟩

/-- Device 0's output, the merged rows of `n` batches stored. -/
def KUG (n : ℕ) : sProp 𝕄 := Kn (uL 0) Finset.univ (Finset.univ.filter fun i : S2x256x512.Idx => 32 ≤ (i 1).val ∨ (i 0).val < n) (OUT A 0)

theorem dl_ug {n : ℕ} {r : Rect S2x256x512} {hl} {p : Prog (TpuEff nD τ sig (Elt F) Λ₀ .tc) α} :
    KUG A n ⊢ iprop((KUG A n -∗ W' 0 Q p) -∗ W' 0 Q (.op (.load uM r.toLoadRect hl) fun _ => p)) :=
  kn_ld (c := 0) (m := uM) (r := r) (T := Finset.univ) (Finset.subset_univ _)

theorem st_ug (b : Fin 2) {n : ℕ} (hn : n = b.val) {inb} {hx} {hm} {w : Vec F S1x32x512 .f32}
    (hw : ∀ (i : S1x32x512.Idx), OUT A 0 (ix3 b (Fin.castLE (by decide : 32 ≤ 256) (i 1)) (i 2)) = w (ix3 0 (i 1) (i 2)))
    {k : PUnit → Prog (TpuEff nD τ sig (Elt F) Λ₀ .tc) α} :
    KUG A n ⊢ iprop((KUG A (n + 1) -∗ W' 0 Q (k ⟨⟩))
      -∗ W' 0 Q (.op (.store uM (Rect.unit (s := S2x256x512) ![b.val, 0, 0] S1x32x512.size inb) w Finset.univ hx hm) k)) := by
  subst hn
  refine kn_st (c := 0) (m := uM) (r := Rect.unit (s := S2x256x512) ![b.val, 0, 0] S1x32x512.size inb) (T := Finset.univ) (G := OUT A 0)
    (funext fun i => (congrArg (OUT A 0) (emb3 i (ix3 b (Fin.castLE (by decide : 32 ≤ 256) (i 1)) (i 2)) (z1 _ (i 0).isLt) (Nat.zero_add _) (Nat.zero_add _))).trans
      ((hw i).trans (congrArg w (ext3 _ _ (Fin.ext (z0 (i 0).isLt)) rfl rfl)))) (Finset.subset_univ _) ?_
  intro i hi
  rw [Finset.mem_union]
  by_cases hk : 32 ≤ (i 1).val ∨ (i 0).val < b.val
  · exact Or.inl (Finset.mem_filter.mpr ⟨Finset.mem_univ _, hk⟩)
  · have hi' := (Finset.mem_filter.mp hi).2
    refine Or.inr ?_
    rw [show (uM.access (Rect.unit (s := S2x256x512) ![b.val, 0, 0] S1x32x512.size inb)).set = _ from View.set_slice_whole _ _]
    exact mem3 ⟨by show b.val ≤ _; omega, by show _ < b.val + 1; omega⟩ ⟨Nat.zero_le _, by show _ < 0 + 32; omega⟩
      ⟨Nat.zero_le _, by show _ < 0 + 512; rw [Nat.zero_add]; exact (i 2).isLt⟩

theorem kug_start : (uL 0 ↦{fullShare} OUTL A 0 : sProp 𝕄) ⊢ KUG A 0 := by
  refine kn_of fun i hi => ?_
  have hi' := (Finset.mem_filter.mp hi).2
  unfold OUT
  rw [dif_neg fun h => absurd h.2 (Nat.not_lt.mpr (hi'.resolve_right (Nat.not_lt_zero _)))]
theorem kug_done : KUG A 2 ⊢ (uL 0 ↦{fullShare} OUT A 0) :=
  kn_done fun i _ => Finset.mem_filter.mpr ⟨Finset.mem_univ _, Or.inr (i 0).isLt⟩

end Cert.KernelIdeal.Att

end
-- ==== Proof.KernelIdealFacts.lean ====
/-
Which branch each device takes, which device it addresses, and what the barrier hands over.
-/
module

public import proofs.«01_k».proof.Proof.KernelIdealSteps
public import proofs.«01_k».proof.Proof.KernelIdealStores

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Which branch a device takes -/

theorem cond1_iff (c : Dev nD) : k0_cond1 c = 1#1 ↔ c.val = 0 := by revert c; decide +kernel
theorem cond2_iff (c : Dev nD) : k0_cond2 c = 1#1 ↔ c.val ≠ 0 := by revert c; decide +kernel
theorem cond3_iff (c : Dev nD) : k0_cond3 c = 1#1 ↔ 0 < c.val ∧ c.val < 31 := by revert c; decide +kernel
theorem cond4_iff (c : Dev nD) : k0_cond4 c = 1#1 ↔ 1 < c.val := by revert c; decide +kernel
theorem cond9_iff (c : Dev nD) : k0_cond9 c = 1#1 ↔ c.val < 31 := by revert c; decide +kernel
theorem cond10_iff (c : Dev nD) : k0_cond10 c = 1#1 ↔ 0 < c.val := by revert c; decide +kernel
theorem cond11_iff (c : Dev nD) : k0_cond11 c = 1#1 ↔ c.val = 0 := by revert c; decide +kernel
theorem cond13_iff (c : Dev nD) : k0_cond13 c = 1#1 ↔ c.val ≠ 0 := by revert c; decide +kernel
theorem cond17_iff (c : Dev nD) : k0_cond17 c = 1#1 ↔ c.val = 0 := by revert c; decide +kernel
theorem cond21_iff (c : Dev nD) : k0_cond21 c = 1#1 ↔ c.val ≠ 0 := by revert c; decide +kernel

/-- A condition's word, from its bit. -/
abbrev cw (b : BitVec 1) : BitVec 1 := Scalar.cmpi .ne (Scalar.extui b : BitVec 32) 0#32

theorem h5_iff (c : Dev nD) : cw (Scalar.ori (Scalar.cmpi .eq (V2 c) 1#32) (Scalar.cmpi .eq (V2 c) 31#32)) = 1#1 ↔ c.val = 1 ∨ c.val = 31 := by
  revert c; decide +kernel
theorem h6_iff (c : Dev nD) : cw (Scalar.andi (Scalar.cmpi .sgt (V2 c) 1#32) (Scalar.cmpi .slt (V2 c) 31#32)) = 1#1 ↔ 1 < c.val ∧ c.val < 31 := by
  revert c; decide +kernel
theorem eq0_iff (c : Dev nD) : cw (Scalar.cmpi .eq (V2 c) 0#32) = 1#1 ↔ c.val = 0 := by revert c; decide +kernel
theorem eq31_iff (c : Dev nD) : cw (Scalar.cmpi .eq (V2 c) 31#32) = 1#1 ↔ c.val = 31 := by revert c; decide +kernel
theorem ne0_iff (c : Dev nD) : cw (Scalar.cmpi .ne (V2 c) 0#32) = 1#1 ↔ c.val ≠ 0 := by revert c; decide +kernel
theorem gt0_iff (c : Dev nD) : cw (Scalar.cmpi .sgt (V2 c) 0#32) = 1#1 ↔ 0 < c.val := by revert c; decide +kernel
theorem lt31_iff (c : Dev nD) : cw (Scalar.cmpi .slt (V2 c) 31#32) = 1#1 ↔ c.val < 31 := by revert c; decide +kernel

/-! ## Which device a device addresses -/

theorem dev33_eq (c : Dev nD) (h : 0 < c.val ∧ c.val < 31) : k0_dev33 c = (nxt c).val := by revert c; decide +kernel
theorem dev34_eq (c : Dev nD) (h : 1 < c.val) : k0_dev34 c = (prv c).val := by revert c; decide +kernel
theorem dev35_eq (c : Dev nD) (h : c.val < 31) : k0_dev35 c = (nxt c).val := by revert c; decide +kernel
theorem dev36_eq (c : Dev nD) (h : 0 < c.val) : k0_dev36 c = (prv c).val := by revert c; decide +kernel

theorem nxt_val {c : Dev nD} (h : c.val < 31) : (nxt c).val = c.val + 1 := by unfold nxt; rw [dif_pos (by omega)]
theorem prv_val (c : Dev nD) : (prv c).val = c.val - 1 := rfl

/-! ## The order of a device's contributions -/

theorem ord_b {c d : Dev nD} (h0 : c.val ≠ 0) : ord c (d, 0) = if d.val = 0 then 1 else if d.val = c.val + 1 then 2 else 3 :=
  (if_neg h0).trans (if_pos rfl)
theorem ord_b0 {c : Dev nD} (h0 : c.val ≠ 0) : ord c (0, 0) = 0 + 1 := (ord_b h0).trans (if_pos rfl)
theorem ord_bn {c : Dev nD} (h0 : c.val ≠ 0) (h : c.val < 31) : ord c (nxt c, 0) = 1 + 1 :=
  (ord_b h0).trans ((if_neg (by rw [nxt_val h]; omega)).trans (if_pos (nxt_val h)))
theorem ord_bp {c : Dev nD} (h1 : 1 < c.val) : ord c (prv c, 0) = 2 + 1 :=
  (ord_b (by omega)).trans ((if_neg (by rw [prv_val]; omega)).trans (if_neg (by rw [prv_val]; omega)))
theorem ord_3 {c d : Dev nD} (h0 : c.val ≠ 0) : ord c (d, 3) = 3 + 1 := (if_neg h0).trans rfl
theorem ord_4 {c d : Dev nD} (h0 : c.val ≠ 0) : ord c (d, 4) = 4 + 1 := (if_neg h0).trans rfl
theorem ord_38 {c d : Dev nD} (h0 : c.val ≠ 0) : ord c (d, 38) = 5 + 1 := (if_neg h0).trans rfl
theorem ord0_b {t : Dev nD} : ord 0 (t, 0) = t.val := rfl
theorem ord0_3 {t : Dev nD} : ord 0 (t, 3) = 31 + 1 := rfl
theorem ord0_36 {t : Dev nD} : ord 0 (t, 36) = 32 + t.val := rfl

/-! ## The units that a cell expects -/

theorem expc_bar (c : Dev nD) : expc c 0 = if c.val = 0 then 31 else if c.val = 1 ∨ c.val = 31 then 2 else 3 := by
  revert c; unfold expc amt; decide +kernel

theorem dut_one {c d : Dev nD} {k : Fin 39} (h : Pd c k d) (hu : ∀ d', Pd c k d' → d'.val = d.val) : dut c k = {d} := by
  ext d'; rw [mem_dut, Finset.mem_singleton]
  exact ⟨fun h' => Fin.ext (hu d' h'), fun h' => h' ▸ h⟩

theorem expc_one {c d : Dev nD} {k : Fin 39} (h : dut c k = {d}) : expc c k = amt k := by
  unfold expc; rw [h, Finset.card_singleton, Nat.one_mul]

/-! ## What the barrier signals hand over -/

/-- The right to contribute to cell `k` of device `d`. -/
abbrev tk (d : Dev nD) (k : Fin 39) (c : Dev nD) : sProp 𝕄 := dutyTok ER (kcell (d, k)) 0 c

/-- Some contents of a stretch of a device's window, of the shared buffer, of a slot. -/
abbrev wsX (c : Dev nD) (o n : ℕ) : sProp 𝕄 := iprop(∃ f, wsPts (F := F) c o n fullShare f)
abbrev bcX (c : Dev nD) : sProp 𝕄 := iprop(∃ f, bcPts (F := F) c fullShare f)
abbrev rxX (j : ℕ) : sProp 𝕄 := iprop(∃ f, rxPts (F := F) j f)

omit [FloatOps F] [Named F] in
theorem give_0 {c : Dev nD} (h : 1 < c.val) : (bcX c : sProp 𝕄) ⊢ barPay (F := F) 0 c := by
  unfold barPay
  rw [if_pos (show (0 : Dev nD).val = 0 from rfl), if_neg (show ¬ c.val = (0 : Dev nD).val + 1 from by show ¬ c.val = 0 + 1; omega),
    if_neg (show ¬ c.val + 1 = (0 : Dev nD).val from by show ¬ c.val + 1 = 0; omega), if_neg (by omega)]
  iintro H; iframe; isplitr; · iempintro
  isplitr <;> iempintro
omit [FloatOps F] [Named F] in
theorem give_01 {c : Dev nD} (h : c.val = 1) : iprop(bcX c ∗ wsX c 0 128 : sProp 𝕄) ⊢ barPay (F := F) 0 c := by
  unfold barPay
  rw [if_pos (show (0 : Dev nD).val = 0 from rfl), if_pos (show c.val = (0 : Dev nD).val + 1 from h),
    if_neg (show ¬ c.val + 1 = (0 : Dev nD).val from by show ¬ c.val + 1 = 0; omega), if_neg (by omega)]
  iintro ⟨H, H'⟩; iframe; isplitr <;> iempintro
omit [FloatOps F] [Named F] in
theorem give_nxt {c : Dev nD} (h0 : c.val ≠ 0) (h : c.val < 31) : (wsX c 384 128 : sProp 𝕄) ⊢ barPay (F := F) (nxt c) c := by
  unfold barPay
  have := nxt_val h
  rw [if_neg (by omega), if_neg (by omega), if_pos (by omega), if_neg (by omega)]
  iintro H; iframe
omit [FloatOps F] [Named F] in
theorem give_prv {c : Dev nD} (h : 1 < c.val) : (wsX c 0 128 : sProp 𝕄) ⊢ barPay (F := F) (prv c) c := by
  unfold barPay
  have := prv_val c
  rw [if_neg (by omega), if_pos (by omega), if_neg (by omega), if_neg (by omega)]
  iintro H; iframe; isplitr <;> iempintro
/-- What device 0 hands device `t`: the slot of its partial result, and to device 1 also the end of device 0's window. -/
theorem give0 {t : Dev nD} (h : 1 < t.val) : (rxX t.val : sProp 𝕄) ⊢ barPay (F := F) t 0 := by
  unfold barPay
  rw [if_neg (by omega), if_neg (show ¬ (0 : Dev nD).val = t.val + 1 from by show ¬ 0 = t.val + 1; omega),
    if_neg (show ¬ (0 : Dev nD).val + 1 = t.val from by show ¬ 0 + 1 = t.val; omega), if_pos (show (0 : Dev nD).val = 0 from rfl)]
  iintro H; iframe
theorem give01 : (iprop(wsX 0 384 128 ∗ rxX 1) : sProp 𝕄) ⊢ barPay (F := F) 1 0 := by
  unfold barPay
  rw [if_neg (show ¬ (1 : Dev nD).val = 0 from Nat.one_ne_zero), if_neg (show ¬ (0 : Dev nD).val = (1 : Dev nD).val + 1 from by decide),
    if_pos (show (0 : Dev nD).val + 1 = (1 : Dev nD).val from rfl), if_pos (show (0 : Dev nD).val = 0 from rfl)]
  iintro ⟨H, H'⟩
  isplitr; · iempintro
  isplitr; · iempintro
  isplitl [H]; · iexact H
  iexact H'

/-- What the round of a device's barrier brings it: the neighbours' ends of the window and its slot on device 0. -/
def BG (c : Dev nD) : sProp 𝕄 :=
  iprop(rxX (F := F) c.val ∗ wsX (F := F) (prv c) 384 128 ∗ (if c.val < 31 then wsX (F := F) (nxt c) 0 128 else iprop(emp)))

theorem bar_gain (A : Inp F) {c : Dev nD} (h0 : c.val ≠ 0) : bigSep (dut c 0) (pay A c 0) ⊢ BG (F := F) c := by
  have hc : c.val < 32 := c.isLt
  have hp := prv_val c
  have m0 : (0 : Dev nD) ∈ dut c 0 := mem_dut.mpr (Or.inl ⟨rfl, fun h => h0 h.symm, Or.inr (Or.inl rfl)⟩)
  have e : ∀ d, pay A c 0 d = barPay c d := fun d => if_pos rfl
  rw [bigSep_congr fun d _ => e d]
  rw [bigSep_erase m0]
  have g0 : barPay (F := F) c 0 ⊢ iprop(rxX (F := F) c.val ∗ (if c.val = 1 then wsX (F := F) (prv c) 384 128 else iprop(emp))) := by
    unfold barPay
    rw [if_neg h0, if_neg (show ¬ (0 : Dev nD).val = c.val + 1 from by show ¬ 0 = c.val + 1; omega), if_pos (show (0 : Dev nD).val = 0 from rfl)]
    by_cases h1 : c.val = 1
    · rw [if_pos h1, if_pos (show (0 : Dev nD).val + 1 = c.val from h1.symm), show prv c = 0 from Fin.ext (by show c.val - 1 = 0; omega)]
      iintro ⟨-, -, H1, H2⟩; iframe
    · rw [if_neg h1, if_neg (show ¬ (0 : Dev nD).val + 1 = c.val from by show ¬ 0 + 1 = c.val; omega)]
      iintro ⟨-, -, H1, H2⟩; iframe
  have gn : ∀ d : Dev nD, d.val = c.val + 1 → (barPay (F := F) c d ⊢ wsX (F := F) d 0 128) := fun d hd => by
    unfold barPay
    rw [if_neg h0, if_pos hd]
    iintro ⟨-, H, -, -⟩; iexact H
  have gp : ∀ d : Dev nD, d.val + 1 = c.val → (barPay (F := F) c d ⊢ wsX (F := F) d 384 128) := fun d hd => by
    unfold barPay
    rw [if_neg h0, if_pos hd]
    iintro ⟨-, -, H, -⟩; iexact H
  have el : ∀ (S : Finset (Dev nD)) (d : Dev nD), d ∈ S → (bigSep S (barPay (F := F) c) ⊢ barPay (F := F) c d) := fun S d hd => bigSep_elim hd
  have et : ∀ (S : Finset (Dev nD)) (d : Dev nD), d ∈ S → (bigSep S (barPay (F := F) c) ⊢ iprop(barPay (F := F) c d ∗ bigSep (S.erase d) (barPay (F := F) c))) :=
    fun S d hd => Entails.of_eq (bigSep_erase hd)
  have hnx : c.val < 31 → nxt c ∈ (dut c 0).erase 0 := fun h31 => Finset.mem_erase.mpr
    ⟨fun h => absurd (congrArg Fin.val h) (by rw [nxt_val h31]; show ¬ c.val + 1 = 0; omega), mem_dut.mpr (Or.inl ⟨rfl, by rw [nxt_val h31]; omega, by rw [nxt_val h31]; omega⟩)⟩
  have hpr : 1 < c.val → prv c ∈ (dut c 0).erase 0 := fun h1 => Finset.mem_erase.mpr
    ⟨fun h => absurd (congrArg Fin.val h) (by rw [hp]; show ¬ c.val - 1 = 0; omega), mem_dut.mpr (Or.inl ⟨rfl, by omega, by omega⟩)⟩
  unfold BG
  refine (show iprop(barPay (F := F) c 0 ∗ bigSep ((dut c 0).erase 0) (barPay (F := F) c)) ⊢ _ from ?_)
  iintro ⟨H0, HR⟩
  ihave H0' := g0 $$ H0
  icases H0' with ⟨Hrx, H0'⟩
  isplitl [Hrx]; · iexact Hrx
  by_cases h31 : c.val < 31
  · rw [if_pos h31]
    ihave HR2 := (et _ _ (hnx h31)) $$ HR
    icases HR2 with ⟨Hn, HR⟩
    ihave Hn' := (gn _ (nxt_val h31)) $$ Hn
    isplitl [H0' HR]
    · by_cases h1 : c.val = 1
      · ihave H := (Entails.of_eq (if_pos h1)) $$ H0'
        iexact H
      · ihave H := (el _ _ (Finset.mem_erase.mpr ⟨fun h => absurd (congrArg Fin.val h) (by rw [hp, nxt_val h31]; omega), hpr (by omega)⟩)) $$ HR
        iapply (gp _ (by omega)); iexact H
    · iexact Hn'
  · rw [if_neg h31]
    isplitl [HR]
    · ihave H := (el _ _ (hpr (by omega))) $$ HR
      iapply (gp _ (by omega)); iexact H
    · iempintro

end Cert.KernelIdeal.Att

end
-- ==== Proof.KernelIdealShake.lean ====
/-
The handshake of a device other than device 0.
-/
module

public import proofs.«01_k».proof.Proof.KernelIdealFacts

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## The handshake -/

/-- The wait on the barrier. -/
theorem bar_wait {c : Dev nD} (h0 : c.val ≠ 0) {n : ℕ} (hn : n = expc c 0) {α : Type} {Q : α → sProp 𝕄}
    {kk : PUnit → Prog (TpuEff nD τ sig (Elt F) Λ₀ .tc) α} :
    iprop(ctx A K ∗ ows c 3 ∗ AP c ∅ ∗ cred (tallyAt (kcell (c, 0)) () (expc c 0)))
      ⊢ iprop(((ows c 3 ∗ AP c {0} ∗ BG (F := F) c) -∗ W' c Q (kk ⟨⟩))
        -∗ W' c Q (.op (.semWait barS n) kk)) := by
  iintro H
  iintro HQ
  iapply (wait_step A K (c := c) 0 (D := ∅) (Finset.notMem_empty _) (i := 3)
    (fun x hx => by
      obtain ⟨hP, hk, hi⟩ := mem_ow.mp hx
      rcases hk with h | h | h | h | h
      · exfalso; unfold ord at hi; rw [if_neg h0, if_pos h] at hi; (split at hi; · omega); split at hi <;> omega
      all_goals (unfold lvk; simp [h])) hn (wpE_semWait_eq 𝒱₀ (c : Thread nD τ) none Set.univ)) $$ H
  iintro ⟨HO, HA, HG⟩
  iapply HQ
  isplitl [HO]; · iexact HO
  isplitl [HA]; · iexact HA
  iapply (bar_gain A h0); iexact HG

/-- What device `c` (not 0) gives to the handshake. -/
def BT (c : Dev nD) : sProp 𝕄 :=
  iprop(tk (F := F) 0 0 c ∗ bcX (F := F) c ∗ wsX (F := F) c 0 128 ∗ wsX (F := F) c 384 128
    ∗ (if c.val < 31 then tk (F := F) (nxt c) 0 c else iprop(emp)) ∗ (if 1 < c.val then tk (F := F) (prv c) 0 c else iprop(emp)))

/-- What it has after the handshake. -/
def BG' (c : Dev nD) : sProp 𝕄 := iprop(BG (F := F) c ∗ (if c.val < 31 then iprop(emp) else wsX (F := F) c 384 128))

theorem n38 {c : Dev nD} (h0 : c.val ≠ 0) {Q} :
    iprop(ctx A K ∗ ows c 0 ∗ AP c ∅ ∗ cred (tallyAt (kcell (c, 0)) () (expc c 0)) ∗ kPts c A ∗ BT c)
      ⊢ iprop((ows c 3 ∗ AP c {0} ∗ kPts c A ∗ BG' c -∗ Q ⟨c, V2 c, k0_pay106 (A.k c)⟩)
        -∗ W' c Q (k0_part38 xM hx qM hq kM hk vM hv oM ho uM hu wsM hws bcM hbc ptM hpt rxM hrx cxM hcx cc0_scratch5 cc0_scratch6 cc0_scratch7 cc0_scratch8 cc0_scratch9 cc0_scratch10)) := by
  have hc : c.val < 32 := c.isLt
  have P0 : Pd 0 0 c := Or.inl ⟨rfl, h0, Or.inl rfl⟩
  have i0 : ord c (0, 0) = 0 + 1 := ord_b0 h0
  have ex := expc_bar c
  rw [if_neg h0] at ex
  simp only [k0_part38_eq_skeleton]; unfold k0_part38_skel
  simp only [semSignalWord, semWaitWord, Prog.lift, Prog.bind_op, Prog.bind_ret, Prog.pure_eq_ret, wp_deviceId]
  simp only [dif_neg (mt (cond1_iff c).mp h0), dif_pos ((cond2_iff c).mpr h0), Prog.bind_op, Prog.bind_ret]
  unfold BT BG'
  by_cases h1 : 1 < c.val
  · have Pp : Pd (prv c) 0 c := Or.inl ⟨rfl, by rw [prv_val]; omega, Or.inr (Or.inr (Or.inr (by rw [prv_val]; omega)))⟩
    have ip : ord c (prv c, 0) = 2 + 1 := ord_bp h1
    simp only [dif_pos ((cond4_iff c).mpr h1), if_pos h1]
    by_cases h31 : c.val < 31
    · have Pn : Pd (nxt c) 0 c := Or.inl ⟨rfl, by rw [nxt_val h31]; omega, Or.inr (Or.inr (Or.inl (by rw [nxt_val h31])))⟩
      have i1 : ord c (nxt c, 0) = 1 + 1 := ord_bn h0 h31
      rw [if_neg (by omega)] at ex
      simp only [dif_pos ((cond3_iff c).mpr ⟨by omega, h31⟩), dif_neg (mt (h5_iff c).mp (by omega)), dif_pos ((h6_iff c).mpr ⟨h1, h31⟩), if_pos h31,
        Prog.bind_op, Prog.bind_ret]
      iintro ⟨#HR, HO, HA, HC, Hk, HT0, Hb, HA0, HD, HTn, HTp⟩
      iintro HQ
      iapply (sig_step A K (i := 0) (show _ = (0 : Dev nD) from rfl) P0 i0 (by decide)) $$ [HO HT0 Hb]
      · isplitr; · iexact HR
        isplitl [HO]; · iexact HO
        isplitl [HT0]; · iexact HT0
        iapply (give_0 h1); iexact Hb
      iintro HO
      iapply (sig_step A K (i := 1) (show _ = nxt c from Fin.ext (dev33_eq c ⟨by omega, h31⟩)) Pn i1 (by decide)) $$ [HO HTn HD]
      · isplitr; · iexact HR
        isplitl [HO]; · iexact HO
        isplitl [HTn]; · iexact HTn
        iapply (give_nxt h0 h31); iexact HD
      iintro HO
      iapply (sig_step A K (i := 2) (show _ = prv c from Fin.ext (dev34_eq c h1)) Pp ip (by decide)) $$ [HO HTp HA0]
      · isplitr; · iexact HR
        isplitl [HO]; · iexact HO
        isplitl [HTp]; · iexact HTp
        iapply (give_prv h1); iexact HA0
      iintro HO
      iapply (bar_wait A K h0 (show _ = _ from ex.symm)) $$ [HO HA HC]
      · isplitr; · iexact HR
        isplitl [HO]; · iexact HO
        isplitl [HA]; · iexact HA
        iexact HC
      iintro ⟨HO, HA, HG⟩
      iapply (ld_k c A) $$ Hk; iintro Hk
      iapply (w_ret c (Q := Q) ⟨c, V2 c, k0_pay106 (A.k c)⟩); iapply HQ
      isplitl [HO]; · iexact HO
      isplitl [HA]; · iexact HA
      isplitl [Hk]; · iexact Hk
      isplitl [HG]; · iexact HG
      iempintro
    · have e31 : c.val = 31 := by omega
      have sk : ow c 1 = ow c 2 := ow_skip c 1 2 (by omega) fun x hx hk h => by
        unfold ord at h; rw [if_neg h0] at h
        by_cases hz : x.2.val = 0
        · rw [if_pos hz] at h
          have hl : x.1.val < 32 := x.1.isLt
          split at h
          · omega
          · split at h <;> omega
        · rw [if_neg hz] at h; split at h; · omega
          split at h <;> omega
      rw [if_pos (by omega)] at ex
      simp only [dif_neg (mt (cond3_iff c).mp (by omega)), dif_pos ((h5_iff c).mpr (by omega)), dif_neg (mt (h6_iff c).mp (by omega)), if_neg h31,
        Prog.bind_op, Prog.bind_ret]
      iintro ⟨#HR, HO, HA, HC, Hk, HT0, Hb, HA0, HD, -, HTp⟩
      iintro HQ
      iapply (sig_step A K (i := 0) (show _ = (0 : Dev nD) from rfl) P0 i0 (by decide)) $$ [HO HT0 Hb]
      · isplitr; · iexact HR
        isplitl [HO]; · iexact HO
        isplitl [HT0]; · iexact HT0
        iapply (give_0 h1); iexact Hb
      iintro HO
      ihave HO := (Entails.of_eq (show ows (F := F) c (0 + 1) = ows c 2 by unfold ows; rw [show 0 + 1 = 1 from rfl, sk])) $$ HO
      iapply (sig_step A K (i := 2) (show _ = prv c from Fin.ext (dev34_eq c h1)) Pp ip (by decide)) $$ [HO HTp HA0]
      · isplitr; · iexact HR
        isplitl [HO]; · iexact HO
        isplitl [HTp]; · iexact HTp
        iapply (give_prv h1); iexact HA0
      iintro HO
      iapply (bar_wait A K h0 (show _ = _ from ex.symm)) $$ [HO HA HC]
      · isplitr; · iexact HR
        isplitl [HO]; · iexact HO
        isplitl [HA]; · iexact HA
        iexact HC
      iintro ⟨HO, HA, HG⟩
      iapply (ld_k c A) $$ Hk; iintro Hk
      iapply (w_ret c (Q := Q) ⟨c, V2 c, k0_pay106 (A.k c)⟩); iapply HQ
      isplitl [HO]; · iexact HO
      isplitl [HA]; · iexact HA
      isplitl [Hk]; · iexact Hk
      isplitl [HG]; · iexact HG
      iexact HD
  · have e1 : c.val = 1 := by omega
    have h31 : c.val < 31 := by omega
    have Pn : Pd (nxt c) 0 c := Or.inl ⟨rfl, by rw [nxt_val h31]; omega, Or.inr (Or.inr (Or.inl (by rw [nxt_val h31])))⟩
    have i1 : ord c (nxt c, 0) = 1 + 1 := ord_bn h0 h31
    have sk : ow c 2 = ow c 3 := ow_skip c 2 3 (by omega) fun x hx hk h => by
      unfold ord at h; rw [if_neg h0] at h
      by_cases hz : x.2.val = 0
      · rw [if_pos hz] at h
        split at h
        · omega
        · split at h
          · omega
          · unfold Pd at hx; omega
      · rw [if_neg hz] at h; split at h; · omega
        split at h <;> omega
    rw [if_pos (by omega)] at ex
    simp only [dif_pos ((cond3_iff c).mpr ⟨by omega, h31⟩), dif_neg (mt (cond4_iff c).mp h1), dif_pos ((h5_iff c).mpr (by omega)),
      dif_neg (mt (h6_iff c).mp (by omega)), if_pos h31, if_neg h1, Prog.bind_op, Prog.bind_ret]
    iintro ⟨#HR, HO, HA, HC, Hk, HT0, Hb, HA0, HD, HTn, -⟩
    iintro HQ
    iapply (sig_step A K (i := 0) (show _ = (0 : Dev nD) from rfl) P0 i0 (by decide)) $$ [HO HT0 Hb HA0]
    · isplitr; · iexact HR
      isplitl [HO]; · iexact HO
      isplitl [HT0]; · iexact HT0
      iapply (give_01 e1)
      isplitl [Hb]; · iexact Hb
      iexact HA0
    iintro HO
    iapply (sig_step A K (i := 1) (show _ = nxt c from Fin.ext (dev33_eq c ⟨by omega, h31⟩)) Pn i1 (by decide)) $$ [HO HTn HD]
    · isplitr; · iexact HR
      isplitl [HO]; · iexact HO
      isplitl [HTn]; · iexact HTn
      iapply (give_nxt h0 h31); iexact HD
    iintro HO
    ihave HO := (Entails.of_eq (show ows (F := F) c (1 + 1) = ows c 3 by unfold ows; rw [show 1 + 1 = 2 from rfl, sk])) $$ HO
    iapply (bar_wait A K h0 (show _ = _ from ex.symm)) $$ [HO HA HC]
    · isplitr; · iexact HR
      isplitl [HO]; · iexact HO
      isplitl [HA]; · iexact HA
      iexact HC
    iintro ⟨HO, HA, HG⟩
    iapply (ld_k c A) $$ Hk; iintro Hk
    iapply (w_ret c (Q := Q) ⟨c, V2 c, k0_pay106 (A.k c)⟩); iapply HQ
    isplitl [HO]; · iexact HO
    isplitl [HA]; · iexact HA
    isplitl [Hk]; · iexact Hk
    isplitl [HG]; · iexact HG
    iempintro

end Cert.KernelIdeal.Att

end
-- ==== Proof.KernelIdealWindow.lean ====
/-
The window: its stretches, the two sends to the neighbours, and the part of the program that fills it on a device other than device 0.
-/
module

public import proofs.«01_k».proof.Proof.KernelIdealFacts

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## The window by its stretches -/

omit [FloatOps F] [Named F] in
theorem ws_split {c : Dev nD} {o n m : ℕ} {q : PosShare TreeShare} {f : Buf (Elt F) (wsL c)} :
    (wsPts (F := F) c o (n + m) q f : sProp 𝕄) ⊣⊢ iprop(wsPts c o n q f ∗ wsPts c (o + n) m q f) := by
  have hd : Disjoint (reg o n) (reg (o + n) m) := Finset.disjoint_left.mpr fun i h h' => by
    have := (Finset.mem_filter.mp h).2; have := (Finset.mem_filter.mp h').2; omega
  have hu : reg o (n + m) = reg o n ∪ reg (o + n) m := by
    ext i; simp only [reg, Finset.mem_union, Finset.mem_filter, Finset.mem_univ, true_and]; omega
  unfold wsPts; rw [hu]; exact pointsTo_union hd

omit [FloatOps F] [Named F] in
theorem ws_halves {c : Dev nD} {o n : ℕ} {f : Buf (Elt F) (wsL c)} :
    (wsPts (F := F) c o n fullShare f : sProp 𝕄) ⊣⊢ iprop(wsPts c o n fullShare.left f ∗ wsPts c o n fullShare.right f) := by
  unfold wsPts; exact pointsTo_share (PosShare.mem_left_op_right fullShare)

omit [FloatOps F] [Named F] in
theorem ws_whole {c : Dev nD} {q : PosShare TreeShare} {f : Buf (Elt F) (wsL c)} :
    (wsPts (F := F) c 0 544 q f : sProp 𝕄) = (wsL c ↦{q} f) := by
  unfold wsPts
  rw [show reg 0 544 = Finset.univ from Finset.filter_true_of_mem fun i _ => ⟨Nat.zero_le _, by have : (i 2).val < 544 := (i 2).isLt; omega⟩]

theorem WS_lo {c : Dev nD} (t b : Fin 2) (h : Fin 4) (d : Fin 64) {j : ℕ} (hj : j < 544) (h1 : j < 128) :
    WS A c (ix5 t b ⟨j, hj⟩ h d) = if c.val = 0 then zL t (ix5 0 b ⟨j, h1⟩ h d) else kvs A (prv c) t (ix5 0 b ⟨j + 128, by omega⟩ h d) :=
  dif_pos h1
theorem WS_mid {c : Dev nD} (t b : Fin 2) (h : Fin 4) (d : Fin 64) {j : ℕ} (hj : j < 544) (h1 : 128 ≤ j) (h2 : j < 384) :
    WS A c (ix5 t b ⟨j, hj⟩ h d) = kvs A c t (ix5 0 b ⟨j - 128, by omega⟩ h d) :=
  (dif_neg (Nat.not_lt.mpr h1)).trans (dif_pos h2)
theorem WS_hi {c : Dev nD} (t b : Fin 2) (h : Fin 4) (d : Fin 64) {j : ℕ} (hj : j < 544) (h1 : 384 ≤ j) (h2 : j < 512) :
    WS A c (ix5 t b ⟨j, hj⟩ h d)
      = if c.val = 31 then zR t (ix5 0 b ⟨j - 384, by omega⟩ h d) else kvs A (nxt c) t (ix5 0 b ⟨j - 384, by omega⟩ h d) :=
  (dif_neg (show ¬ j < 128 by omega)).trans ((dif_neg (show ¬ j < 384 by omega)).trans (dif_pos h2))
theorem WS_end {c : Dev nD} (t b : Fin 2) (h : Fin 4) (d : Fin 64) {j : ℕ} (hj : j < 544) (h1 : 512 ≤ j) :
    WS A c (ix5 t b ⟨j, hj⟩ h d)
      = if c.val = 0 then zE t (ix5 0 b ⟨j - 512, by omega⟩ h d) else gE A t (ix5 0 b ⟨j - 512, by omega⟩ h d) :=
  (dif_neg (show ¬ j < 128 by omega)).trans ((dif_neg (show ¬ j < 384 by omega)).trans (dif_neg (show ¬ j < 512 by omega)))

/-! ## The stretches sent to the neighbours -/

/-- A stretch of 128 columns of the window, as a part of the buffer. -/
abbrev wsS (o : ℕ) (inb : ∀ a, (![0, 0, o, 0, 0] : Fin 5 → ℕ) a + S2x2x128x4x64.size a ≤ S2x2x544x4x64.size a) : Memref sig .tc .vmem S2x2x128x4x64 .bf16 :=
  wsM.slice (Rect.unit (s := S2x2x544x4x64) ![0, 0, o, 0, 0] S2x2x128x4x64.size inb) (fun _ => rfl)

theorem wsS_set (o : ℕ) (inb) : (wsS o inb).view.set = reg o 128 := by
  rw [show (wsS o inb).view.set = _ from View.set_slice_whole _ _]
  ext i
  simp only [Rect.mem_set_unit, reg, Finset.mem_filter, Finset.mem_univ, true_and]
  constructor
  · intro h; exact h 2
  · intro h a
    fin_cases a
    · exact ⟨Nat.zero_le _, show (i 0).val < 0 + 2 from by have : (i 0).val < 2 := (i 0).isLt; omega⟩
    · exact ⟨Nat.zero_le _, show (i 1).val < 0 + 2 from by have : (i 1).val < 2 := (i 1).isLt; omega⟩
    · exact h
    · exact ⟨Nat.zero_le _, show (i 3).val < 0 + 4 from by have : (i 3).val < 4 := (i 3).isLt; omega⟩
    · exact ⟨Nat.zero_le _, show (i 4).val < 0 + 64 from by have : (i 4).val < 64 := (i 4).isLt; omega⟩

omit [FloatOps F] [Named F] in
theorem wsS_pts (c : Dev nD) (o : ℕ) (inb) (q : PosShare TreeShare) (f : Buf (Elt F) (wsL c)) :
    (wsPts (F := F) c o 128 q f : sProp 𝕄) = ((wsS o inb).view.loc (c : Thread nD τ) ↦[(wsS o inb).view.set]{q} f) := by
  unfold wsPts; rw [wsS_set]

theorem wsS_land {c n : Dev nD} {o o' : ℕ} {inb inb'} {fd : Buf (Elt F) ((wsS o' inb').view.loc (n : Thread nD τ))}
    (h : ∀ (t b : Fin 2) (h : Fin 4) (d : Fin 64) (j : Fin 128) (hj : o + j.val < 544) (hj' : o' + j.val < 544),
      WS A c (ix5 t b ⟨o + j.val, hj⟩ h d) = WS A n (ix5 t b ⟨o' + j.val, hj'⟩ h d)) :
    ((wsS o' inb').view.loc (n : Thread nD τ) ↦[(wsS o' inb').view.set]{fullShare}
        ((wsS o' inb').view.write (Elt F) fd ((wsS o inb).view.read (Elt F) (WS A c)) Finset.univ) : sProp 𝕄)
      ⊢ wsPts n o' 128 fullShare (WS A n) := by
  have e : (wsS o inb).view.read (Elt F) (WS A c) = (wsS o' inb').view.read (Elt F) (WS A n) := by
    funext i
    have hj : o + (i 2).val < 544 := by have := inb 2; have h2 : (i 2).val < 128 := (i 2).isLt; simp at this; omega
    have hj' : o' + (i 2).val < 544 := by have := inb' 2; have h2 : (i 2).val < 128 := (i 2).isLt; simp at this; omega
    refine (congrArg (WS A c) (emb5 i (ix5 (i 0) (i 1) ⟨o + (i 2).val, hj⟩ (i 3) (i 4)) (Nat.zero_add _) (Nat.zero_add _) rfl (Nat.zero_add _) (Nat.zero_add _))).trans
      ((h _ _ _ _ _ hj hj').trans (congrArg (WS A n) (emb5 i (ix5 (i 0) (i 1) ⟨o' + (i 2).val, hj'⟩ (i 3) (i 4)) (Nat.zero_add _) (Nat.zero_add _) rfl (Nat.zero_add _) (Nat.zero_add _))).symm)
  rw [e, View.write_read_eq_piecewise, View.setOn_univ,
    pointsTo_congr (g := WS A n) fun i hi => Finset.piecewise_eq_of_mem _ _ _ hi, wsS_set]
  exact .rfl

theorem land_right {c : Dev nD} (h : c.val < 31) {inb inb'} {fd} :
    ((wsS 0 inb').view.loc (nxt c : Thread nD τ) ↦[(wsS 0 inb').view.set]{fullShare}
        ((wsS 0 inb').view.write (Elt F) fd ((wsS 256 inb).view.read (Elt F) (WS A c)) Finset.univ) : sProp 𝕄)
      ⊢ wsPts (nxt c) 0 128 fullShare (WS A (nxt c)) :=
  wsS_land A fun t b hd d j hj hj' => by
    have e : prv (nxt c) = c := Fin.ext (by rw [prv_val, nxt_val h]; omega)
    rw [WS_mid A t b hd d hj (by omega) (by omega), WS_lo A t b hd d hj' (by omega), if_neg (by rw [nxt_val h]; omega), e]
    congr 2; exact Fin.ext (by simp; omega)

theorem land_left {c : Dev nD} (h : c.val ≠ 0) {inb inb'} {fd} :
    ((wsS 384 inb').view.loc (prv c : Thread nD τ) ↦[(wsS 384 inb').view.set]{fullShare}
        ((wsS 384 inb').view.write (Elt F) fd ((wsS 128 inb).view.read (Elt F) (WS A c)) Finset.univ) : sProp 𝕄)
      ⊢ wsPts (prv c) 384 128 fullShare (WS A (prv c)) :=
  wsS_land A fun t b hd d j hj hj' => by
    have hc : c.val < 32 := c.isLt
    have e : nxt (prv c) = c := Fin.ext (by rw [nxt_val (by rw [prv_val]; omega), prv_val]; omega)
    rw [WS_mid A t b hd d hj (by omega) (by omega), WS_hi A t b hd d hj' (by omega) (by omega), if_neg (by rw [prv_val]; omega), e]
    congr 2; exact Fin.ext (by simp)

theorem send_right {c : Dev nD} (h : c.val < 31) {i : ℕ} (hi : ord c (nxt c, 3) = i + 1) {n : Dev nD} (hn : n = nxt c)
    {inb inb'} {hsc} {sS sem : SemLoc sig} (hS : sS = csem 2) (hR : sem = csem 3) {hsrc} {hdst} {hsem} {α : Type} {Q : α → sProp 𝕄}
    {kk : PUnit → Prog (TpuEff nD τ sig (Elt F) Λ₀ .tc) α} :
    iprop(ctx A K ∗ ows c i ∗ tk c 2 c ∗ tk (nxt c) 3 c ∗ wsPts c 256 128 fullShare.right (WS A c) ∗ wsX (F := F) (nxt c) 0 128)
      ⊢ iprop(((ows c (i + 1) ∗ cred (tallyAt (kcell (c, 2)) () Nh)) -∗ W' c Q (kk ⟨⟩))
        -∗ W' c Q (.op (.enqueueDma (wsS 256 inb) (.remote (n : Thread nD τ) (wsS 0 inb') sS hsc) sem hsrc hdst hsem) kk)) := by
  have h₁ : Pd c 2 c := Or.inr (Or.inr (Or.inl ⟨rfl, by omega, rfl⟩))
  have h₂ : Pd (nxt c) 3 c := Or.inr (Or.inr (Or.inr (Or.inl ⟨rfl, by rw [nxt_val h]; omega, (nxt_val h).symm⟩)))
  iintro ⟨#HR, HO, HT1, HT2, HS, ⟨%fd, HD⟩⟩
  iintro HQ
  iapply (send_step A K (c := c) (c' := nxt c) 2 3 hn h₁ h₂ (Or.inr (Or.inl rfl)) hi hS hR (dst := wsS 0 inb') (src := wsS 256 inb)
    (q := fullShare.right) (fs := WS A c) (fd := fd) Nh (by subst hR; rfl) rfl rfl
    (by rw [wsS_set]; exact .rfl) (land_right A h)) $$ [HO HT1 HT2 HS HD]
  · isplitr; · iexact HR
    isplitl [HO]; · iexact HO
    isplitl [HT1]; · iexact HT1
    isplitl [HT2]; · iexact HT2
    isplitl [HS]; · iapply (Entails.of_eq (wsS_pts c 256 inb _ _)); iexact HS
    iapply (Entails.of_eq (wsS_pts (nxt c) 0 inb' _ _)); iexact HD
  iexact HQ

theorem send_left {c : Dev nD} (h : c.val ≠ 0) {i : ℕ} (hi : ord c (prv c, 4) = i + 1) {n : Dev nD} (hn : n = prv c)
    {inb inb'} {hsc} {sS sem : SemLoc sig} (hS : sS = csem 1) (hR : sem = csem 4) {hsrc} {hdst} {hsem} {α : Type} {Q : α → sProp 𝕄}
    {kk : PUnit → Prog (TpuEff nD τ sig (Elt F) Λ₀ .tc) α} :
    iprop(ctx A K ∗ ows c i ∗ tk c 1 c ∗ tk (prv c) 4 c ∗ wsPts c 128 128 fullShare.right (WS A c) ∗ wsX (F := F) (prv c) 384 128)
      ⊢ iprop(((ows c (i + 1) ∗ cred (tallyAt (kcell (c, 1)) () Nh)) -∗ W' c Q (kk ⟨⟩))
        -∗ W' c Q (.op (.enqueueDma (wsS 128 inb) (.remote (n : Thread nD τ) (wsS 384 inb') sS hsc) sem hsrc hdst hsem) kk)) := by
  have hc : c.val < 32 := c.isLt
  have h₁ : Pd c 1 c := Or.inr (Or.inl ⟨rfl, h, rfl⟩)
  have h₂ : Pd (prv c) 4 c := Or.inr (Or.inr (Or.inr (Or.inr (Or.inl ⟨rfl, by rw [prv_val]; omega, by rw [prv_val]; omega⟩))))
  iintro ⟨#HR, HO, HT1, HT2, HS, ⟨%fd, HD⟩⟩
  iintro HQ
  iapply (send_step A K (c := c) (c' := prv c) 1 4 hn h₁ h₂ (Or.inr (Or.inr (Or.inl rfl))) hi hS hR (dst := wsS 384 inb') (src := wsS 128 inb)
    (q := fullShare.right) (fs := WS A c) (fd := fd) Nh (by subst hR; rfl) rfl rfl
    (by rw [wsS_set]; exact .rfl) (land_left A h)) $$ [HO HT1 HT2 HS HD]
  · isplitr; · iexact HR
    isplitl [HO]; · iexact HO
    isplitl [HT1]; · iexact HT1
    isplitl [HT2]; · iexact HT2
    isplitl [HS]; · iapply (Entails.of_eq (wsS_pts c 128 inb _ _)); iexact HS
    iapply (Entails.of_eq (wsS_pts (prv c) 384 inb' _ _)); iexact HD
  iexact HQ

/-! ## Storing into the window -/

theorem hw_mid (c : Dev nD) (t : Fin 2) : ∀ (i : (⟨5, ![1, 2, 256, 4, 64]⟩ : Shape).Idx) (hb : 128 + (i 2).val < 544),
    WS A c (ix5 t (i 1) ⟨128 + (i 2).val, hb⟩ (i 3) (i 4)) = kvs A c t i := fun i hb => by
  have h2 : (i 2).val < 256 := (i 2).isLt
  refine (WS_mid A t _ _ _ hb (by omega) (by omega)).trans (congrArg (kvs A c t) (ext5 _ _ (Fin.ext (z0 (i 0).isLt)) rfl (Fin.ext ?_) rfl rfl))
  show 128 + (i 2).val - 128 = (i 2).val; omega
theorem hw_lo {c : Dev nD} (h : c.val = 0) (t : Fin 2) : ∀ (i : (⟨5, ![1, 2, 128, 4, 64]⟩ : Shape).Idx) (hb : 0 + (i 2).val < 544),
    WS A c (ix5 t (i 1) ⟨0 + (i 2).val, hb⟩ (i 3) (i 4)) = zL t i := fun i hb => by
  have h2 : (i 2).val < 128 := (i 2).isLt
  refine (WS_lo A t _ _ _ hb (by omega)).trans ((if_pos h).trans (congrArg (zL t) (ext5 _ _ (Fin.ext (z0 (i 0).isLt)) rfl (Fin.ext ?_) rfl rfl)))
  show 0 + (i 2).val = (i 2).val; omega
theorem hw_hi {c : Dev nD} (h : c.val = 31) (t : Fin 2) : ∀ (i : (⟨5, ![1, 2, 128, 4, 64]⟩ : Shape).Idx) (hb : 384 + (i 2).val < 544),
    WS A c (ix5 t (i 1) ⟨384 + (i 2).val, hb⟩ (i 3) (i 4)) = zR t i := fun i hb => by
  have h2 : (i 2).val < 128 := (i 2).isLt
  refine (WS_hi A t _ _ _ hb (by omega) (by omega)).trans ((if_pos h).trans (congrArg (zR t) (ext5 _ _ (Fin.ext (z0 (i 0).isLt)) rfl (Fin.ext ?_) rfl rfl)))
  show 384 + (i 2).val - 384 = (i 2).val; omega
theorem hw_end0 {c : Dev nD} (h : c.val = 0) (t : Fin 2) : ∀ (i : (⟨5, ![1, 2, 32, 4, 64]⟩ : Shape).Idx) (hb : 512 + (i 2).val < 544),
    WS A c (ix5 t (i 1) ⟨512 + (i 2).val, hb⟩ (i 3) (i 4)) = zE t i := fun i hb => by
  refine (WS_end A t _ _ _ hb (by omega)).trans ((if_pos h).trans (congrArg (zE t) (ext5 _ _ (Fin.ext (z0 (i 0).isLt)) rfl (Fin.ext ?_) rfl rfl)))
  show 512 + (i 2).val - 512 = (i 2).val; omega
theorem hw_end {c : Dev nD} (h : c.val ≠ 0) (t : Fin 2) : ∀ (i : (⟨5, ![1, 2, 32, 4, 64]⟩ : Shape).Idx) (hb : 512 + (i 2).val < 544),
    WS A c (ix5 t (i 1) ⟨512 + (i 2).val, hb⟩ (i 3) (i 4)) = gE A t i := fun i hb => by
  refine (WS_end A t _ _ _ hb (by omega)).trans ((if_neg h).trans (congrArg (gE A t) (ext5 _ _ (Fin.ext (z0 (i 0).isLt)) rfl (Fin.ext ?_) rfl rfl)))
  show 512 + (i 2).val - 512 = (i 2).val; omega

/-- Device `c`'s own stretch stored, split for the two sends. -/
theorem ws_own {c : Dev nD} : KW A c 128 256 2
    ⊢ iprop(wsPts c 128 128 fullShare.left (WS A c) ∗ wsPts c 128 128 fullShare.right (WS A c)
      ∗ wsPts c 256 128 fullShare.left (WS A c) ∗ wsPts c 256 128 fullShare.right (WS A c)) := by
  iintro H
  ihave H := (kw_done A c) $$ H
  ihave H := (ws_split (n := 128) (m := 128)).1 $$ H
  icases H with ⟨H1, H2⟩
  ihave H1 := ws_halves.1 $$ H1
  ihave H2 := ws_halves.1 $$ H2
  icases H1 with ⟨H1, H1'⟩
  icases H2 with ⟨H2, H2'⟩
  isplitl [H1]; · iexact H1
  isplitl [H1']; · iexact H1'
  isplitl [H2]; · iexact H2
  iexact H2'

/-! ## A device other than device 0 fills its window and sends both its ends -/

/-- What device `c` (not 0) has for this. -/
def HT (c : Dev nD) : sProp 𝕄 :=
  iprop(tk (F := F) c 1 c ∗ tk (F := F) (prv c) 4 c ∗ wsX (F := F) (prv c) 384 128
    ∗ (if c.val < 31 then iprop(tk (F := F) c 2 c ∗ tk (F := F) (nxt c) 3 c ∗ wsX (F := F) (nxt c) 0 128) else wsX (F := F) c 384 128))

/-- What it has after. -/
def HG (c : Dev nD) : sProp 𝕄 :=
  iprop(wsPts c 128 128 fullShare.left (WS A c) ∗ wsPts c 256 128 fullShare.left (WS A c) ∗ cred (tallyAt (kcell (c, 1)) () Nh)
    ∗ (if c.val < 31 then cred (tallyAt (kcell (c, 2)) () Nh) else iprop(wsPts c 256 128 fullShare.right (WS A c) ∗ wsPts c 384 128 fullShare (WS A c))))

theorem n39 {c : Dev nD} (h0 : c.val ≠ 0) {Q} :
    iprop(ctx A K ∗ ows c 3 ∗ vPts c A ∗ qPts c A ∗ xPts c A ∗ wsX (F := F) c 128 256 ∗ HT (F := F) c)
      ⊢ iprop((ows c 5 ∗ vPts c A ∗ qPts c A ∗ xPts c A ∗ HG A c -∗ Q ⟨k0_pay118 (A.wq c), k0_pay119 (A.wq c) (xsl A c 0)⟩)
        -∗ W' c Q (k0_part39 xM hx qM hq kM hk vM hv oM ho uM hu wsM hws bcM hbc ptM hpt rxM hrx cxM hcx cc0_scratch5 cc0_scratch6 cc0_scratch7 cc0_scratch8 cc0_scratch9 cc0_scratch10 c (V2 c) (k0_pay106 (A.k c)))) := by
  have hc : c.val < 32 := c.isLt
  simp only [k0_part39_eq_skeleton]; unfold k0_part39_skel
  simp only [Prog.lift, Prog.bind_op, Prog.bind_ret, Prog.pure_eq_ret]
  simp only [dif_neg (mt (eq0_iff c).mp h0), dif_pos ((cond10_iff c).mpr (by omega)), Prog.bind_op, Prog.bind_ret]
  unfold HT HG
  by_cases h31 : c.val < 31
  · simp only [dif_neg (mt (eq31_iff c).mp (by omega)), dif_pos ((cond9_iff c).mpr h31), if_pos h31, Prog.bind_op, Prog.bind_ret]
    iintro ⟨#HR, HO, Hv, Hq, Hx, HM, HT1, HT4, HP, HT2, HT3, HN⟩
    iintro HQ
    ihave HM := (kw_start A c) $$ HM
    iapply (dl_ws A c 0) $$ HM; iintro HM
    iapply (st_ws A c 0 (m := 0) (w := k0_pay107 (k0_pay106 (A.k c))) rfl (hw_mid A c 0)) $$ HM; iintro HM
    iapply (ld_v c A) $$ Hv; iintro Hv
    iapply (dl_ws A c 1) $$ HM; iintro HM
    iapply (st_ws A c 1 (m := 1) (w := k0_pay108 (A.v c)) rfl (hw_mid A c 1)) $$ HM; iintro HM
    ihave HM := (ws_own A) $$ HM
    icases HM with ⟨HB, HB', HC, HC'⟩
    iapply (send_right A K h31 (ord_3 h0) (Fin.ext (dev35_eq c h31)) rfl rfl) $$ [HO HT2 HT3 HC' HN]
    · isplitr; · iexact HR
      isplitl [HO]; · iexact HO
      isplitl [HT2]; · iexact HT2
      isplitl [HT3]; · iexact HT3
      isplitl [HC']; · iexact HC'
      iexact HN
    iintro ⟨HO, Hc2⟩
    iapply (send_left A K h0 (ord_4 h0) (Fin.ext (dev36_eq c (by omega))) rfl rfl) $$ [HO HT1 HT4 HB' HP]
    · isplitr; · iexact HR
      isplitl [HO]; · iexact HO
      isplitl [HT1]; · iexact HT1
      isplitl [HT4]; · iexact HT4
      isplitl [HB']; · iexact HB'
      iexact HP
    iintro ⟨HO, Hc1⟩
    iapply (ld_q c A) $$ Hq; iintro Hq
    iapply (ld_x c A 0) $$ Hx; iintro Hx
    iapply (w_ret c (Q := Q) ⟨k0_pay118 (A.wq c), k0_pay119 (A.wq c) (xsl A c 0)⟩); iapply HQ
    isplitl [HO]; · iexact HO
    iframe
  · have sk : ow c 3 = ow c 4 := ow_skip c 3 4 (by omega) fun x hx hk h => by
      unfold ord at h; rw [if_neg h0] at h
      split at h
      · split at h
        · omega
        · split at h <;> omega
      · split at h
        · unfold Pd at hx
          have hl : x.1.val < 32 := x.1.isLt
          omega
        · split at h <;> omega
    simp only [dif_pos ((eq31_iff c).mpr (by omega)), dif_neg (mt (cond9_iff c).mp h31), if_neg h31, Prog.bind_op, Prog.bind_ret]
    iintro ⟨#HR, HO, Hv, Hq, Hx, HM, HT1, HT4, HP, HD⟩
    iintro HQ
    ihave HM := (kw_start A c) $$ HM
    iapply (dl_ws A c 0) $$ HM; iintro HM
    iapply (st_ws A c 0 (m := 0) (w := k0_pay107 (k0_pay106 (A.k c))) rfl (hw_mid A c 0)) $$ HM; iintro HM
    iapply (ld_v c A) $$ Hv; iintro Hv
    iapply (dl_ws A c 1) $$ HM; iintro HM
    iapply (st_ws A c 1 (m := 1) (w := k0_pay108 (A.v c)) rfl (hw_mid A c 1)) $$ HM; iintro HM
    ihave HM := (ws_own A) $$ HM
    icases HM with ⟨HB, HB', HC, HC'⟩
    ihave HD := (kw_start A c) $$ HD
    iapply (dl_ws A c 0) $$ HD; iintro HD
    iapply (st_ws A c 0 (m := 0) (w := k0_pay116) rfl (hw_hi A (c := c) (by omega) 0)) $$ HD; iintro HD
    iapply (dl_ws A c 1) $$ HD; iintro HD
    iapply (st_ws A c 1 (m := 1) (w := k0_pay117) rfl (hw_hi A (c := c) (by omega) 1)) $$ HD; iintro HD
    ihave HD := (kw_done A c) $$ HD
    ihave HO := (Entails.of_eq (show ows (F := F) c 3 = ows c 4 by unfold ows; rw [sk])) $$ HO
    iapply (send_left A K h0 (ord_4 h0) (Fin.ext (dev36_eq c (by omega))) rfl rfl) $$ [HO HT1 HT4 HB' HP]
    · isplitr; · iexact HR
      isplitl [HO]; · iexact HO
      isplitl [HT1]; · iexact HT1
      isplitl [HT4]; · iexact HT4
      isplitl [HB']; · iexact HB'
      iexact HP
    iintro ⟨HO, Hc1⟩
    iapply (ld_q c A) $$ Hq; iintro Hq
    iapply (ld_x c A 0) $$ Hx; iintro Hx
    iapply (w_ret c (Q := Q) ⟨k0_pay118 (A.wq c), k0_pay119 (A.wq c) (xsl A c 0)⟩); iapply HQ
    isplitl [HO]; · iexact HO
    iframe

end Cert.KernelIdeal.Att

end
-- ==== Proof.KernelIdealReceive.lean ====
/-
The waits for one transfer: the shared buffer on the other devices, the neighbours' ends of the window, and the sending of the partial results.
-/
module

public import proofs.«01_k».proof.Proof.KernelIdealWindow

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## Waits for one transfer -/

theorem pay_one {c d : Dev nD} {k : Fin 39} (h : dut c k = {d}) : (bigSep (dut c k) (pay A c k) : sProp 𝕄) = pay A c k d := by
  rw [h, bigSep_singleton]

/-- The credit for the whole round of cell `k` of device `c`. -/
abbrev cr (c : Dev nD) (k : Fin 39) : sProp 𝕄 := cred (tallyAt (kcell (c, k)) () (expc c k))

/-- A wait on a cell with one contribution, which hands over `P`. -/
theorem wait_one {c d : Dev nD} (k : Fin 39) (D : Finset (Fin 39)) (hd : dut c k = {d}) (hD : k ∉ D) {i : ℕ} (hlt : ∀ x ∈ ow c i, lvk k < lvk x.2)
    {sp sp' : Space} {s s' : Shape} {e e' : EltTy} {sem : DmaSem sig} {src : Memref sig .tc sp' s' e'} {κ' : Kind} {dst : Memref sig κ' sp s e}
    {hsrc : src.view.WordExact} {hdst : dst.view.WordExact} (hs : SemLoc.dma sem = csem k) (hn : dst.view.dmaCredit = amt k)
    {P : sProp 𝕄} (hp : pay A c k d ⊢ P)
    {α : Type} {Q : α → sProp 𝕄} {kk : PUnit → Prog (TpuEff nD τ sig (Elt F) Λ₀ .tc) α} :
    iprop(ctx A K ∗ ows c i ∗ AP c D ∗ cr (F := F) c k)
      ⊢ iprop(((ows c i ∗ AP c (insert k D) ∗ P) -∗ W' c Q (kk ⟨⟩)) -∗ W' c Q (.op (.waitDma2 sem src dst hsrc hdst) kk)) := by
  have H := wait_step A K (Q := Q) (kk := kk) (w := .waitDma2 sem src dst hsrc hdst) k hD hlt (hn.trans (expc_one hd).symm)
    (fun K' => by rw [← hs]; rfl)
  rw [pay_one A hd] at H
  refine H.trans (wand_mono (wand_mono ?_ .rfl) .rfl)
  exact sep_mono .rfl (sep_mono .rfl hp)

theorem dut_1 {c : Dev nD} (h : c.val ≠ 0) : dut c 1 = {c} := dut_one (Or.inr (Or.inl ⟨rfl, h, rfl⟩)) fun d' h' => by simp [Pd] at h'; omega
theorem dut_2 {c : Dev nD} (h : c.val < 31) : dut c 2 = {c} :=
  dut_one (Or.inr (Or.inr (Or.inl ⟨rfl, by omega, rfl⟩))) fun d' h' => by simp [Pd] at h'; omega
theorem dut_3 {c : Dev nD} (h : c.val ≠ 0) : dut c 3 = {prv c} :=
  dut_one (Or.inr (Or.inr (Or.inr (Or.inl ⟨rfl, h, by rw [prv_val]; omega⟩)))) fun d' h' => by rw [prv_val]; simp [Pd] at h'; omega
theorem dut_4 {c : Dev nD} (h : c.val < 31) : dut c 4 = {nxt c} :=
  dut_one (Or.inr (Or.inr (Or.inr (Or.inr (Or.inl ⟨rfl, by omega, nxt_val h⟩))))) fun d' h' => by rw [nxt_val h]; simp [Pd] at h'; omega
theorem dut_36 {c : Dev nD} (h : c.val ≠ 0) : dut c 36 = {0} :=
  dut_one (Or.inr (Or.inr (Or.inr (Or.inr (Or.inr (Or.inr (Or.inl ⟨rfl, h, rfl⟩))))))) fun d' h' => by
    simp [Pd] at h'; rw [h'.2]
theorem dut_37 {c : Dev nD} (h : c.val ≠ 0) : dut c 37 = {c} :=
  dut_one (Or.inr (Or.inr (Or.inr (Or.inr (Or.inr (Or.inr (Or.inr (Or.inl ⟨rfl, h, rfl⟩)))))))) fun d' h' => by simp [Pd] at h'; omega

theorem lt_none {c : Dev nD} {i : ℕ} (h : ow c i = ∅) (k : Fin 39) : ∀ x ∈ ow c i, lvk k < lvk x.2 := fun x hx => by
  rw [h] at hx; exact absurd hx (Finset.notMem_empty x)

theorem ow_none {c : Dev nD} (h : c.val ≠ 0) : ow c 6 = ∅ := Finset.filter_false_of_mem fun x _ ⟨_, hk, hi⟩ => by
  unfold ord at hi; rw [if_neg h] at hi
  split at hi
  · split at hi
    · omega
    · split at hi <;> omega
  · split at hi
    · omega
    · split at hi <;> omega
theorem ow_none0 : ow 0 63 = ∅ := Finset.filter_false_of_mem fun x _ ⟨hP, hk, hi⟩ => by
  have hl : x.1.val < 32 := x.1.isLt
  unfold ord at hi; rw [if_pos (show (0 : Dev nD).val = 0 from rfl)] at hi
  split at hi
  · omega
  · split at hi <;> omega

/-! ## A device other than device 0 receives the shared buffer -/

theorem gE_0 : gE A 0 = k0_pay121 (bcs A 0) := if_pos rfl
theorem gE_1 : gE A 1 = k0_pay122 (bcs A 1) := if_neg (show ¬ (1 = 0) by decide)

theorem n40 {c : Dev nD} (h0 : c.val ≠ 0) {Q} :
    iprop(ctx A K ∗ ows c 5 ∗ AP c {0} ∗ cr (F := F) c 36 ∗ xPts c A ∗ kPts c A ∗ vPts c A ∗ wsX (F := F) c 512 32)
      ⊢ iprop((ows c 5 ∗ AP c {36, 0} ∗ xPts c A ∗ kPts c A ∗ vPts c A ∗ bcPts c fullShare (BC A) ∗ wsPts c 512 32 fullShare (WS A c)
          -∗ Q ⟨Qv A c 1, k0_pay124 (qg A 0 0) (hd4 (A.k c) 0 0), k0_pay126 (qg A 0 0) (hd4 (A.k c) 0 0), k0_pay127 (qg A 0 0) (hd4 (A.k c) 0 0) (hd4 (A.v c) 0 0)⟩)
        -∗ W' c Q (k0_part40 xM hx qM hq kM hk vM hv oM ho uM hu wsM hws bcM hbc ptM hpt rxM hrx cxM hcx cc0_scratch5 cc0_scratch6 cc0_scratch7 cc0_scratch8 cc0_scratch9 cc0_scratch10 c (V2 c) (k0_pay118 (A.wq c)) (Qv A c 0))) := by
  have lt36 : ∀ x ∈ ow c 5, lvk 36 < lvk x.2 := fun x hx => by
    obtain ⟨hP, hk, hi⟩ := mem_ow.mp hx
    unfold ord at hi; rw [if_neg h0] at hi
    unfold OwK at hk
    have h38 : x.2.val = 38 := by
      split at hi
      · split at hi
        · omega
        · split at hi <;> omega
      · split at hi
        · omega
        · split at hi
          · omega
          · unfold Pd at hP; omega
    unfold lvk; simp [h38]
  simp only [k0_part40_eq_skeleton]; unfold k0_part40_skel
  simp only [Prog.lift, Prog.bind_op, Prog.bind_ret, Prog.pure_eq_ret]
  simp only [dif_neg (mt (cond11_iff c).mp h0), dif_pos ((ne0_iff c).mpr h0), Prog.bind_op, Prog.bind_ret]
  iintro ⟨#HR, HO, HA, HC, Hx, Hk, Hv, HE⟩
  iintro HQ
  iapply (ld_x c A 1) $$ Hx; iintro Hx
  iapply (wait_one A K 36 {0} (dut_36 h0) (by decide) lt36 rfl rfl (P := bcPts c fullShare (BC A)) .rfl) $$ [HO HA HC]
  · isplitr; · iexact HR
    isplitl [HO]; · iexact HO
    isplitl [HA]; · iexact HA
    iexact HC
  iintro ⟨HO, HA, Hb⟩
  ihave HE := (kw_start A c) $$ HE
  iapply (ld_bcs c A 0) $$ Hb; iintro Hb
  iapply (dl_ws A c 0) $$ HE; iintro HE
  iapply (st_ws A c 0 (m := 0) (w := k0_pay121 (bcs A 0)) rfl (fun i hb => (hw_end A h0 0 i hb).trans (congrFun (gE_0 A) i))) $$ HE; iintro HE
  iapply (ld_bcs c A 1) $$ Hb; iintro Hb
  iapply (dl_ws A c 1) $$ HE; iintro HE
  iapply (st_ws A c 1 (m := 1) (w := k0_pay122 (bcs A 1)) rfl (fun i hb => (hw_end A h0 1 i hb).trans (congrFun (gE_1 A) i))) $$ HE; iintro HE
  ihave HE := (kw_done A c) $$ HE
  iapply (ld_qg c A 0 0) $$ Hb; iintro Hb
  iapply (ld_kh c A 0 0) $$ Hk; iintro Hk
  iapply (ld_vh c A 0 0) $$ Hv; iintro Hv
  iapply (w_ret c (Q := Q) ⟨Qv A c 1, k0_pay124 (qg A 0 0) (hd4 (A.k c) 0 0), k0_pay126 (qg A 0 0) (hd4 (A.k c) 0 0), k0_pay127 (qg A 0 0) (hd4 (A.k c) 0 0) (hd4 (A.v c) 0 0)⟩)
  iapply HQ
  isplitl [HO]; · iexact HO
  isplitl [HA]; · iexact HA
  iframe

/-! ## A slot of the collected partial results -/

abbrev rxS (off : Fin 5 → ℕ) (inb : ∀ a, off a + S1x2x4x32x66.size a ≤ S32x2x4x32x66.size a) : Memref sig .tc .vmem S1x2x4x32x66 .bf16 :=
  rxM.slice (Rect.unit (s := S32x2x4x32x66) off S1x2x4x32x66.size inb) (fun _ => rfl)

theorem off1_eq (c : Dev nD) : k0_off1 c = ![c.val, 0, 0, 0, 0] := by revert c; decide +kernel

theorem rxS_set {off : Fin 5 → ℕ} {j : ℕ} (h : off = ![j, 0, 0, 0, 0]) (inb) : (rxS off inb).view.set = sreg j := by
  subst h
  rw [show (rxS ![j, 0, 0, 0, 0] inb).view.set = _ from View.set_slice_whole _ _]
  ext i
  simp only [Rect.mem_set_unit, sreg, Finset.mem_filter, Finset.mem_univ, true_and]
  constructor
  · intro h; have h0 : j ≤ (i 0).val ∧ (i 0).val < j + 1 := h 0; omega
  · intro h a
    fin_cases a
    · exact ⟨show j ≤ (i 0).val by omega, show (i 0).val < j + 1 by omega⟩
    · exact ⟨Nat.zero_le _, show (i 1).val < 0 + 2 from by have : (i 1).val < 2 := (i 1).isLt; omega⟩
    · exact ⟨Nat.zero_le _, show (i 2).val < 0 + 4 from by have : (i 2).val < 4 := (i 2).isLt; omega⟩
    · exact ⟨Nat.zero_le _, show (i 3).val < 0 + 32 from by have : (i 3).val < 32 := (i 3).isLt; omega⟩
    · exact ⟨Nat.zero_le _, show (i 4).val < 0 + 66 from by have : (i 4).val < 66 := (i 4).isLt; omega⟩

theorem rxS_land {c : Dev nD} (h0 : c.val ≠ 0) {off : Fin 5 → ℕ} (h : off = ![c.val, 0, 0, 0, 0]) {inb}
    {fd : Buf (Elt F) ((rxS off inb).view.loc ((0 : Dev nD) : Thread nD τ))} :
    ((rxS off inb).view.loc ((0 : Dev nD) : Thread nD τ) ↦[(rxS off inb).view.set]{fullShare}
        ((rxS off inb).view.write (Elt F) fd (ptM.view.read (Elt F) (PART A c)) Finset.univ) : sProp 𝕄)
      ⊢ rxPts c.val (PRX A) := by
  have e : ptM.view.read (Elt F) (PART A c) = (rxS off inb).view.read (Elt F) (PRX A) := by
    subst h
    funext i
    refine Eq.trans ?_ (congrArg (PRX A) (emb5 i (ix5 c (i 1) (i 2) (i 3) (i 4)) (z1 c.val (i 0).isLt) (Nat.zero_add _) (Nat.zero_add _) (Nat.zero_add _) (Nat.zero_add _))).symm
    show PART A c i = _
    unfold PRX
    exact (congrArg (PART A c) (ext5 i (ix5 0 (i 1) (i 2) (i 3) (i 4)) (Fin.ext (z0 (i 0).isLt).symm) rfl rfl rfl rfl)).trans (if_neg h0).symm
  rw [e, View.write_read_eq_piecewise, View.setOn_univ,
    pointsTo_congr (g := PRX A) fun i hi => Finset.piecewise_eq_of_mem _ _ _ hi, rxS_set h]
  exact .rfl

theorem send_part {c : Dev nD} (h0 : c.val ≠ 0) {n : Dev nD} (hn : n = 0) {off : Fin 5 → ℕ} (h : off = ![c.val, 0, 0, 0, 0]) {inb} {hsc}
    {sS sem : SemLoc sig} (hS : sS = csem 37) (hR : sem = csem 38) {hsrc} {hdst} {hsem} {α : Type} {Q : α → sProp 𝕄}
    {kk : PUnit → Prog (TpuEff nD τ sig (Elt F) Λ₀ .tc) α} :
    iprop(ctx A K ∗ ows c 5 ∗ tk c 37 c ∗ tk 0 38 c ∗ ptPts c (PART A c) ∗ rxX (F := F) c.val)
      ⊢ iprop(((ows c 6 ∗ cred (tallyAt (kcell (c, 37)) () Np)) -∗ W' c Q (kk ⟨⟩))
        -∗ W' c Q (.op (.enqueueDma ptM (.remote (n : Thread nD τ) (rxS off inb) sS hsc) sem hsrc hdst hsem) kk)) := by
  have h₁ : Pd c 37 c := mem_dut.mp (by rw [dut_37 h0]; exact Finset.mem_singleton_self c)
  have h₂ : Pd 0 38 c := Or.inr (Or.inr (Or.inr (Or.inr (Or.inr (Or.inr (Or.inr (Or.inr ⟨rfl, rfl, h0⟩)))))))
  iintro ⟨#HR, HO, HT1, HT2, HS, ⟨%fd, HD⟩⟩
  iintro HQ
  iapply (send_step A K (c := c) (c' := 0) 37 38 hn h₁ h₂ (Or.inr (Or.inr (Or.inr (Or.inr rfl)))) (ord_38 h0) hS hR (dst := rxS off inb) (src := ptM)
    (q := fullShare) (fs := PART A c) (fd := fd) Np (by subst hR; rfl) rfl rfl
    (by rw [show ptM.view.set = Finset.univ from View.set_whole _]; exact .rfl) (rxS_land A h0 h)) $$ [HO HT1 HT2 HS HD]
  · isplitr; · iexact HR
    isplitl [HO]; · iexact HO
    isplitl [HT1]; · iexact HT1
    isplitl [HT2]; · iexact HT2
    isplitl [HS]
    · iapply (Entails.of_eq (show ptPts c (PART A c) = (ptM.view.loc (c : Thread nD τ) ↦[ptM.view.set]{fullShare} PART A c) by
        rw [show ptM.view.set = Finset.univ from View.set_whole _]; rfl))
      iexact HS
    · iapply (Entails.of_eq (show rxPts c.val fd = ((rxS off inb).view.loc ((0 : Dev nD) : Thread nD τ) ↦[(rxS off inb).view.set]{fullShare} fd) by
        unfold rxPts; rw [rxS_set h]))
      iexact HD
  iexact HQ

/-! ## Sending the partial results, and the neighbours' ends -/

theorem n49 {c : Dev nD} (h0 : c.val ≠ 0) {Q} :
    iprop(ctx A K ∗ ows c 5 ∗ AP c {36, 0} ∗ KP A c 23 ∗ tk c 37 c ∗ tk 0 38 c ∗ rxX (F := F) c.val ∗ cr (F := F) c 3
        ∗ (if c.val < 31 then cr (F := F) c 4 else wsPts c 384 128 fullShare (WS A c)))
      ⊢ iprop((ows c 6 ∗ AP c (if c.val < 31 then {4, 3, 36, 0} else {3, 36, 0}) ∗ cred (tallyAt (kcell (c, 37)) () Np)
            ∗ wsPts c 0 128 fullShare (WS A c) ∗ wsPts c 384 128 fullShare (WS A c)
          -∗ Q ⟨k0_pay179 (V2 c), k0_pay180 (V2 c), k0_pay181 (V2 c), k0_pay182 (V2 c)⟩)
        -∗ W' c Q (k0_part49 xM hx qM hq kM hk vM hv oM ho uM hu wsM hws bcM hbc ptM hpt rxM hrx cxM hcx cc0_scratch5 cc0_scratch6 cc0_scratch7 cc0_scratch8 cc0_scratch9 cc0_scratch10 c (V2 c) (k0_pay176 (qg A 1 3) (hd4 (A.k c) 1 3)))) := by
  simp only [k0_part49_eq_skeleton]; unfold k0_part49_skel
  simp only [Prog.lift, Prog.bind_op, Prog.bind_ret, Prog.pure_eq_ret]
  simp only [dif_pos ((cond13_iff c).mpr h0), dif_neg (mt (eq0_iff c).mp h0), dif_pos ((gt0_iff c).mpr (Nat.pos_of_ne_zero h0)), Prog.bind_op, Prog.bind_ret]
  by_cases h31 : c.val < 31
  · simp only [dif_pos ((lt31_iff c).mpr h31), if_pos h31, Prog.bind_op, Prog.bind_ret]
    iintro ⟨#HR, HO, HA, Hp, HT1, HT2, Hrx, HC3, HC4⟩
    iintro HQ
    iapply (dl_pt A c) $$ Hp; iintro Hp
    iapply (st_pt2 A c 1 3 rfl rfl) $$ Hp; iintro Hp
    ihave Hp := (kp_done A c) $$ Hp
    iapply (send_part A K h0 rfl (off1_eq c) rfl rfl) $$ [HO HT1 HT2 Hp Hrx]
    · isplitr; · iexact HR
      isplitl [HO]; · iexact HO
      isplitl [HT1]; · iexact HT1
      isplitl [HT2]; · iexact HT2
      isplitl [Hp]; · iexact Hp
      iexact Hrx
    iintro ⟨HO, Hc⟩
    iapply (wait_one A K 3 {36, 0} (dut_3 h0) (by decide) (lt_none (ow_none h0) 3) rfl rfl (P := wsPts c 0 128 fullShare (WS A c)) .rfl) $$ [HO HA HC3]
    · isplitr; · iexact HR
      isplitl [HO]; · iexact HO
      isplitl [HA]; · iexact HA
      iexact HC3
    iintro ⟨HO, HA, HL⟩
    iapply (wait_one A K 4 {3, 36, 0} (dut_4 h31) (by decide) (lt_none (ow_none h0) 4) rfl rfl (dst := wsS 384 inb_S2x2x544x4x64_S2x2x128x4x64_0_0_384_0_0) (P := wsPts c 384 128 fullShare (WS A c)) .rfl) $$ [HO HA HC4]
    · isplitr; · iexact HR
      isplitl [HO]; · iexact HO
      isplitl [HA]; · iexact HA
      iexact HC4
    iintro ⟨HO, HA, HD⟩
    iapply (w_ret c (Q := Q) ⟨k0_pay179 (V2 c), k0_pay180 (V2 c), k0_pay181 (V2 c), k0_pay182 (V2 c)⟩); iapply HQ
    isplitl [HO]; · iexact HO
    isplitl [HA]; · iexact HA
    isplitl [Hc]; · iexact Hc
    isplitl [HL]; · iexact HL
    iexact HD
  · simp only [dif_neg (mt (lt31_iff c).mp h31), if_neg h31, Prog.bind_op, Prog.bind_ret]
    iintro ⟨#HR, HO, HA, Hp, HT1, HT2, Hrx, HC3, HD⟩
    iintro HQ
    iapply (dl_pt A c) $$ Hp; iintro Hp
    iapply (st_pt2 A c 1 3 rfl rfl) $$ Hp; iintro Hp
    ihave Hp := (kp_done A c) $$ Hp
    iapply (send_part A K h0 rfl (off1_eq c) rfl rfl) $$ [HO HT1 HT2 Hp Hrx]
    · isplitr; · iexact HR
      isplitl [HO]; · iexact HO
      isplitl [HT1]; · iexact HT1
      isplitl [HT2]; · iexact HT2
      isplitl [Hp]; · iexact Hp
      iexact Hrx
    iintro ⟨HO, Hc⟩
    iapply (wait_one A K 3 {36, 0} (dut_3 h0) (by decide) (lt_none (ow_none h0) 3) rfl rfl (P := wsPts c 0 128 fullShare (WS A c)) .rfl) $$ [HO HA HC3]
    · isplitr; · iexact HR
      isplitl [HO]; · iexact HO
      isplitl [HA]; · iexact HA
      iexact HC3
    iintro ⟨HO, HA, HL⟩
    iapply (w_ret c (Q := Q) ⟨k0_pay179 (V2 c), k0_pay180 (V2 c), k0_pay181 (V2 c), k0_pay182 (V2 c)⟩); iapply HQ
    isplitl [HO]; · iexact HO
    isplitl [HA]; · iexact HA
    isplitl [Hc]; · iexact Hc
    isplitl [HL]; · iexact HL
    iexact HD

theorem z49 {D : Finset (Fin 39)} (hD : (4 : Fin 39) ∉ D) {Q} :
    iprop(ctx A K ∗ ows 0 63 ∗ AP 0 D ∗ KP A 0 23 ∗ rxX (F := F) 0 ∗ cr (F := F) 0 4)
      ⊢ iprop((ows 0 63 ∗ AP 0 (insert 4 D) ∗ ptPts 0 (PART A 0) ∗ rxPts 0 (PRX A) ∗ wsPts 0 384 128 fullShare (WS A 0)
          -∗ Q ⟨k0_pay179 (V2 0), k0_pay180 (V2 0), k0_pay181 (V2 0), k0_pay182 (V2 0)⟩)
        -∗ W' 0 Q (k0_part49 xM hx qM hq kM hk vM hv oM ho uM hu wsM hws bcM hbc ptM hpt rxM hrx cxM hcx cc0_scratch5 cc0_scratch6 cc0_scratch7 cc0_scratch8 cc0_scratch9 cc0_scratch10 0 (V2 0) (k0_pay176 (qg A 1 3) (hd4 (A.k 0) 1 3)))) := by
  have z : (0 : Dev nD).val = 0 := rfl
  simp only [k0_part49_eq_skeleton]; unfold k0_part49_skel
  simp only [Prog.lift, Prog.bind_op, Prog.bind_ret, Prog.pure_eq_ret]
  simp only [dif_neg (mt (cond13_iff 0).mp (fun h => h z)), dif_pos ((eq0_iff 0).mpr z), dif_neg (mt (gt0_iff 0).mp (Nat.lt_irrefl 0)),
    dif_pos ((lt31_iff 0).mpr (by decide)), Prog.bind_op, Prog.bind_ret]
  iintro ⟨#HR, HO, HA, Hp, Hrx, HC4⟩
  iintro HQ
  iapply (dl_pt A 0) $$ Hp; iintro Hp
  iapply (st_pt2 A 0 1 3 rfl rfl) $$ Hp; iintro Hp
  ihave Hp := (kp_done A 0) $$ Hp
  iapply (ld_pt 0 A) $$ Hp; iintro Hp
  ihave Hrx := (kr_start A) $$ Hrx
  iapply (dl_rx A) $$ Hrx; iintro Hrx
  iapply (st_rx0 A) $$ Hrx; iintro Hrx
  ihave Hrx := (kr_done A) $$ Hrx
  iapply (wait_one A K 4 D (dut_4 (c := 0) (by decide)) hD (lt_none ow_none0 4) rfl rfl (dst := wsS 384 inb_S2x2x544x4x64_S2x2x128x4x64_0_0_384_0_0) (P := wsPts 0 384 128 fullShare (WS A 0)) .rfl) $$ [HO HA HC4]
  · isplitr; · iexact HR
    isplitl [HO]; · iexact HO
    isplitl [HA]; · iexact HA
    iexact HC4
  iintro ⟨HO, HA, HD⟩
  iapply (w_ret 0 (Q := Q) ⟨k0_pay179 (V2 0), k0_pay180 (V2 0), k0_pay181 (V2 0), k0_pay182 (V2 0)⟩); iapply HQ
  isplitl [HO]; · iexact HO
  isplitl [HA]; · iexact HA
  isplitl [Hp]; · iexact Hp
  isplitl [Hrx]; · iexact Hrx
  iexact HD

end Cert.KernelIdeal.Att

end
-- ==== Proof.KernelIdealPartial.lean ====
/-
Device `c`'s partial results for the global queries: eight pairs of batch and head, in the parts of the program.
-/
module

public import proofs.«01_k».proof.Proof.KernelIdealStores

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What a partial result reads. -/
def Rd (A : Inp F) (c : Dev nD) (q : PosShare TreeShare) : sProp 𝕄 := iprop(bcPts c q (BC A) ∗ kPts c A ∗ vPts c A)

theorem part41 (A : Inp F) (c : Dev nD) (q : PosShare TreeShare) {Q} :
    iprop(KP A c 0 ∗ Rd A c q) ⊢ iprop((KP A c 3 ∗ Rd A c q -∗ Q ⟨k0_pay132 (qg A 0 1) (hd4 (A.k c) 0 1), k0_pay134 (qg A 0 1) (hd4 (A.k c) 0 1), k0_pay135 (qg A 0 1) (hd4 (A.k c) 0 1) (hd4 (A.v c) 0 1)⟩)
      -∗ W' c Q (k0_part41 xM hx qM hq kM hk vM hv oM ho uM hu wsM hws bcM hbc ptM hpt rxM hrx cxM hcx cc0_scratch5 cc0_scratch6 cc0_scratch7 cc0_scratch8 cc0_scratch9 cc0_scratch10 (k0_pay124 (qg A 0 0) (hd4 (A.k c) 0 0)) (k0_pay126 (qg A 0 0) (hd4 (A.k c) 0 0)) (k0_pay127 (qg A 0 0) (hd4 (A.k c) 0 0) (hd4 (A.v c) 0 0)))) := by
  simp only [k0_part41_eq_skeleton]; unfold k0_part41_skel Rd
  simp only [Prog.lift, Prog.bind_op, Prog.bind_ret, Prog.pure_eq_ret]
  iintro ⟨Hp, Hb, Hk, Hv⟩; iintro HQ
  iapply (dl_pt A c) $$ Hp; iintro Hp
  iapply (st_pt0 A c 0 0 rfl rfl) $$ Hp; iintro Hp
  iapply (dl_pt A c) $$ Hp; iintro Hp
  iapply (st_pt1 A c 0 0 rfl rfl) $$ Hp; iintro Hp
  iapply (dl_pt A c) $$ Hp; iintro Hp
  iapply (st_pt2 A c 0 0 rfl rfl) $$ Hp; iintro Hp
  iapply (ld_qg c A 0 1) $$ Hb; iintro Hb
  iapply (ld_kh c A 0 1) $$ Hk; iintro Hk
  iapply (ld_vh c A 0 1) $$ Hv; iintro Hv
  iapply w_ret; iapply HQ
  isplitl [Hp]; · iexact Hp
  iframe

theorem part42 (A : Inp F) (c : Dev nD) (q : PosShare TreeShare) {Q} :
    iprop(KP A c 3 ∗ Rd A c q) ⊢ iprop((KP A c 6 ∗ Rd A c q -∗ Q ⟨k0_pay140 (qg A 0 2) (hd4 (A.k c) 0 2), k0_pay141 (qg A 0 2) (hd4 (A.k c) 0 2), k0_pay142 (qg A 0 2) (hd4 (A.k c) 0 2)⟩)
      -∗ W' c Q (k0_part42 xM hx qM hq kM hk vM hv oM ho uM hu wsM hws bcM hbc ptM hpt rxM hrx cxM hcx cc0_scratch5 cc0_scratch6 cc0_scratch7 cc0_scratch8 cc0_scratch9 cc0_scratch10 (k0_pay132 (qg A 0 1) (hd4 (A.k c) 0 1)) (k0_pay134 (qg A 0 1) (hd4 (A.k c) 0 1)) (k0_pay135 (qg A 0 1) (hd4 (A.k c) 0 1) (hd4 (A.v c) 0 1)))) := by
  simp only [k0_part42_eq_skeleton]; unfold k0_part42_skel Rd
  simp only [Prog.lift, Prog.bind_op, Prog.bind_ret, Prog.pure_eq_ret]
  iintro ⟨Hp, Hb, Hk, Hv⟩; iintro HQ
  iapply (dl_pt A c) $$ Hp; iintro Hp
  iapply (st_pt0 A c 0 1 rfl rfl) $$ Hp; iintro Hp
  iapply (dl_pt A c) $$ Hp; iintro Hp
  iapply (st_pt1 A c 0 1 rfl rfl) $$ Hp; iintro Hp
  iapply (dl_pt A c) $$ Hp; iintro Hp
  iapply (st_pt2 A c 0 1 rfl rfl) $$ Hp; iintro Hp
  iapply (ld_qg c A 0 2) $$ Hb; iintro Hb
  iapply (ld_kh c A 0 2) $$ Hk; iintro Hk
  iapply w_ret; iapply HQ
  isplitl [Hp]; · iexact Hp
  iframe

theorem part43 (A : Inp F) (c : Dev nD) (q : PosShare TreeShare) {Q} :
    iprop(KP A c 6 ∗ Rd A c q) ⊢ iprop((KP A c 9 ∗ Rd A c q -∗ Q ⟨k0_pay147 (qg A 0 3) (hd4 (A.k c) 0 3), k0_pay148 (qg A 0 3) (hd4 (A.k c) 0 3)⟩)
      -∗ W' c Q (k0_part43 xM hx qM hq kM hk vM hv oM ho uM hu wsM hws bcM hbc ptM hpt rxM hrx cxM hcx cc0_scratch5 cc0_scratch6 cc0_scratch7 cc0_scratch8 cc0_scratch9 cc0_scratch10 (k0_pay140 (qg A 0 2) (hd4 (A.k c) 0 2)) (k0_pay141 (qg A 0 2) (hd4 (A.k c) 0 2)) (k0_pay142 (qg A 0 2) (hd4 (A.k c) 0 2)))) := by
  simp only [k0_part43_eq_skeleton]; unfold k0_part43_skel Rd
  simp only [Prog.lift, Prog.bind_op, Prog.bind_ret, Prog.pure_eq_ret]
  iintro ⟨Hp, Hb, Hk, Hv⟩; iintro HQ
  iapply (ld_vh c A 0 2) $$ Hv; iintro Hv
  iapply (dl_pt A c) $$ Hp; iintro Hp
  iapply (st_pt0 A c 0 2 rfl rfl) $$ Hp; iintro Hp
  iapply (dl_pt A c) $$ Hp; iintro Hp
  iapply (st_pt1 A c 0 2 rfl rfl) $$ Hp; iintro Hp
  iapply (dl_pt A c) $$ Hp; iintro Hp
  iapply (st_pt2 A c 0 2 rfl rfl) $$ Hp; iintro Hp
  iapply (ld_qg c A 0 3) $$ Hb; iintro Hb
  iapply (ld_kh c A 0 3) $$ Hk; iintro Hk
  iapply w_ret; iapply HQ
  isplitl [Hp]; · iexact Hp
  iframe

theorem part44 (A : Inp F) (c : Dev nD) (q : PosShare TreeShare) {Q} :
    iprop(KP A c 9 ∗ Rd A c q) ⊢ iprop((KP A c 12 ∗ Rd A c q -∗ Q (k0_pay152 (qg A 1 0) (hd4 (A.k c) 1 0)))
      -∗ W' c Q (k0_part44 xM hx qM hq kM hk vM hv oM ho uM hu wsM hws bcM hbc ptM hpt rxM hrx cxM hcx cc0_scratch5 cc0_scratch6 cc0_scratch7 cc0_scratch8 cc0_scratch9 cc0_scratch10 (k0_pay147 (qg A 0 3) (hd4 (A.k c) 0 3)) (k0_pay148 (qg A 0 3) (hd4 (A.k c) 0 3)))) := by
  simp only [k0_part44_eq_skeleton]; unfold k0_part44_skel Rd
  simp only [Prog.lift, Prog.bind_op, Prog.bind_ret, Prog.pure_eq_ret]
  iintro ⟨Hp, Hb, Hk, Hv⟩; iintro HQ
  iapply (ld_vh c A 0 3) $$ Hv; iintro Hv
  iapply (dl_pt A c) $$ Hp; iintro Hp
  iapply (st_pt0 A c 0 3 rfl rfl) $$ Hp; iintro Hp
  iapply (dl_pt A c) $$ Hp; iintro Hp
  iapply (st_pt1 A c 0 3 rfl rfl) $$ Hp; iintro Hp
  iapply (dl_pt A c) $$ Hp; iintro Hp
  iapply (st_pt2 A c 0 3 rfl rfl) $$ Hp; iintro Hp
  iapply (ld_qg c A 1 0) $$ Hb; iintro Hb
  iapply (ld_kh c A 1 0) $$ Hk; iintro Hk
  iapply w_ret; iapply HQ
  isplitl [Hp]; · iexact Hp
  iframe

theorem part45 (A : Inp F) (c : Dev nD) (q : PosShare TreeShare) {Q} :
    iprop(KP A c 12 ∗ Rd A c q) ⊢ iprop((KP A c 15 ∗ Rd A c q -∗ Q ⟨k0_pay158 (qg A 1 1), (hd4 (A.k c) 1 1)⟩)
      -∗ W' c Q (k0_part45 xM hx qM hq kM hk vM hv oM ho uM hu wsM hws bcM hbc ptM hpt rxM hrx cxM hcx cc0_scratch5 cc0_scratch6 cc0_scratch7 cc0_scratch8 cc0_scratch9 cc0_scratch10 (k0_pay152 (qg A 1 0) (hd4 (A.k c) 1 0)))) := by
  simp only [k0_part45_eq_skeleton]; unfold k0_part45_skel Rd
  simp only [Prog.lift, Prog.bind_op, Prog.bind_ret, Prog.pure_eq_ret]
  iintro ⟨Hp, Hb, Hk, Hv⟩; iintro HQ
  iapply (ld_vh c A 1 0) $$ Hv; iintro Hv
  iapply (dl_pt A c) $$ Hp; iintro Hp
  iapply (st_pt0 A c 1 0 rfl rfl) $$ Hp; iintro Hp
  iapply (dl_pt A c) $$ Hp; iintro Hp
  iapply (st_pt1 A c 1 0 rfl rfl) $$ Hp; iintro Hp
  iapply (dl_pt A c) $$ Hp; iintro Hp
  iapply (st_pt2 A c 1 0 rfl rfl) $$ Hp; iintro Hp
  iapply (ld_qg c A 1 1) $$ Hb; iintro Hb
  iapply (ld_kh c A 1 1) $$ Hk; iintro Hk
  iapply w_ret; iapply HQ
  isplitl [Hp]; · iexact Hp
  iframe

theorem part46 (A : Inp F) (c : Dev nD) (q : PosShare TreeShare) {Q} :
    iprop(KP A c 15 ∗ Rd A c q) ⊢ iprop((KP A c 18 ∗ Rd A c q -∗ Q (qg A 1 2))
      -∗ W' c Q (k0_part46 xM hx qM hq kM hk vM hv oM ho uM hu wsM hws bcM hbc ptM hpt rxM hrx cxM hcx cc0_scratch5 cc0_scratch6 cc0_scratch7 cc0_scratch8 cc0_scratch9 cc0_scratch10 (k0_pay158 (qg A 1 1)) (hd4 (A.k c) 1 1))) := by
  simp only [k0_part46_eq_skeleton]; unfold k0_part46_skel Rd
  simp only [Prog.lift, Prog.bind_op, Prog.bind_ret, Prog.pure_eq_ret]
  iintro ⟨Hp, Hb, Hk, Hv⟩; iintro HQ
  iapply (ld_vh c A 1 1) $$ Hv; iintro Hv
  iapply (dl_pt A c) $$ Hp; iintro Hp
  iapply (st_pt0 A c 1 1 rfl rfl) $$ Hp; iintro Hp
  iapply (dl_pt A c) $$ Hp; iintro Hp
  iapply (st_pt1 A c 1 1 rfl rfl) $$ Hp; iintro Hp
  iapply (dl_pt A c) $$ Hp; iintro Hp
  iapply (st_pt2 A c 1 1 rfl rfl) $$ Hp; iintro Hp
  iapply (ld_qg c A 1 2) $$ Hb; iintro Hb
  iapply w_ret; iapply HQ
  isplitl [Hp]; · iexact Hp
  iframe

theorem part47 (A : Inp F) (c : Dev nD) (q : PosShare TreeShare) {Q} :
    iprop(KP A c 18 ∗ Rd A c q) ⊢ iprop((KP A c 21 ∗ Rd A c q -∗ Q ⟨⟩)
      -∗ W' c Q (k0_part47 xM hx qM hq kM hk vM hv oM ho uM hu wsM hws bcM hbc ptM hpt rxM hrx cxM hcx cc0_scratch5 cc0_scratch6 cc0_scratch7 cc0_scratch8 cc0_scratch9 cc0_scratch10 (qg A 1 2))) := by
  simp only [k0_part47_eq_skeleton]; unfold k0_part47_skel Rd
  simp only [Prog.lift, Prog.bind_op, Prog.bind_ret, Prog.pure_eq_ret]
  iintro ⟨Hp, Hb, Hk, Hv⟩; iintro HQ
  iapply (ld_kh c A 1 2) $$ Hk; iintro Hk
  iapply (ld_vh c A 1 2) $$ Hv; iintro Hv
  iapply (dl_pt A c) $$ Hp; iintro Hp
  iapply (st_pt0 A c 1 2 rfl rfl) $$ Hp; iintro Hp
  iapply (dl_pt A c) $$ Hp; iintro Hp
  iapply (st_pt1 A c 1 2 rfl rfl) $$ Hp; iintro Hp
  iapply (dl_pt A c) $$ Hp; iintro Hp
  iapply (st_pt2 A c 1 2 rfl rfl) $$ Hp; iintro Hp
  iapply w_ret; iapply HQ
  isplitl [Hp]; · iexact Hp
  iframe

theorem part48 (A : Inp F) (c : Dev nD) (q : PosShare TreeShare) {Q} :
    iprop(KP A c 21 ∗ Rd A c q) ⊢ iprop((KP A c 23 ∗ Rd A c q -∗ Q (k0_pay176 (qg A 1 3) (hd4 (A.k c) 1 3)))
      -∗ W' c Q (k0_part48 xM hx qM hq kM hk vM hv oM ho uM hu wsM hws bcM hbc ptM hpt rxM hrx cxM hcx cc0_scratch5 cc0_scratch6 cc0_scratch7 cc0_scratch8 cc0_scratch9 cc0_scratch10)) := by
  simp only [k0_part48_eq_skeleton]; unfold k0_part48_skel Rd
  simp only [Prog.lift, Prog.bind_op, Prog.bind_ret, Prog.pure_eq_ret]
  iintro ⟨Hp, Hb, Hk, Hv⟩; iintro HQ
  iapply (ld_qg c A 1 3) $$ Hb; iintro Hb
  iapply (ld_kh c A 1 3) $$ Hk; iintro Hk
  iapply (ld_vh c A 1 3) $$ Hv; iintro Hv
  iapply (dl_pt A c) $$ Hp; iintro Hp
  iapply (st_pt0 A c 1 3 rfl rfl) $$ Hp; iintro Hp
  iapply (dl_pt A c) $$ Hp; iintro Hp
  iapply (st_pt1 A c 1 3 rfl rfl) $$ Hp; iintro Hp
  iapply w_ret; iapply HQ
  isplitl [Hp]; · iexact Hp
  iframe

end Cert.KernelIdeal.Att

end
-- ==== Proof.KernelIdealLocal.lean ====
/-
Device `c`'s local attention: eight pairs of batch and head, in the parts of the program.
-/
module

public import proofs.«01_k».proof.Proof.KernelIdealStores

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- What local attention reads and writes, `n` stores done. -/
def At (A : Inp F) (c : Dev nD) (q : PosShare TreeShare) (n : ℕ) : sProp 𝕄 := iprop((wsL c ↦{q} WS A c) ∗ KC A c n)

/-- Head 0 of batch 0: the weights before the product with the values. -/
def w00 (A : Inp F) (c : Dev nD) : FVec F S256x544 .bf16 :=
  k0_pay184 (V2 c) (Qv A c 0) (k0_pay179 (V2 c)) (k0_pay180 (V2 c)) (k0_pay181 (V2 c)) (k0_pay182 (V2 c)) (wsl A c 0 0 0)

theorem part50 (A : Inp F) (c : Dev nD) (q : PosShare TreeShare) {Q} :
    iprop(At A c q 0) ⊢ iprop((At A c q 0 -∗ Q ⟨MASK c, w00 A c⟩)
      -∗ W' c Q (k0_part50 xM hx qM hq kM hk vM hv oM ho uM hu wsM hws bcM hbc ptM hpt rxM hrx cxM hcx cc0_scratch5 cc0_scratch6 cc0_scratch7 cc0_scratch8 cc0_scratch9 cc0_scratch10 (V2 c) (Qv A c 0) (k0_pay179 (V2 c)) (k0_pay180 (V2 c)) (k0_pay181 (V2 c)) (k0_pay182 (V2 c)))) := by
  simp only [k0_part50_eq_skeleton]; unfold k0_part50_skel At
  simp only [Prog.lift, Prog.bind_op, Prog.bind_ret, Prog.pure_eq_ret]
  iintro ⟨Hw, Hc⟩; iintro HQ
  iapply (ld_ws c A 0 0 0) $$ Hw; iintro Hw
  iapply (w_ret c (Q := Q) ⟨MASK c, w00 A c⟩); iapply HQ
  isplitl [Hw]; · iexact Hw
  iexact Hc

theorem part51 (A : Inp F) (c : Dev nD) (q : PosShare TreeShare) {Q} :
    iprop(At A c q 0) ⊢ iprop((At A c q 1 -∗ Q (k0_pay186 (Qv A c 0) (MASK c) (wsl A c 0 0 1) (wsl A c 1 0 1)))
      -∗ W' c Q (k0_part51 xM hx qM hq kM hk vM hv oM ho uM hu wsM hws bcM hbc ptM hpt rxM hrx cxM hcx cc0_scratch5 cc0_scratch6 cc0_scratch7 cc0_scratch8 cc0_scratch9 cc0_scratch10 (Qv A c 0) (MASK c) (w00 A c))) := by
  simp only [k0_part51_eq_skeleton]; unfold k0_part51_skel At
  simp only [Prog.lift, Prog.bind_op, Prog.bind_ret, Prog.pure_eq_ret]
  iintro ⟨Hw, Hc⟩; iintro HQ
  iapply (ld_ws c A 1 0 0) $$ Hw; iintro Hw
  iapply (dl_cx A c) $$ Hc; iintro Hc
  iapply (st_cx A c 0 0 rfl rfl) $$ Hc; iintro Hc
  iapply (ld_ws c A 0 0 1) $$ Hw; iintro Hw
  iapply (ld_ws c A 1 0 1) $$ Hw; iintro Hw
  iapply (dl_cx A c) $$ Hc; iintro Hc
  iapply (w_ret c (Q := Q) (k0_pay186 (Qv A c 0) (MASK c) (wsl A c 0 0 1) (wsl A c 1 0 1))); iapply HQ
  isplitl [Hw]; · iexact Hw
  iexact Hc

theorem part52 (A : Inp F) (c : Dev nD) (q : PosShare TreeShare) {Q} :
    iprop(At A c q 1) ⊢ iprop((At A c q 3 -∗ Q (k0_pay188 (Qv A c 0) (wsl A c 0 0 3)))
      -∗ W' c Q (k0_part52 xM hx qM hq kM hk vM hv oM ho uM hu wsM hws bcM hbc ptM hpt rxM hrx cxM hcx cc0_scratch5 cc0_scratch6 cc0_scratch7 cc0_scratch8 cc0_scratch9 cc0_scratch10 (Qv A c 0) (MASK c) (k0_pay186 (Qv A c 0) (MASK c) (wsl A c 0 0 1) (wsl A c 1 0 1)))) := by
  simp only [k0_part52_eq_skeleton]; unfold k0_part52_skel At
  simp only [Prog.lift, Prog.bind_op, Prog.bind_ret, Prog.pure_eq_ret]
  iintro ⟨Hw, Hc⟩; iintro HQ
  iapply (st_cx A c 0 1 rfl rfl) $$ Hc; iintro Hc
  iapply (ld_ws c A 0 0 2) $$ Hw; iintro Hw
  iapply (ld_ws c A 1 0 2) $$ Hw; iintro Hw
  iapply (dl_cx A c) $$ Hc; iintro Hc
  iapply (st_cx A c 0 2 rfl rfl) $$ Hc; iintro Hc
  iapply (ld_ws c A 0 0 3) $$ Hw; iintro Hw
  iapply (w_ret c (Q := Q) (k0_pay188 (Qv A c 0) (wsl A c 0 0 3))); iapply HQ
  isplitl [Hw]; · iexact Hw
  iexact Hc

theorem part53 (A : Inp F) (c : Dev nD) (q : PosShare TreeShare) {Q} :
    iprop(At A c q 3) ⊢ iprop((At A c q 4 -∗ Q (k0_pay190 (Qv A c 1) (MASK c) (wsl A c 0 1 0)))
      -∗ W' c Q (k0_part53 xM hx qM hq kM hk vM hv oM ho uM hu wsM hws bcM hbc ptM hpt rxM hrx cxM hcx cc0_scratch5 cc0_scratch6 cc0_scratch7 cc0_scratch8 cc0_scratch9 cc0_scratch10 (Qv A c 1) (MASK c) (k0_pay188 (Qv A c 0) (wsl A c 0 0 3)))) := by
  simp only [k0_part53_eq_skeleton]; unfold k0_part53_skel At
  simp only [Prog.lift, Prog.bind_op, Prog.bind_ret, Prog.pure_eq_ret]
  iintro ⟨Hw, Hc⟩; iintro HQ
  iapply (ld_ws c A 1 0 3) $$ Hw; iintro Hw
  iapply (dl_cx A c) $$ Hc; iintro Hc
  iapply (st_cx A c 0 3 rfl rfl) $$ Hc; iintro Hc
  iapply (ld_ws c A 0 1 0) $$ Hw; iintro Hw
  iapply (w_ret c (Q := Q) (k0_pay190 (Qv A c 1) (MASK c) (wsl A c 0 1 0))); iapply HQ
  isplitl [Hw]; · iexact Hw
  iexact Hc

theorem part54 (A : Inp F) (c : Dev nD) (q : PosShare TreeShare) {Q} :
    iprop(At A c q 4) ⊢ iprop((At A c q 5 -∗ Q ⟨(k0_pay192 (Qv A c 1) (MASK c) (wsl A c 0 1 1)), (k0_pay193 (wsl A c 1 1 1)), (constant S256x64 .f32 0x00000000#32)⟩)
      -∗ W' c Q (k0_part54 xM hx qM hq kM hk vM hv oM ho uM hu wsM hws bcM hbc ptM hpt rxM hrx cxM hcx cc0_scratch5 cc0_scratch6 cc0_scratch7 cc0_scratch8 cc0_scratch9 cc0_scratch10 (Qv A c 1) (MASK c) (k0_pay190 (Qv A c 1) (MASK c) (wsl A c 0 1 0)))) := by
  simp only [k0_part54_eq_skeleton]; unfold k0_part54_skel At
  simp only [Prog.lift, Prog.bind_op, Prog.bind_ret, Prog.pure_eq_ret]
  iintro ⟨Hw, Hc⟩; iintro HQ
  iapply (ld_ws c A 1 1 0) $$ Hw; iintro Hw
  iapply (dl_cx A c) $$ Hc; iintro Hc
  iapply (st_cx A c 1 0 rfl rfl) $$ Hc; iintro Hc
  iapply (ld_ws c A 0 1 1) $$ Hw; iintro Hw
  iapply (ld_ws c A 1 1 1) $$ Hw; iintro Hw
  iapply (w_ret c (Q := Q) ⟨(k0_pay192 (Qv A c 1) (MASK c) (wsl A c 0 1 1)), (k0_pay193 (wsl A c 1 1 1)), (constant S256x64 .f32 0x00000000#32)⟩); iapply HQ
  isplitl [Hw]; · iexact Hw
  iexact Hc

theorem part55 (A : Inp F) (c : Dev nD) (q : PosShare TreeShare) {Q} :
    iprop(At A c q 5) ⊢ iprop((At A c q 7 -∗ Q (k0_pay196 (Qv A c 1)))
      -∗ W' c Q (k0_part55 xM hx qM hq kM hk vM hv oM ho uM hu wsM hws bcM hbc ptM hpt rxM hrx cxM hcx cc0_scratch5 cc0_scratch6 cc0_scratch7 cc0_scratch8 cc0_scratch9 cc0_scratch10 (Qv A c 1) (MASK c) (k0_pay192 (Qv A c 1) (MASK c) (wsl A c 0 1 1)) (k0_pay193 (wsl A c 1 1 1)) (constant S256x64 .f32 0x00000000#32))) := by
  simp only [k0_part55_eq_skeleton]; unfold k0_part55_skel At
  simp only [Prog.lift, Prog.bind_op, Prog.bind_ret, Prog.pure_eq_ret]
  iintro ⟨Hw, Hc⟩; iintro HQ
  iapply (dl_cx A c) $$ Hc; iintro Hc
  iapply (st_cx A c 1 1 rfl rfl) $$ Hc; iintro Hc
  iapply (ld_ws c A 0 1 2) $$ Hw; iintro Hw
  iapply (ld_ws c A 1 1 2) $$ Hw; iintro Hw
  iapply (dl_cx A c) $$ Hc; iintro Hc
  iapply (st_cx A c 1 2 rfl rfl) $$ Hc; iintro Hc
  iapply (w_ret c (Q := Q) (k0_pay196 (Qv A c 1))); iapply HQ
  isplitl [Hw]; · iexact Hw
  iexact Hc

theorem part56 (A : Inp F) (c : Dev nD) (q : PosShare TreeShare) {Q} :
    iprop(At A c q 7 ∗ oPts c A) ⊢ iprop(((wsL c ↦{q} WS A c) ∗ (cxL c ↦{fullShare} CTX A c) ∗ oPts c A -∗ Q ⟨k0_pay198 (A.wo c), k0_pay199 (A.wo c) (ctxb A c 0)⟩)
      -∗ W' c Q (k0_part56 xM hx qM hq kM hk vM hv oM ho uM hu wsM hws bcM hbc ptM hpt rxM hrx cxM hcx cc0_scratch5 cc0_scratch6 cc0_scratch7 cc0_scratch8 cc0_scratch9 cc0_scratch10 (MASK c) (k0_pay196 (Qv A c 1)))) := by
  simp only [k0_part56_eq_skeleton]; unfold k0_part56_skel At
  simp only [Prog.lift, Prog.bind_op, Prog.bind_ret, Prog.pure_eq_ret]
  iintro ⟨⟨Hw, Hc⟩, Ho⟩; iintro HQ
  iapply (ld_ws c A 0 1 3) $$ Hw; iintro Hw
  iapply (ld_ws c A 1 1 3) $$ Hw; iintro Hw
  iapply (dl_cx A c) $$ Hc; iintro Hc
  iapply (st_cx A c 1 3 rfl rfl) $$ Hc; iintro Hc
  iapply (ld_o c A) $$ Ho; iintro Ho
  ihave Hc := (kc_done A c) $$ Hc
  iapply (ld_cx c A 0) $$ Hc; iintro Hc
  iapply (w_ret c (Q := Q) ⟨k0_pay198 (A.wo c), k0_pay199 (A.wo c) (ctxb A c 0)⟩); iapply HQ
  iframe

end Cert.KernelIdeal.Att

end
-- ==== Proof.KernelIdealOthers.lean ====
/-
The part of the program of a device other than device 0 up to its last wait.
-/
module

public import proofs.«01_k».proof.Proof.KernelIdealShake
public import proofs.«01_k».proof.Proof.KernelIdealReceive
public import proofs.«01_k».proof.Proof.KernelIdealPartial
public import proofs.«01_k».proof.Proof.KernelIdealLocal

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## The stretches of the window, joined -/

omit [FloatOps F] [Named F] in
theorem ws_five {c : Dev nD} {q : PosShare TreeShare} {f : Buf (Elt F) (wsL c)} :
    (iprop(wsPts (F := F) c 0 128 q f ∗ wsPts c 128 128 q f ∗ wsPts c 256 128 q f ∗ wsPts c 384 128 q f ∗ wsPts c 512 32 q f) : sProp 𝕄)
      ⊢ (wsL c ↦{q} f) := by
  rw [← ws_whole]
  iintro ⟨H0, H1, H2, H3, H4⟩
  ihave H := (ws_split (F := F) (c := c) (o := 384) (n := 128) (m := 32) (q := q) (f := f)).2 $$ [H3 H4]
  · isplitl [H3]; · iexact H3
    iexact H4
  ihave H := (ws_split (F := F) (c := c) (o := 256) (n := 128) (m := 160) (q := q) (f := f)).2 $$ [H2 H]
  · isplitl [H2]; · iexact H2
    iexact H
  ihave H := (ws_split (F := F) (c := c) (o := 128) (n := 128) (m := 288) (q := q) (f := f)).2 $$ [H1 H]
  · isplitl [H1]; · iexact H1
    iexact H
  iapply (ws_split (F := F) (c := c) (o := 0) (n := 128) (m := 416) (q := q) (f := f)).2
  isplitl [H0]; · iexact H0
  iexact H

omit [FloatOps F] [Named F] in
theorem ws_cut {c : Dev nD} {q : PosShare TreeShare} {f : Buf (Elt F) (wsL c)} :
    (wsL c ↦{q} f : sProp 𝕄)
      ⊢ iprop(wsPts (F := F) c 0 128 q f ∗ wsPts c 128 256 q f ∗ wsPts c 384 128 q f ∗ wsPts c 512 32 q f) := by
  rw [← ws_whole]
  iintro H
  ihave H := (ws_split (F := F) (c := c) (o := 0) (n := 128) (m := 416) (q := q) (f := f)).1 $$ H
  icases H with ⟨H0, H⟩
  ihave H := (ws_split (F := F) (c := c) (o := 128) (n := 256) (m := 160) (q := q) (f := f)).1 $$ H
  icases H with ⟨H1, H⟩
  ihave H := (ws_split (F := F) (c := c) (o := 384) (n := 128) (m := 32) (q := q) (f := f)).1 $$ H
  icases H with ⟨H2, H⟩
  isplitl [H0]; · iexact H0
  isplitl [H1]; · iexact H1
  isplitl [H2]; · iexact H2
  iexact H

/-- The whole window for reading, while halves of two stretches are being sent. -/
theorem ws_read {c : Dev nD} :
    iprop(wsPts c 0 128 fullShare (WS A c) ∗ wsPts c 128 128 fullShare.left (WS A c) ∗ wsPts c 256 128 fullShare.left (WS A c)
        ∗ wsPts c 384 128 fullShare (WS A c) ∗ wsPts c 512 32 fullShare (WS A c))
      ⊢ iprop((wsL c ↦{fullShare.left} WS A c) ∗ wsPts c 0 128 fullShare.right (WS A c) ∗ wsPts c 384 128 fullShare.right (WS A c)
        ∗ wsPts c 512 32 fullShare.right (WS A c)) := by
  iintro ⟨H0, H1, H2, H3, H4⟩
  ihave H0 := ws_halves.1 $$ H0
  icases H0 with ⟨H0, H0'⟩
  ihave H3 := ws_halves.1 $$ H3
  icases H3 with ⟨H3, H3'⟩
  ihave H4 := ws_halves.1 $$ H4
  icases H4 with ⟨H4, H4'⟩
  isplitl [H0 H1 H2 H3 H4]
  · iapply ws_five
    isplitl [H0]; · iexact H0
    isplitl [H1]; · iexact H1
    isplitl [H2]; · iexact H2
    isplitl [H3]; · iexact H3
    iexact H4
  isplitl [H0']; · iexact H0'
  isplitl [H3']; · iexact H3'
  iexact H4'

/-- The whole window again, with the sent halves back. -/
theorem ws_back {c : Dev nD} :
    iprop((wsL c ↦{fullShare.left} WS A c) ∗ wsPts c 0 128 fullShare.right (WS A c) ∗ wsPts c 128 128 fullShare.right (WS A c)
        ∗ wsPts c 256 128 fullShare.right (WS A c) ∗ wsPts c 384 128 fullShare.right (WS A c) ∗ wsPts c 512 32 fullShare.right (WS A c))
      ⊢ (wsL c ↦{fullShare} WS A c) := by
  iintro ⟨H, HR⟩
  ihave HR := ws_five $$ HR
  iapply (pointsTo_share (ℓ := wsL c) (I := Finset.univ) (f := WS A c) (PosShare.mem_left_op_right fullShare)).2
  isplitl [H]; · iexact H
  iexact HR

/-! ## A device other than device 0, as a whole -/

theorem w_seq {α β : Type} {Q : β → sProp 𝕄} (p : Prog (TpuEff nD τ sig (Elt F) Λ₀ .tc) α) (k : α → Prog (TpuEff nD τ sig (Elt F) Λ₀ .tc) β) {c : Dev nD} :
    W' c Q (p >>= k) = W' c (fun a => W' c Q (k a)) p := w_bind c p k

/-- What device `c` (not 0) starts with. -/
def NPre (c : Dev nD) : sProp 𝕄 :=
  iprop(ows c 0 ∗ AP (F := F) c ∅ ∗ cr (F := F) c 0 ∗ cr (F := F) c 36 ∗ cr (F := F) c 3 ∗ (if c.val < 31 then cr (F := F) c 4 else iprop(emp))
    ∗ (if c.val < 31 then tk (F := F) (nxt c) 0 c else iprop(emp)) ∗ (if 1 < c.val then tk (F := F) (prv c) 0 c else iprop(emp))
    ∗ (if c.val < 31 then iprop(tk (F := F) c 2 c ∗ tk (F := F) (nxt c) 3 c) else iprop(emp))
    ∗ tk (F := F) 0 0 c ∗ tk (F := F) c 1 c ∗ tk (F := F) (prv c) 4 c ∗ tk (F := F) c 37 c ∗ tk (F := F) 0 38 c)

/-- The memory that it starts with: the inputs, and some contents of the output and of the scratch buffers that it uses. -/
def Mem0 (c : Dev nD) : sProp 𝕄 :=
  iprop(xPts c A ∗ qPts c A ∗ kPts c A ∗ vPts c A ∗ oPts c A ∗ (∃ f, uL c ↦{fullShare} f) ∗ (∃ f, wsL c ↦{fullShare} f)
    ∗ bcX (F := F) c ∗ (∃ f, ptPts c f) ∗ (∃ f, cxL c ↦{fullShare} f))

/-- What it ends with. -/
def NPost (c : Dev nD) : sProp 𝕄 :=
  iprop(ows c 6 ∗ (∃ D, ⌜∀ k, k ∉ D → dut c k = ∅⌝ ∗ AP (F := F) c D)
    ∗ xPts c A ∗ qPts c A ∗ kPts c A ∗ vPts c A ∗ oPts c A ∗ (uL c ↦{fullShare} OUTL A c) ∗ (wsL c ↦{fullShare} WS A c)
    ∗ bcPts c fullShare (BC A) ∗ ptPts c (PART A c) ∗ (cxL c ↦{fullShare} CTX A c))

/-- What it ends with but for the send of its partial results. -/
def NMid (c : Dev nD) : sProp 𝕄 :=
  iprop(ows c 6 ∗ AP (F := F) c (if c.val < 31 then {2, 1, 4, 3, 36, 0} else {1, 3, 36, 0})
    ∗ cred (tallyAt (kcell (c, 37)) () Np)
    ∗ xPts c A ∗ qPts c A ∗ kPts c A ∗ vPts c A ∗ oPts c A ∗ (uL c ↦{fullShare} OUTL A c) ∗ (wsL c ↦{fullShare} WS A c)
    ∗ bcPts c fullShare (BC A) ∗ (cxL c ↦{fullShare} CTX A c))

theorem cr_one {c d : Dev nD} {k : Fin 39} (h : dut c k = {d}) : cr (F := F) c k = cred (tallyAt (kcell (c, k)) () (amt k)) := by
  unfold cr; rw [expc_one h]

theorem last_or (p : Prop) [Decidable p] (X Y Z W : sProp 𝕄) :
    iprop((if p then X else iprop(emp)) ∗ (if p then Y else iprop(Z ∗ W))) ⊢ iprop((if p then X else W) ∗ (if p then Y else Z)) := by
  by_cases h : p
  · simp only [if_pos h]; exact .rfl
  · simp only [if_neg h]; iintro ⟨-, HZ, HW⟩
    isplitl [HW]; · iexact HW
    iexact HZ

set_option maxHeartbeats 1000000 in
theorem n57 {c : Dev nD} (h0 : c.val ≠ 0) {Q} :
    iprop(ctx A K ∗ NPre (F := F) c ∗ Mem0 A c)
      ⊢ iprop((NMid A c -∗ Q ⟨c, V2 c, Scalar.cmpi .eq (V2 c) 0#32⟩) -∗ W' c Q (k0_part57 xM hx qM hq kM hk vM hv oM ho uM hu wsM hws bcM hbc ptM hpt rxM hrx cxM hcx cc0_scratch5 cc0_scratch6 cc0_scratch7 cc0_scratch8 cc0_scratch9 cc0_scratch10)) := by
  have hc : c.val < 32 := c.isLt
  simp only [k0_part57_eq_skeleton]; unfold k0_part57_skel
  simp only [Prog.lift, Prog.bind_op, Prog.bind_ret, Prog.pure_eq_ret]
  unfold NPre Mem0
  iintro ⟨#HR, ⟨HO, HA, HC0, HC36, HC3, HC4, HTn, HTp, HT23, HT0, HT1, HT4, HT37, HT38⟩, Hx, Hq, Hk, Hv, Ho, Hu, ⟨%fw, Hw⟩, Hb, Hp, Hcx⟩
  iintro HQ
  ihave Hw := ws_cut $$ Hw
  icases Hw with ⟨Hw0, Hw1, Hw3, Hw4⟩
  rw [w_seq]; iapply (n38 A K h0) $$ [HO HA HC0 Hk HT0 Hb Hw0 Hw3 HTn HTp]
  · isplitr; · iexact HR
    isplitl [HO]; · iexact HO
    isplitl [HA]; · iexact HA
    isplitl [HC0]; · iexact HC0
    isplitl [Hk]; · iexact Hk
    unfold BT
    isplitl [HT0]; · iexact HT0
    isplitl [Hb]; · iexact Hb
    isplitl [Hw0]; · iexists fw; iexact Hw0
    isplitl [Hw3]; · iexists fw; iexact Hw3
    isplitl [HTn]; · iexact HTn
    iexact HTp
  iintro ⟨HO, HA, Hk, HG⟩
  unfold BG' BG
  icases HG with ⟨⟨Hrx, Hpw, Hnw⟩, Hdw⟩
  rw [w_seq]; iapply (n39 A K h0) $$ [HO Hv Hq Hx Hw1 HT1 HT4 Hpw Hnw Hdw HT23]
  · isplitr; · iexact HR
    isplitl [HO]; · iexact HO
    isplitl [Hv]; · iexact Hv
    isplitl [Hq]; · iexact Hq
    isplitl [Hx]; · iexact Hx
    isplitl [Hw1]; · iexists fw; iexact Hw1
    unfold HT
    isplitl [HT1]; · iexact HT1
    isplitl [HT4]; · iexact HT4
    isplitl [Hpw]; · iexact Hpw
    by_cases h31 : c.val < 31
    · simp only [if_pos h31]
      icases HT23 with ⟨HT2, HT3⟩
      isplitl [HT2]; · iexact HT2
      isplitl [HT3]; · iexact HT3
      iexact Hnw
    · simp only [if_neg h31]
      iexact Hdw
  iintro ⟨HO, Hv, Hq, Hx, HG⟩
  unfold HG
  icases HG with ⟨HwB, HwC, Hc1, Hc2⟩
  rw [w_seq]; iapply (n40 A K h0) $$ [HO HA HC36 Hx Hk Hv Hw4]
  · isplitr; · iexact HR
    isplitl [HO]; · iexact HO
    isplitl [HA]; · iexact HA
    isplitl [HC36]; · iexact HC36
    isplitl [Hx]; · iexact Hx
    isplitl [Hk]; · iexact Hk
    isplitl [Hv]; · iexact Hv
    iexists fw; iexact Hw4
  iintro ⟨HO, HA, Hx, Hk, Hv, Hb, HwE⟩
  ihave Hp := (kp_start A c) $$ Hp
  ihave Hr := (show iprop(bcPts c fullShare (BC A) ∗ kPts c A ∗ vPts c A) ⊢ Rd A c fullShare from .rfl) $$ [Hb Hk Hv]
  · isplitl [Hb]; · iexact Hb
    isplitl [Hk]; · iexact Hk
    iexact Hv
  rw [w_seq]; iapply (part41 A c fullShare) $$ [Hp Hr]
  · isplitl [Hp]; · iexact Hp
    iexact Hr
  iintro ⟨Hp, Hr⟩
  rw [w_seq]; iapply (part42 A c fullShare) $$ [Hp Hr]
  · isplitl [Hp]; · iexact Hp
    iexact Hr
  iintro ⟨Hp, Hr⟩
  rw [w_seq]; iapply (part43 A c fullShare) $$ [Hp Hr]
  · isplitl [Hp]; · iexact Hp
    iexact Hr
  iintro ⟨Hp, Hr⟩
  rw [w_seq]; iapply (part44 A c fullShare) $$ [Hp Hr]
  · isplitl [Hp]; · iexact Hp
    iexact Hr
  iintro ⟨Hp, Hr⟩
  rw [w_seq]; iapply (part45 A c fullShare) $$ [Hp Hr]
  · isplitl [Hp]; · iexact Hp
    iexact Hr
  iintro ⟨Hp, Hr⟩
  rw [w_seq]; iapply (part46 A c fullShare) $$ [Hp Hr]
  · isplitl [Hp]; · iexact Hp
    iexact Hr
  iintro ⟨Hp, Hr⟩
  rw [w_seq]; iapply (part47 A c fullShare) $$ [Hp Hr]
  · isplitl [Hp]; · iexact Hp
    iexact Hr
  iintro ⟨Hp, Hr⟩
  rw [w_seq]; iapply (part48 A c fullShare) $$ [Hp Hr]
  · isplitl [Hp]; · iexact Hp
    iexact Hr
  iintro ⟨Hp, Hr⟩
  ihave HX := (last_or (c.val < 31) _ _ _ _) $$ [HC4 Hc2]
  · isplitl [HC4]; · iexact HC4
    iexact Hc2
  icases HX with ⟨HC4, Hc2⟩
  rw [w_seq]; iapply (n49 A K h0) $$ [HO HA Hp HT37 HT38 Hrx HC3 HC4]
  · isplitr; · iexact HR
    isplitl [HO]; · iexact HO
    isplitl [HA]; · iexact HA
    isplitl [Hp]; · iexact Hp
    isplitl [HT37]; · iexact HT37
    isplitl [HT38]; · iexact HT38
    isplitl [Hrx]; · iexact Hrx
    isplitl [HC3]; · iexact HC3
    iexact HC4
  iintro ⟨HO, HA, Hc37, HwA, HwD⟩
  ihave Hw := (ws_read A) $$ [HwA HwB HwC HwD HwE]
  · isplitl [HwA]; · iexact HwA
    isplitl [HwB]; · iexact HwB
    isplitl [HwC]; · iexact HwC
    isplitl [HwD]; · iexact HwD
    iexact HwE
  icases Hw with ⟨Hw, HwA, HwD, HwE⟩
  ihave Hcx := (kc_start A c) $$ Hcx
  ihave Ha := (show iprop((wsL c ↦{fullShare.left} WS A c) ∗ KC A c 0) ⊢ At A c fullShare.left 0 from .rfl) $$ [Hw Hcx]
  · isplitl [Hw]; · iexact Hw
    iexact Hcx
  rw [w_seq]; iapply (part50 A c fullShare.left) $$ Ha; iintro Ha
  rw [w_seq]; iapply (part51 A c fullShare.left) $$ Ha; iintro Ha
  rw [w_seq]; iapply (part52 A c fullShare.left) $$ Ha; iintro Ha
  rw [w_seq]; iapply (part53 A c fullShare.left) $$ Ha; iintro Ha
  rw [w_seq]; iapply (part54 A c fullShare.left) $$ Ha; iintro Ha
  rw [w_seq]; iapply (part55 A c fullShare.left) $$ Ha; iintro Ha
  rw [w_seq]; iapply (part56 A c fullShare.left) $$ [Ha Ho]
  · isplitl [Ha]; · iexact Ha
    iexact Ho
  iintro ⟨Hw, Hcx, Ho⟩
  ihave Hu := (ku_start A c) $$ Hu
  iapply (dl_u A c) $$ Hu; iintro Hu
  iapply (st_u A c 0 (n := 0) rfl (w := k0_pay200 (k0_pay199 (A.wo c) (ctxb A c 0))) (fun i => if_pos rfl)) $$ Hu; iintro Hu
  iapply (ld_cx c A 1) $$ Hcx; iintro Hcx
  iapply (dl_u A c) $$ Hu; iintro Hu
  iapply (st_u A c 1 (n := 1) rfl (w := k0_pay201 (k0_pay198 (A.wo c)) (ctxb A c 1)) (fun i => if_neg (show ¬ (1 = 0) by decide))) $$ Hu; iintro Hu
  ihave Hu := (ku_done A c) $$ Hu
  ihave Hr := (show Rd A c fullShare ⊢ iprop(bcPts c fullShare (BC A) ∗ kPts c A ∗ vPts c A) from .rfl) $$ Hr
  icases Hr with ⟨Hb, Hk, Hv⟩
  simp only [dif_neg (mt (cond17_iff c).mp h0), dif_pos ((gt0_iff c).mpr (Nat.pos_of_ne_zero h0)), Prog.bind_op, Prog.bind_ret]
  iapply (wait_one A K 1 (if c.val < 31 then {4, 3, 36, 0} else {3, 36, 0}) (dut_1 h0) (by split <;> decide) (lt_none (ow_none h0) 1) rfl rfl
    (dst := wsS 128 inb_S2x2x544x4x64_S2x2x128x4x64_0_0_128_0_0) (P := wsPts c 128 128 fullShare.right (WS A c)) .rfl) $$ [HO HA Hc1]
  · isplitr; · iexact HR
    isplitl [HO]; · iexact HO
    isplitl [HA]; · iexact HA
    iapply (Entails.of_eq (cr_one (dut_1 h0)).symm); iexact Hc1
  iintro ⟨HO, HA, HwB⟩
  unfold NMid
  by_cases h31 : c.val < 31
  · simp only [dif_pos ((lt31_iff c).mpr h31), if_pos h31, Prog.bind_op, Prog.bind_ret]
    iapply (wait_one A K 2 {1, 4, 3, 36, 0} (dut_2 h31) (by decide) (lt_none (ow_none h0) 2) rfl rfl
      (dst := wsS 256 inb_S2x2x544x4x64_S2x2x128x4x64_0_0_256_0_0) (P := wsPts c 256 128 fullShare.right (WS A c)) .rfl) $$ [HO HA Hc2]
    · isplitr; · iexact HR
      isplitl [HO]; · iexact HO
      isplitl [HA]; · iexact HA
      iapply (Entails.of_eq (cr_one (dut_2 h31)).symm); iexact Hc2
    iintro ⟨HO, HA, HwC⟩
    iapply (w_ret c (Q := Q) ⟨c, V2 c, Scalar.cmpi .eq (V2 c) 0#32⟩); iapply HQ
    isplitl [HO]; · iexact HO
    isplitl [HA]; · iexact HA
    isplitl [Hc37]; · iexact Hc37
    iframe
    iapply (ws_back A)
    iframe
  · simp only [dif_neg (mt (lt31_iff c).mp h31), if_neg h31, Prog.bind_op, Prog.bind_ret]
    iapply (w_ret c (Q := Q) ⟨c, V2 c, Scalar.cmpi .eq (V2 c) 0#32⟩); iapply HQ
    isplitl [HO]; · iexact HO
    isplitl [HA]; · iexact HA
    isplitl [Hc37]; · iexact Hc37
    iframe
    iapply (ws_back A)
    iframe

end Cert.KernelIdeal.Att

end
-- ==== Proof.KernelIdealOthersEnd.lean ====
/-
The whole program of a device other than device 0.
-/
module

public import proofs.«01_k».proof.Proof.KernelIdealOthers

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

theorem no_dut {c : Dev nD} (h0 : c.val ≠ 0) (k : Fin 39)
    (hk : k ∉ insert (37 : Fin 39) (if c.val < 31 then ({2, 1, 4, 3, 36, 0} : Finset (Fin 39)) else {1, 3, 36, 0})) : dut c k = ∅ :=
  Finset.filter_false_of_mem fun d _ hd => hk <| by
    have hl : d.val < 32 := d.isLt
    have hc : c.val < 32 := c.isLt
    by_cases h31 : c.val < 31
    · rw [if_pos h31]; simp only [Finset.mem_insert, Finset.mem_singleton, Fin.ext_iff,
        show ((37 : Fin 39) : ℕ) = 37 from rfl, show ((2 : Fin 39) : ℕ) = 2 from rfl, show ((1 : Fin 39) : ℕ) = 1 from rfl, show ((4 : Fin 39) : ℕ) = 4 from rfl, show ((3 : Fin 39) : ℕ) = 3 from rfl, show ((36 : Fin 39) : ℕ) = 36 from rfl, show ((0 : Fin 39) : ℕ) = 0 from rfl]
      unfold Pd at hd; omega
    · rw [if_neg h31]; simp only [Finset.mem_insert, Finset.mem_singleton, Fin.ext_iff,
        show ((37 : Fin 39) : ℕ) = 37 from rfl, show ((2 : Fin 39) : ℕ) = 2 from rfl, show ((1 : Fin 39) : ℕ) = 1 from rfl, show ((4 : Fin 39) : ℕ) = 4 from rfl, show ((3 : Fin 39) : ℕ) = 3 from rfl, show ((36 : Fin 39) : ℕ) = 36 from rfl, show ((0 : Fin 39) : ℕ) = 0 from rfl]
      unfold Pd at hd; omega

theorem nbody {c : Dev nD} (h0 : c.val ≠ 0) {Q} :
    iprop(ctx A K ∗ NPre (F := F) c ∗ Mem0 A c)
      ⊢ iprop((NPost A c -∗ Q ⟨⟩) -∗ W' c Q (cc0_body xM hx qM hq kM hk vM hv oM ho uM hu wsM hws bcM hbc ptM hpt rxM hrx cxM hcx cc0_scratch5 cc0_scratch6 cc0_scratch7 cc0_scratch8 cc0_scratch9 cc0_scratch10)) := by
  simp only [cc0_body_eq_skeleton]; unfold cc0_body_skel
  simp only [Prog.lift, Prog.bind_op, Prog.bind_ret, Prog.pure_eq_ret]
  iintro ⟨#HR, HN, HM⟩
  iintro HQ
  rw [w_seq]; iapply (n57 A K h0) $$ [HN HM]
  · isplitr; · iexact HR
    isplitl [HN]; · iexact HN
    iexact HM
  unfold NMid NPost
  iintro ⟨HO, HA, HC, Hx, Hq, Hk, Hv, Ho, Hu, Hw, Hb, Hcx⟩
  simp only [dif_neg (mt (eq0_iff c).mp h0), dif_pos ((cond21_iff c).mpr h0), Prog.bind_op, Prog.bind_ret]
  iapply (wait_one A K 37 (if c.val < 31 then {2, 1, 4, 3, 36, 0} else {1, 3, 36, 0}) (dut_37 h0) (by split <;> decide) (lt_none (ow_none h0) 37) rfl
    (dst := ptM) rfl (P := ptPts c (PART A c)) .rfl) $$ [HO HA HC]
  · isplitr; · iexact HR
    isplitl [HO]; · iexact HO
    isplitl [HA]; · iexact HA
    iapply (Entails.of_eq (cr_one (dut_37 h0)).symm); iexact HC
  iintro ⟨HO, HA, Hp⟩
  iapply (w_ret c (Q := Q) ⟨⟩); iapply HQ
  isplitl [HO]; · iexact HO
  isplitl [HA]
  · iexists _
    isplitr
    on_goal 2 => iexact HA
    ipureintro; exact no_dut h0
  iframe

end Cert.KernelIdeal.Att

end
-- ==== Proof.KernelIdealFirst.lean ====
/-
Device 0: the loops over the other devices, and its barrier.
-/
module

public import proofs.«01_k».proof.Proof.KernelIdealOthers

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## Device 0's loops over the other devices -/

/-- Over the devices after device `j`. -/
def LT (j : ℕ) (Φ : Dev nD → sProp 𝕄) : sProp 𝕄 := bigSep (Finset.univ.filter fun t : Dev nD => j < t.val) Φ
/-- Over the devices up to device `j`, but for device 0. -/
def LE (j : ℕ) (Φ : Dev nD → sProp 𝕄) : sProp 𝕄 := bigSep (Finset.univ.filter fun t : Dev nD => 0 < t.val ∧ t.val ≤ j) Φ

theorem LT_next {j : ℕ} {n : Dev nD} (hn : n.val = j + 1) (Φ : Dev nD → sProp 𝕄) : LT j Φ = iprop(Φ n ∗ LT (j + 1) Φ) := by
  unfold LT
  rw [show (Finset.univ.filter fun t : Dev nD => j < t.val) = insert n (Finset.univ.filter fun t : Dev nD => j + 1 < t.val) from by
    ext t; simp only [Finset.mem_filter, Finset.mem_univ, true_and, Finset.mem_insert, Fin.ext_iff]; omega]
  exact bigSep_insert (by simp only [Finset.mem_filter, Finset.mem_univ, true_and]; omega)

theorem LE_next {j : ℕ} {n : Dev nD} (hn : n.val = j + 1) (Φ : Dev nD → sProp 𝕄) : LE (j + 1) Φ = iprop(Φ n ∗ LE j Φ) := by
  unfold LE
  rw [show (Finset.univ.filter fun t : Dev nD => 0 < t.val ∧ t.val ≤ j + 1) = insert n (Finset.univ.filter fun t : Dev nD => 0 < t.val ∧ t.val ≤ j) from by
    ext t; simp only [Finset.mem_filter, Finset.mem_univ, true_and, Finset.mem_insert, Fin.ext_iff]; omega]
  exact bigSep_insert (by simp only [Finset.mem_filter, Finset.mem_univ, true_and]; omega)

theorem LE_zero (Φ : Dev nD → sProp 𝕄) : LE 0 Φ = iprop(emp) := by
  unfold LE
  rw [show (Finset.univ.filter fun t : Dev nD => 0 < t.val ∧ t.val ≤ 0) = ∅ from Finset.filter_false_of_mem fun t _ => by omega]
  exact bigSep_empty

theorem LE_all (Φ : Dev nD → sProp 𝕄) : LE 31 Φ = LT 0 Φ := by
  unfold LE LT
  rw [show (Finset.univ.filter fun t : Dev nD => 0 < t.val ∧ t.val ≤ 31) = Finset.univ.filter fun t : Dev nD => 0 < t.val from by
    ext t; have ht : t.val < 32 := t.isLt; simp only [Finset.mem_filter, Finset.mem_univ, true_and]; omega]

theorem LT_mono {j : ℕ} {Φ Ψ : Dev nD → sProp 𝕄} (h : ∀ t : Dev nD, j < t.val → (Φ t ⊢ Ψ t)) : LT j Φ ⊢ LT j Ψ :=
  bigSep_mono fun t ht => h t (Finset.mem_filter.mp ht).2
theorem LT_sep (j : ℕ) (Φ Ψ : Dev nD → sProp 𝕄) : LT j (fun t => iprop(Φ t ∗ Ψ t)) = iprop(LT j Φ ∗ LT j Ψ) := bigSep_sep _ _ _

theorem range_LE (Φ : ℕ → sProp 𝕄) : ∀ j, j ≤ 31 → bigSep (Finset.range j) Φ = LE j fun t => Φ (t.val - 1)
  | 0, _ => by rw [Finset.range_zero, LE_zero]; exact bigSep_empty
  | j + 1, h => by
    rw [Finset.range_add_one, bigSep_insert Finset.notMem_range_self, LE_next (n := (⟨j + 1, by show j + 1 < 32; omega⟩ : Dev nD)) rfl, range_LE Φ j (by omega)]
    rfl

/-- Device 0 and the others. -/
theorem all_devs (Φ : Dev nD → sProp 𝕄) : bigSep Finset.univ Φ = iprop(Φ 0 ∗ LT 0 Φ) := by
  unfold LT
  rw [bigSep_univ_at Φ 0, show (Finset.univ.erase (0 : Dev nD)) = Finset.univ.filter fun t : Dev nD => 0 < t.val from by
    ext t; simp only [Finset.mem_erase, Finset.mem_filter, Finset.mem_univ, true_and, and_true, ne_eq, Fin.ext_iff]
    exact Nat.pos_iff_ne_zero.symm]

theorem w_then {α β : Type} {Q : β → sProp 𝕄} (p : Prog (TpuEff nD τ sig (Elt F) Λ₀ .tc) α) (k : α → Prog (TpuEff nD τ sig (Elt F) Λ₀ .tc) β) {c : Dev nD} :
    W' c (fun a => W' c Q (k a)) p ⊢ W' c Q (p >>= k) := Entails.of_eq (w_seq p k).symm

/-! ## The barrier of device 0 -/

/-- What the signal to device `t` uses. -/
def GV (t : Dev nD) : sProp 𝕄 := iprop(tk (F := F) t 0 0 ∗ barPay (F := F) t 0)

theorem z_sig {j : ℕ} {n : Dev nD} (hn : n.val = j + 1) {kw : ℕ} (hk : kw = 1) {α : Type} {Q : α → sProp 𝕄}
    {k : PUnit → Prog (TpuEff nD τ sig (Elt F) Λ₀ .tc) α} :
    iprop(ctx A K ∗ (ows (F := F) 0 j ∗ LT j (GV (F := F))))
      ⊢ iprop((ows (F := F) 0 (j + 1) ∗ LT (j + 1) (GV (F := F)) -∗ W' 0 Q (k ⟨⟩)) -∗ W' 0 Q (.op (.semSignal (n : Thread nD τ) barS kw) k)) := by
  have hP : Pd n 0 0 := Or.inl ⟨rfl, by show ¬ 0 = n.val; omega, Or.inr (Or.inl rfl)⟩
  rw [LT_next hn]
  unfold GV
  refine (show iprop(ctx A K ∗ (ows (F := F) 0 j ∗ ((tk (F := F) n 0 0 ∗ barPay (F := F) n 0) ∗ LT (j + 1) fun t => iprop(tk (F := F) t 0 0 ∗ barPay (F := F) t 0)))) ⊢ _ from ?_)
  iintro ⟨#HR, HO, ⟨HT, HB⟩, HL⟩
  iintro HX
  iapply (sig_step A K (c := 0) (d := n) (i := j) (n := n) rfl hP (ord0_b.trans hn) hk) $$ [HO HT HB]
  · isplitr; · iexact HR
    isplitl [HO]; · iexact HO
    isplitl [HT]; · iexact HT
    iexact HB
  iintro HO
  iapply HX
  isplitl [HO]; · iexact HO
  iexact HL

theorem sig1 (h1 : k0_cond1 (0 : Dev nD) = 1#1) {Q} :
    iprop(ctx A K ∗ (ows (F := F) 0 0 ∗ LT 0 (GV (F := F))))
      ⊢ iprop((ows (F := F) 0 8 ∗ LT 8 (GV (F := F)) -∗ Q (Scalar.muli 9#32 1#32)) -∗ W' 0 Q (k0_part1 xM hx qM hq kM hk vM hv oM ho uM hu wsM hws bcM hbc ptM hpt rxM hrx cxM hcx cc0_scratch5 cc0_scratch6 cc0_scratch7 cc0_scratch8 cc0_scratch9 cc0_scratch10 0 (SemArray.scalar (sig.barrier 0 rfl)) h1)) := by
  simp only [k0_part1_eq_skeleton]; unfold k0_part1_skel
  simp only [semSignalWord, Prog.lift, Prog.bind_op, Prog.bind_ret, Prog.pure_eq_ret]
  iintro ⟨#HR, HS⟩
  iintro HQ
  iterate 8
    iapply (z_sig A K rfl (by decide)) $$ [HS]
    · isplitr; · iexact HR
      iexact HS
    iintro HS
  iapply (w_ret 0 (Q := Q) (Scalar.muli 9#32 1#32)); iapply HQ; iexact HS

theorem sig2 (h1 : k0_cond1 (0 : Dev nD) = 1#1) (v : BitVec 32) {Q} :
    iprop(ctx A K ∗ (ows (F := F) 0 8 ∗ LT 8 (GV (F := F))))
      ⊢ iprop((ows (F := F) 0 17 ∗ LT 17 (GV (F := F)) -∗ Q ⟨⟩) -∗ W' 0 Q (k0_part2 xM hx qM hq kM hk vM hv oM ho uM hu wsM hws bcM hbc ptM hpt rxM hrx cxM hcx cc0_scratch5 cc0_scratch6 cc0_scratch7 cc0_scratch8 cc0_scratch9 cc0_scratch10 0 (SemArray.scalar (sig.barrier 0 rfl)) h1 v)) := by
  simp only [k0_part2_eq_skeleton]; unfold k0_part2_skel
  simp only [semSignalWord, Prog.lift, Prog.bind_op, Prog.bind_ret, Prog.pure_eq_ret]
  iintro ⟨#HR, HS⟩
  iintro HQ
  iterate 9
    iapply (z_sig A K rfl (by decide)) $$ [HS]
    · isplitr; · iexact HR
      iexact HS
    iintro HS
  iapply (w_ret 0 (Q := Q) ⟨⟩); iapply HQ; iexact HS

theorem sig3 (h1 : k0_cond1 (0 : Dev nD) = 1#1) {Q} :
    iprop(ctx A K ∗ (ows (F := F) 0 17 ∗ LT 17 (GV (F := F))))
      ⊢ iprop((ows (F := F) 0 25 ∗ LT 25 (GV (F := F)) -∗ Q ⟨Scalar.muli 26#32 1#32, 0#32⟩) -∗ W' 0 Q (k0_part3 xM hx qM hq kM hk vM hv oM ho uM hu wsM hws bcM hbc ptM hpt rxM hrx cxM hcx cc0_scratch5 cc0_scratch6 cc0_scratch7 cc0_scratch8 cc0_scratch9 cc0_scratch10 0 (SemArray.scalar (sig.barrier 0 rfl)) h1)) := by
  simp only [k0_part3_eq_skeleton]; unfold k0_part3_skel
  simp only [semSignalWord, Prog.lift, Prog.bind_op, Prog.bind_ret, Prog.pure_eq_ret]
  iintro ⟨#HR, HS⟩
  iintro HQ
  iterate 8
    iapply (z_sig A K rfl (by decide)) $$ [HS]
    · isplitr; · iexact HR
      iexact HS
    iintro HS
  iapply (w_ret 0 (Q := Q) ⟨Scalar.muli 26#32 1#32, 0#32⟩); iapply HQ; iexact HS

theorem lt_bar0 : ∀ x ∈ ow (0 : Dev nD) 31, lvk 0 < lvk x.2 := fun x hx => by
  obtain ⟨-, hk, ho⟩ := mem_ow.mp hx
  have hl : x.1.val < 32 := x.1.isLt
  have ho' : ¬ x.2.val = 0 := fun h => by
    unfold ord at ho; rw [if_pos (show (0 : Dev nD).val = 0 from rfl), if_pos h] at ho; omega
  show (1 : ℕ) < _
  unfold lvk
  rw [if_neg ho']
  unfold OwK at hk
  split
  · omega
  · rw [if_pos (by omega)]; omega

/-- What the round of device 0's barrier brings it. -/
theorem bar_gain0 : bigSep (dut 0 0) (pay A 0 0) ⊢ iprop(LT 0 (bcX (F := F)) ∗ wsX (F := F) 1 0 128) := by
  have e : ∀ d, pay A 0 0 d = barPay 0 d := fun d => if_pos rfl
  have hs : dut 0 0 = Finset.univ.filter fun t : Dev nD => 0 < t.val := by
    ext t; rw [mem_dut, Finset.mem_filter]
    refine ⟨fun h => ⟨Finset.mem_univ _, ?_⟩, fun h => Or.inl ⟨rfl, Nat.pos_iff_ne_zero.mp h.2, Or.inl rfl⟩⟩
    have hz : (0 : Dev nD).val = 0 := rfl
    have hk : (0 : Fin 39).val = 0 := rfl
    unfold Pd at h; omega
  rw [bigSep_congr fun d _ => e d, hs]
  have hb : ∀ t : Dev nD, barPay (F := F) 0 t ⊢ iprop(bcX (F := F) t ∗ (if t.val = 1 then wsX (F := F) t 0 128 else iprop(emp))) := fun t => by
    unfold barPay
    rw [if_pos (show (0 : Dev nD).val = 0 from rfl)]
    iintro ⟨H, H', -⟩
    isplitl [H]; · iexact H
    iexact H'
  refine (LT_mono (j := 0) fun t _ => hb t).trans ?_
  rw [LT_sep]
  refine sep_mono .rfl ?_
  rw [LT_next (n := (1 : Dev nD)) rfl]
  refine (show iprop((if (1 : Dev nD).val = 1 then wsX (F := F) 1 0 128 else iprop(emp)) ∗ LT 1 _) ⊢ _ from ?_)
  rw [if_pos (show (1 : Dev nD).val = 1 from rfl)]
  iintro ⟨H, -⟩; iexact H

/-- What device 0 gives away by its signals. -/
theorem give_all : iprop(LT 0 (fun t => tk (F := F) t 0 0) ∗ LT 0 (fun t => rxX (F := F) t.val) ∗ wsX (F := F) 0 384 128) ⊢ LT 0 (GV (F := F)) := by
  have e1 : LT 0 (fun t => tk (F := F) t 0 0) = iprop(tk (F := F) 1 0 0 ∗ LT 1 fun t => tk (F := F) t 0 0) := LT_next (n := (1 : Dev nD)) rfl _
  have e2 : LT 0 (fun t => rxX (F := F) t.val) = iprop(rxX (F := F) 1 ∗ LT 1 fun t => rxX (F := F) t.val) := LT_next (n := (1 : Dev nD)) rfl _
  have e3 : LT 0 (GV (F := F)) = iprop((tk (F := F) 1 0 0 ∗ barPay (F := F) 1 0) ∗ LT 1 (GV (F := F))) := LT_next (n := (1 : Dev nD)) rfl _
  have e4 : iprop((LT 1 fun t => tk (F := F) t 0 0) ∗ (LT 1 fun t => rxX (F := F) t.val)) ⊢ LT 1 (GV (F := F)) := by
    rw [← LT_sep]; exact LT_mono fun t ht => sep_mono .rfl (give0 ht)
  rw [e1, e2, e3]
  iintro ⟨⟨HT, HTs⟩, ⟨HX, HXs⟩, HD⟩
  isplitl [HT HX HD]
  · isplitl [HT]; · iexact HT
    iapply give01
    isplitl [HD]; · iexact HD
    iexact HX
  iapply e4
  isplitl [HTs]; · iexact HTs
  iexact HXs

theorem z38 {Q} :
    iprop(ctx A K ∗ ows 0 0 ∗ AP (F := F) 0 ∅ ∗ cred (tallyAt (kcell ((0 : Dev nD), (0 : Fin 39))) () (expc 0 0)) ∗ kPts 0 A ∗ LT 0 (GV (F := F)))
      ⊢ iprop((ows (F := F) 0 31 ∗ AP (F := F) 0 {0} ∗ kPts 0 A ∗ LT 0 (bcX (F := F)) ∗ wsX (F := F) 1 0 128 -∗ Q ⟨0, V2 0, k0_pay106 (A.k 0)⟩)
        -∗ W' 0 Q (k0_part38 xM hx qM hq kM hk vM hv oM ho uM hu wsM hws bcM hbc ptM hpt rxM hrx cxM hcx cc0_scratch5 cc0_scratch6 cc0_scratch7 cc0_scratch8 cc0_scratch9 cc0_scratch10)) := by
  have z : (0 : Dev nD).val = 0 := rfl
  have ex := expc_bar 0
  rw [if_pos z] at ex
  simp only [k0_part38_eq_skeleton]; unfold k0_part38_skel
  simp only [semSignalWord, semWaitWord, Prog.lift, Prog.bind_op, Prog.bind_ret, Prog.pure_eq_ret, wp_deviceId]
  simp only [dif_pos ((cond1_iff 0).mpr z), dif_neg (mt (cond2_iff 0).mp (fun h => h z)), dif_neg (mt (cond3_iff 0).mp (fun h => absurd h.1 (Nat.lt_irrefl 0))),
    dif_neg (mt (cond4_iff 0).mp (fun h => absurd h (Nat.not_lt_zero 1))), dif_neg (mt (h5_iff 0).mp (by decide)), dif_neg (mt (h6_iff 0).mp (fun h => absurd h.1 (Nat.not_lt_zero 1))),
    Prog.bind_op, Prog.bind_ret]
  iintro ⟨#HR, HO, HA, HC, Hk, HG⟩
  iintro HQ
  iapply (w_then _ _); iapply (sig1 A K _) $$ [HO HG]
  · isplitr; · iexact HR
    isplitl [HO]; · iexact HO
    iexact HG
  iintro HS
  iapply (w_then _ _); iapply (sig2 A K _ _) $$ [HS]
  · isplitr; · iexact HR
    iexact HS
  iintro HS
  iapply (w_then _ _); iapply (sig3 A K _) $$ [HS]
  · isplitr; · iexact HR
    iexact HS
  iintro HS
  iterate 6
    iapply (z_sig A K rfl (by decide)) $$ [HS]
    · isplitr; · iexact HR
      iexact HS
    iintro HS
  icases HS with ⟨HO, -⟩
  iapply (wait_step A K (c := 0) 0 (D := ∅) (Finset.notMem_empty _) lt_bar0 (show _ = _ from ex.symm) (wpE_semWait_eq 𝒱₀ ((0 : Dev nD) : Thread nD τ) none Set.univ)) $$ [HO HA HC]
  · isplitr; · iexact HR
    isplitl [HO]; · iexact HO
    isplitl [HA]; · iexact HA
    iexact HC
  iintro ⟨HO, HA, HG⟩
  ihave HG := (bar_gain0 A) $$ HG
  icases HG with ⟨HB, HN⟩
  iapply (ld_k 0 A) $$ Hk; iintro Hk
  iapply (w_ret 0 (Q := Q) ⟨0, V2 0, k0_pay106 (A.k 0)⟩); iapply HQ
  isplitl [HO]; · iexact HO
  isplitl [HA]; · iexact HA
  isplitl [Hk]; · iexact Hk
  isplitl [HB]; · iexact HB
  iexact HN

end Cert.KernelIdeal.Att

end
-- ==== Proof.KernelIdealSend.lean ====
/-
Device 0: its window, and the shared buffer sent to all the others.
-/
module

public import proofs.«01_k».proof.Proof.KernelIdealFirst

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## Device 0 fills its window and sends its right end -/

theorem z39 {Q} :
    iprop(ctx A K ∗ ows 0 31 ∗ vPts 0 A ∗ qPts 0 A ∗ xPts 0 A ∗ wsX (F := F) 0 0 128 ∗ wsX (F := F) 0 128 256 ∗ wsX (F := F) 0 512 32
        ∗ tk (F := F) 0 2 0 ∗ tk (F := F) (nxt 0) 3 0 ∗ wsX (F := F) (nxt 0) 0 128)
      ⊢ iprop((ows (F := F) 0 32 ∗ vPts 0 A ∗ qPts 0 A ∗ xPts 0 A ∗ wsPts 0 0 128 fullShare (WS A 0) ∗ wsPts 0 128 128 fullShare.left (WS A 0)
          ∗ wsPts 0 128 128 fullShare.right (WS A 0) ∗ wsPts 0 256 128 fullShare.left (WS A 0) ∗ wsPts 0 512 32 fullShare (WS A 0)
          ∗ cred (tallyAt (kcell ((0 : Dev nD), (2 : Fin 39))) () Nh)
          -∗ Q ⟨k0_pay118 (A.wq 0), k0_pay119 (A.wq 0) (xsl A 0 0)⟩)
        -∗ W' 0 Q (k0_part39 xM hx qM hq kM hk vM hv oM ho uM hu wsM hws bcM hbc ptM hpt rxM hrx cxM hcx cc0_scratch5 cc0_scratch6 cc0_scratch7 cc0_scratch8 cc0_scratch9 cc0_scratch10 0 (V2 0) (k0_pay106 (A.k 0)))) := by
  have z : (0 : Dev nD).val = 0 := rfl
  have z31 : (0 : Dev nD).val < 31 := by decide
  simp only [k0_part39_eq_skeleton]; unfold k0_part39_skel
  simp only [Prog.lift, Prog.bind_op, Prog.bind_ret, Prog.pure_eq_ret]
  simp only [dif_pos ((eq0_iff 0).mpr z), dif_neg (mt (eq31_iff 0).mp (by decide)), dif_pos ((cond9_iff 0).mpr z31),
    dif_neg (mt (cond10_iff 0).mp (by decide)), Prog.bind_op, Prog.bind_ret]
  iintro ⟨#HR, HO, Hv, Hq, Hx, HL, HM, HE, HT2, HT3, HN⟩
  iintro HQ
  ihave HM := (kw_start A 0) $$ HM
  iapply (dl_ws A 0 0) $$ HM; iintro HM
  iapply (st_ws A 0 0 (m := 0) (w := k0_pay107 (k0_pay106 (A.k 0))) rfl (hw_mid A 0 0)) $$ HM; iintro HM
  iapply (ld_v 0 A) $$ Hv; iintro Hv
  iapply (dl_ws A 0 1) $$ HM; iintro HM
  iapply (st_ws A 0 1 (m := 1) (w := k0_pay108 (A.v 0)) rfl (hw_mid A 0 1)) $$ HM; iintro HM
  ihave HM := (ws_own A) $$ HM
  icases HM with ⟨HB, HB', HC, HC'⟩
  ihave HL := (kw_start A 0) $$ HL
  iapply (dl_ws A 0 0) $$ HL; iintro HL
  iapply (st_ws A 0 0 (m := 0) (w := k0_pay110) rfl (hw_lo A (c := 0) z 0)) $$ HL; iintro HL
  iapply (dl_ws A 0 1) $$ HL; iintro HL
  iapply (st_ws A 0 1 (m := 1) (w := k0_pay111) rfl (hw_lo A (c := 0) z 1)) $$ HL; iintro HL
  ihave HL := (kw_done A 0) $$ HL
  ihave HE := (kw_start A 0) $$ HE
  iapply (dl_ws A 0 0) $$ HE; iintro HE
  iapply (st_ws A 0 0 (m := 0) (w := k0_pay113) rfl (hw_end0 A (c := 0) z 0)) $$ HE; iintro HE
  iapply (dl_ws A 0 1) $$ HE; iintro HE
  iapply (st_ws A 0 1 (m := 1) (w := k0_pay114) rfl (hw_end0 A (c := 0) z 1)) $$ HE; iintro HE
  ihave HE := (kw_done A 0) $$ HE
  iapply (send_right A K z31 ord0_3 (Fin.ext (dev35_eq 0 z31)) rfl rfl) $$ [HO HT2 HT3 HC' HN]
  · isplitr; · iexact HR
    isplitl [HO]; · iexact HO
    isplitl [HT2]; · iexact HT2
    isplitl [HT3]; · iexact HT3
    isplitl [HC']; · iexact HC'
    iexact HN
  iintro ⟨HO, Hc2⟩
  iapply (ld_q 0 A) $$ Hq; iintro Hq
  iapply (ld_x 0 A 0) $$ Hx; iintro Hx
  iapply (w_ret 0 (Q := Q) ⟨k0_pay118 (A.wq 0), k0_pay119 (A.wq 0) (xsl A 0 0)⟩); iapply HQ
  isplitl [HO]; · iexact HO
  iframe

/-! ## Device 0 sends the shared buffer to all the others -/

/-- The cell of the send to device `t`. -/
def kb (t : Dev nD) : Fin 39 := ⟨4 + t.val, by have : t.val < 32 := t.isLt; omega⟩

/-- The part of the shared buffer that is lent to the send to device `t`. -/
abbrev lent (t : Dev nD) : sProp 𝕄 := bcPts 0 (Transfers.shareTokN fullShare (t.val - 1)) (BC A)
/-- What the send to device `t` uses. -/
def EV (t : Dev nD) : sProp 𝕄 := iprop(tk (F := F) 0 (kb t) 0 ∗ tk (F := F) t 36 0 ∗ bcX (F := F) t ∗ lent A t)
/-- What waits for the send to device `t` use. -/
def EC (t : Dev nD) : sProp 𝕄 := cred (tallyAt (kcell ((0 : Dev nD), kb t)) () Nb)

theorem amt_kb {t : Dev nD} (h : 0 < t.val) : amt (kb t) = Nb := by
  have ht : t.val < 32 := t.isLt
  unfold amt kb
  rw [if_neg (show ¬ 4 + t.val = 0 by omega), if_neg (show ¬ 4 + t.val ≤ 4 by omega), if_pos (show 4 + t.val ≤ 36 by omega)]

theorem pd_kb {t : Dev nD} (h : 0 < t.val) : Pd 0 (kb t) 0 := by
  have ht : t.val < 32 := t.isLt
  exact Or.inr (Or.inr (Or.inr (Or.inr (Or.inr (Or.inl ⟨show 5 ≤ 4 + t.val by omega, show 4 + t.val ≤ 35 by omega, rfl, rfl⟩)))))

theorem pay_kb {t : Dev nD} (h : 0 < t.val) : pay A 0 (kb t) 0 = lent A t := by
  have ht : t.val < 32 := t.isLt
  unfold pay lent kb
  rw [if_neg (show ¬ 4 + t.val = 0 by omega), if_neg (show ¬ 4 + t.val = 1 by omega), if_neg (show ¬ 4 + t.val = 2 by omega),
    if_neg (show ¬ 4 + t.val = 3 by omega), if_neg (show ¬ 4 + t.val = 4 by omega), if_pos (show 4 + t.val ≤ 35 by omega), show 4 + t.val - 5 = t.val - 1 by omega]

/-- The shared buffer, arrived. -/
theorem bc_land (t : Dev nD) {fd : Buf (Elt F) (bcM.view.loc (t : Thread nD τ))} :
    (bcM.view.loc (t : Thread nD τ) ↦[bcM.view.set]{fullShare} (bcM.view.write (Elt F) fd (bcM.view.read (Elt F) (BC A)) Finset.univ) : sProp 𝕄)
      ⊢ bcPts t fullShare (BC A) := by
  rw [View.write_read_eq_piecewise, View.setOn_univ, pointsTo_congr (g := BC A) fun i hi => Finset.piecewise_eq_of_mem _ _ _ hi,
    show bcM.view.set = Finset.univ from View.set_whole _]
  exact .rfl

/-- Device 0 before its send to device `j + 1`. -/
def ES (j : ℕ) : sProp 𝕄 := iprop(ows (F := F) 0 (32 + j) ∗ LT j (EV A) ∗ LE j (EC (F := F)))

theorem z_send {j : ℕ} {n : Dev nD} (hn : n.val = j + 1) {hsc} {sS sem : SemLoc sig} (hS : sS = csem (kb n)) (hR : sem = csem 36) {hsrc} {hdst} {hsem}
    {α : Type} {Q : α → sProp 𝕄} {kk : PUnit → Prog (TpuEff nD τ sig (Elt F) Λ₀ .tc) α} :
    iprop(ctx A K ∗ ES A j)
      ⊢ iprop((ES A (j + 1) -∗ W' 0 Q (kk ⟨⟩)) -∗ W' 0 Q (.op (.enqueueDma bcM (.remote (n : Thread nD τ) bcM sS hsc) sem hsrc hdst hsem) kk)) := by
  have h0 : 0 < n.val := by omega
  have h₂ : Pd n 36 0 := Or.inr (Or.inr (Or.inr (Or.inr (Or.inr (Or.inr (Or.inl ⟨rfl, by omega, rfl⟩))))))
  unfold ES
  rw [LT_next hn, LE_next hn]
  unfold EV EC
  refine (show iprop(ctx A K ∗ ows (F := F) 0 (32 + j) ∗ ((tk (F := F) 0 (kb n) 0 ∗ tk (F := F) n 36 0 ∗ bcX (F := F) n ∗ lent A n)
    ∗ LT (j + 1) fun t => iprop(tk (F := F) 0 (kb t) 0 ∗ tk (F := F) t 36 0 ∗ bcX (F := F) t ∗ lent A t))
    ∗ LE j fun t => cred (tallyAt (kcell ((0 : Dev nD), kb t)) () Nb)) ⊢ _ from ?_)
  iintro ⟨#HR, HO, ⟨⟨HT1, HT2, ⟨%fd, HD⟩, HS⟩, HL⟩, HE⟩
  iintro HQ
  iapply (send_step A K (c := 0) (c' := n) (kb n) 36 (i := 32 + j) rfl (pd_kb h0) h₂ (Or.inr (Or.inr (Or.inr (Or.inl rfl)))) (ord0_36.trans (by omega)) hS hR
    (dst := bcM) (src := bcM) (q := Transfers.shareTokN fullShare (n.val - 1)) (fs := BC A) (fd := fd) Nb (by subst hR; rfl) (amt_kb h0) rfl
    (by rw [show bcM.view.set = Finset.univ from View.set_whole _, pay_kb A h0]; exact .rfl) (bc_land A n)) $$ [HO HT1 HT2 HS HD]
  · isplitr; · iexact HR
    isplitl [HO]; · iexact HO
    isplitl [HT1]; · iexact HT1
    isplitl [HT2]; · iexact HT2
    isplitl [HS]
    · iapply (Entails.of_eq (show lent A n = (bcM.view.loc ((0 : Dev nD) : Thread nD τ) ↦[bcM.view.set]{Transfers.shareTokN fullShare (n.val - 1)} BC A) by
        rw [show bcM.view.set = Finset.univ from View.set_whole _]; rfl))
      iexact HS
    · iapply (Entails.of_eq (show bcPts n fullShare fd = (bcM.view.loc (n : Thread nD τ) ↦[bcM.view.set]{fullShare} fd) by
        rw [show bcM.view.set = Finset.univ from View.set_whole _]; rfl))
      iexact HD
  iintro ⟨HO, HC⟩
  iapply HQ
  isplitl [HO]; · iexact HO
  isplitl [HL]; · iexact HL
  isplitl [HC]; · iexact HC
  iexact HE

theorem bc4 {Q} :
    iprop(kPts 0 A ∗ vPts 0 A ∗ bcX (F := F) 0)
      ⊢ iprop((kPts 0 A ∗ vPts 0 A ∗ bcPts 0 fullShare (BC A) -∗ Q ⟨⟩) -∗ W' 0 Q (k0_part4 xM hx qM hq kM hk vM hv oM ho uM hu wsM hws bcM hbc ptM hpt rxM hrx cxM hcx cc0_scratch5 cc0_scratch6 cc0_scratch7 cc0_scratch8 cc0_scratch9 cc0_scratch10 (Qv A 0 0) (Qv A 0 1))) := by
  simp only [k0_part4_eq_skeleton]; unfold k0_part4_skel
  simp only [Prog.lift, Prog.bind_op, Prog.bind_ret, Prog.pure_eq_ret]
  iintro ⟨Hk, Hv, Hb⟩
  iintro HQ
  ihave Hb := (kb_start A) $$ Hb
  iapply (ld_kt 0 A) $$ Hk; iintro Hk
  iapply (dl_bc A) $$ Hb; iintro Hb
  iapply (st_bc0 A) $$ Hb; iintro Hb
  iapply (ld_vt 0 A) $$ Hv; iintro Hv
  iapply (dl_bc A) $$ Hb; iintro Hb
  iapply (st_bc1 A) $$ Hb; iintro Hb
  iapply (dl_bc A) $$ Hb; iintro Hb
  iapply (st_bc2 A 0 (n := 2) rfl rfl) $$ Hb; iintro Hb
  iapply (dl_bc A) $$ Hb; iintro Hb
  iapply (st_bc2 A 1 (n := 3) rfl rfl) $$ Hb; iintro Hb
  ihave Hb := (kb_done A) $$ Hb
  iapply (w_ret 0 (Q := Q) ⟨⟩); iapply HQ
  isplitl [Hk]; · iexact Hk
  isplitl [Hv]; · iexact Hv
  iexact Hb

theorem send5 (h : k0_cond11 (0 : Dev nD) = 1#1) {Q} :
    iprop(ctx A K ∗ ES A 0) ⊢ iprop((ES A 5 -∗ Q ⟨⟩) -∗ W' 0 Q (k0_part5 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part5_eq_skeleton]; unfold k0_part5_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

theorem send6 (h : k0_cond11 (0 : Dev nD) = 1#1) {Q} :
    iprop(ctx A K ∗ ES A 5) ⊢ iprop((ES A 10 -∗ Q ⟨⟩) -∗ W' 0 Q (k0_part6 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part6_eq_skeleton]; unfold k0_part6_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

theorem send7 (h : k0_cond11 (0 : Dev nD) = 1#1) {Q} :
    iprop(ctx A K ∗ ES A 10) ⊢ iprop((ES A 15 -∗ Q ⟨⟩) -∗ W' 0 Q (k0_part7 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part7_eq_skeleton]; unfold k0_part7_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

theorem send8 (h : k0_cond11 (0 : Dev nD) = 1#1) {Q} :
    iprop(ctx A K ∗ ES A 15) ⊢ iprop((ES A 20 -∗ Q ⟨⟩) -∗ W' 0 Q (k0_part8 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part8_eq_skeleton]; unfold k0_part8_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

theorem send9 (h : k0_cond11 (0 : Dev nD) = 1#1) {Q} :
    iprop(ctx A K ∗ ES A 20) ⊢ iprop((ES A 25 -∗ Q ⟨⟩) -∗ W' 0 Q (k0_part9 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part9_eq_skeleton]; unfold k0_part9_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

theorem send10 (h : k0_cond11 (0 : Dev nD) = 1#1) {Q} :
    iprop(ctx A K ∗ ES A 25) ⊢ iprop((ES A 30 -∗ Q ⟨⟩) -∗ W' 0 Q (k0_part10 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part10_eq_skeleton]; unfold k0_part10_skel
  simp only [Prog.lift, Prog.bind_op, Prog.bind_ret, Prog.pure_eq_ret]
  iintro ⟨#HR, HS⟩
  iintro HQ
  iterate 5
    iapply (z_send A K rfl rfl rfl) $$ [HS]
    · isplitr; · iexact HR
      iexact HS
    iintro HS
  iapply (w_ret 0 (Q := Q) ⟨⟩); iapply HQ; iexact HS

/-- The shared buffer, cut into a part for reading and the parts that are lent. -/
theorem bc_cut : bcPts 0 fullShare (BC A) ⊣⊢ iprop(bcPts 0 (Transfers.shareDrop fullShare 31) (BC A) ∗ LT 0 (lent A)) := by
  have h : (bcPts 0 fullShare (BC A) : sProp 𝕄) ⊣⊢ iprop(bcPts 0 (Transfers.shareDrop fullShare 31) (BC A)
      ∗ bigSep (Finset.range 31) fun i => bcPts 0 (Transfers.shareTokN fullShare i) (BC A)) := Transfers.pointsTo_toks_range fullShare 31
  rw [range_LE _ 31 (le_refl _), LE_all] at h
  exact h

theorem z40 {Q} :
    iprop(ctx A K ∗ ows (F := F) 0 32 ∗ xPts 0 A ∗ kPts 0 A ∗ vPts 0 A ∗ bcX (F := F) 0
        ∗ LT 0 (fun t => tk (F := F) 0 (kb t) 0) ∗ LT 0 (fun t => tk (F := F) t 36 0) ∗ LT 0 (bcX (F := F)))
      ⊢ iprop((ows (F := F) 0 63 ∗ xPts 0 A ∗ kPts 0 A ∗ vPts 0 A ∗ bcPts 0 (Transfers.shareDrop fullShare 31) (BC A) ∗ LT 0 (EC (F := F))
          -∗ Q ⟨Qv A 0 1, k0_pay124 (qg A 0 0) (hd4 (A.k 0) 0 0), k0_pay126 (qg A 0 0) (hd4 (A.k 0) 0 0), k0_pay127 (qg A 0 0) (hd4 (A.k 0) 0 0) (hd4 (A.v 0) 0 0)⟩)
        -∗ W' 0 Q (k0_part40 xM hx qM hq kM hk vM hv oM ho uM hu wsM hws bcM hbc ptM hpt rxM hrx cxM hcx cc0_scratch5 cc0_scratch6 cc0_scratch7 cc0_scratch8 cc0_scratch9 cc0_scratch10 0 (V2 0) (k0_pay118 (A.wq 0)) (Qv A 0 0))) := by
  have z : (0 : Dev nD).val = 0 := rfl
  have join : iprop(LT 0 (fun t => tk (F := F) 0 (kb t) 0) ∗ LT 0 (fun t => tk (F := F) t 36 0) ∗ LT 0 (bcX (F := F)) ∗ LT 0 (lent A)) ⊢ LT 0 (EV A) := by
    unfold EV; rw [LT_sep, LT_sep, LT_sep]
  simp only [k0_part40_eq_skeleton]; unfold k0_part40_skel
  simp only [Prog.lift, Prog.bind_op, Prog.bind_ret, Prog.pure_eq_ret]
  simp only [dif_pos ((cond11_iff 0).mpr z), dif_neg (mt (ne0_iff 0).mp (fun h => h z)), Prog.bind_op, Prog.bind_ret]
  iintro ⟨#HR, HO, Hx, Hk, Hv, Hb, HT1, HT2, HX⟩
  iintro HQ
  iapply (ld_x 0 A 1) $$ Hx; iintro Hx
  iapply (w_then _ _); iapply (bc4 A) $$ [Hk Hv Hb]
  · isplitl [Hk]; · iexact Hk
    isplitl [Hv]; · iexact Hv
    iexact Hb
  iintro ⟨Hk, Hv, Hb⟩
  ihave Hb := (bc_cut A).1 $$ Hb
  icases Hb with ⟨Hb, HL⟩
  ihave HS := (show iprop(ows (F := F) 0 (32 + 0) ∗ LT 0 (EV A) ∗ LE 0 (EC (F := F))) ⊢ ES A 0 from .rfl) $$ [HO HT1 HT2 HX HL]
  · isplitl [HO]; · iexact HO
    isplitl [HT1 HT2 HX HL]
    · iapply join
      isplitl [HT1]; · iexact HT1
      isplitl [HT2]; · iexact HT2
      isplitl [HX]; · iexact HX
      iexact HL
    rw [LE_zero]; iempintro
  iapply (w_then _ _); iapply (send5 A K _) $$ [HS]
  · isplitr; · iexact HR
    iexact HS
  iintro HS
  iapply (w_then _ _); iapply (send6 A K _) $$ [HS]
  · isplitr; · iexact HR
    iexact HS
  iintro HS
  iapply (w_then _ _); iapply (send7 A K _) $$ [HS]
  · isplitr; · iexact HR
    iexact HS
  iintro HS
  iapply (w_then _ _); iapply (send8 A K _) $$ [HS]
  · isplitr; · iexact HR
    iexact HS
  iintro HS
  iapply (w_then _ _); iapply (send9 A K _) $$ [HS]
  · isplitr; · iexact HR
    iexact HS
  iintro HS
  iapply (w_then _ _); iapply (send10 A K _) $$ [HS]
  · isplitr; · iexact HR
    iexact HS
  iintro HS
  iapply (z_send A K rfl rfl rfl) $$ [HS]
  · isplitr; · iexact HR
    iexact HS
  iintro HS
  ihave HS := (show ES A (30 + 1) ⊢ iprop(ows (F := F) 0 63 ∗ LT 31 (EV A) ∗ LE 31 (EC (F := F))) from .rfl) $$ HS
  icases HS with ⟨HO, -, HC⟩
  iapply (ld_qg 0 A 0 0) $$ Hb; iintro Hb
  iapply (ld_kh 0 A 0 0) $$ Hk; iintro Hk
  iapply (ld_vh 0 A 0 0) $$ Hv; iintro Hv
  iapply (w_ret 0 (Q := Q) ⟨Qv A 0 1, k0_pay124 (qg A 0 0) (hd4 (A.k 0) 0 0), k0_pay126 (qg A 0 0) (hd4 (A.k 0) 0 0), k0_pay127 (qg A 0 0) (hd4 (A.k 0) 0 0) (hd4 (A.v 0) 0 0)⟩)
  iapply HQ
  isplitl [HO]; · iexact HO
  isplitl [Hx]; · iexact Hx
  isplitl [Hk]; · iexact Hk
  isplitl [Hv]; · iexact Hv
  isplitl [Hb]; · iexact Hb
  iapply (Entails.of_eq (LE_all (EC (F := F)))); iexact HC

end Cert.KernelIdeal.Att

end
-- ==== Proof.KernelIdealMerge.lean ====
/-
Device 0's merge of the partial results: the running maximum, then the weighted sums, then the rows.
-/
module

public import proofs.«01_k».proof.Proof.KernelIdealStores

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The weight of slot `n`, spread over the columns. -/
def wb (A : Inp F) (n : ℕ) : FVec F S2x4x32x64 .f32 :=
  broadcastTo S2x4x32x64 (wt (GM A) (slots A n)) broadcasts_S2x4x32x1_S2x4x32x64
/-- The exponent of the weight of slot `n`. -/
def df (A : Inp F) (n : ℕ) : FVec F S2x4x32x1 .f32 := subf (mxOf (slots A n)) (GM A)
/-- Head 1 of the merged rows before it is stored. -/
def hs1 (A : Inp F) : FVec F S2x32x64 .f32 :=
  shapeCast S2x32x64 (extractStridedSlice S2x1x32x64 ![0, 1, 0, 0] (GC A) slices_S2x4x32x64_o0_1_0_0_S2x1x32x64) shapeCasts_S2x1x32x64_S2x32x64
/-- The collected partial results. -/
def RX (A : Inp F) : sProp 𝕄 := rxL 0 ↦{fullShare} PRX A

theorem out0 (A : Inp F) (i : S1x32x512.Idx) :
    OUT A 0 (ix3 0 (Fin.castLE (by decide : 32 ≤ 256) (i 1)) (i 2)) = k0_pay104 (k0_pay198 (A.wo 0)) (ctxg A 0) (ix3 0 (i 1) (i 2)) := by
  unfold OUT
  refine (dif_pos (show (0 : Dev nD).val = 0 ∧ ((ix3 0 (Fin.castLE (by decide : 32 ≤ 256) (i 1)) (i 2) : S2x256x512.Idx) 1).val < 32 from ⟨rfl, (i 1).isLt⟩)).trans ?_
  exact if_pos rfl

theorem out1 (A : Inp F) (i : S1x32x512.Idx) :
    OUT A 0 (ix3 1 (Fin.castLE (by decide : 32 ≤ 256) (i 1)) (i 2)) = k0_pay105 (k0_pay198 (A.wo 0)) (ctxg A 1) (ix3 0 (i 1) (i 2)) := by
  unfold OUT
  refine (dif_pos (show (0 : Dev nD).val = 0 ∧ ((ix3 1 (Fin.castLE (by decide : 32 ≤ 256) (i 1)) (i 2) : S2x256x512.Idx) 1).val < 32 from ⟨rfl, (i 1).isLt⟩)).trans ?_
  exact if_neg (show ¬ (1 = 0) by decide)

theorem part19 (A : Inp F) {Q} :
    RX A ⊢ iprop((RX A -∗ Q ⟨(MX (slots A) 6), (slot A 7)⟩)
      -∗ W' 0 Q (k0_part19 xM hx qM hq kM hk vM hv oM ho uM hu wsM hws bcM hbc ptM hpt rxM hrx cxM hcx cc0_scratch5 cc0_scratch6 cc0_scratch7 cc0_scratch8 cc0_scratch9 cc0_scratch10 (MX (slots A) 0) (slot A 1))) := by
  simp only [k0_part19_eq_skeleton]; unfold k0_part19_skel RX
  simp only [Prog.lift, Prog.bind_op, Prog.bind_ret, Prog.pure_eq_ret]
  iintro Hr; iintro HQ
  iapply (ld_rx A 2) $$ Hr; iintro Hr
  iapply (ld_rx A 3) $$ Hr; iintro Hr
  iapply (ld_rx A 4) $$ Hr; iintro Hr
  iapply (ld_rx A 5) $$ Hr; iintro Hr
  iapply (ld_rx A 6) $$ Hr; iintro Hr
  iapply (ld_rx A 7) $$ Hr; iintro Hr
  iapply (w_ret 0 (Q := Q) ⟨(MX (slots A) 6), (slot A 7)⟩); iapply HQ
  iexact Hr

theorem part20 (A : Inp F) {Q} :
    RX A ⊢ iprop((RX A -∗ Q ⟨(MX (slots A) 12), (slot A 13)⟩)
      -∗ W' 0 Q (k0_part20 xM hx qM hq kM hk vM hv oM ho uM hu wsM hws bcM hbc ptM hpt rxM hrx cxM hcx cc0_scratch5 cc0_scratch6 cc0_scratch7 cc0_scratch8 cc0_scratch9 cc0_scratch10 (MX (slots A) 6) (slot A 7))) := by
  simp only [k0_part20_eq_skeleton]; unfold k0_part20_skel RX
  simp only [Prog.lift, Prog.bind_op, Prog.bind_ret, Prog.pure_eq_ret]
  iintro Hr; iintro HQ
  iapply (ld_rx A 8) $$ Hr; iintro Hr
  iapply (ld_rx A 9) $$ Hr; iintro Hr
  iapply (ld_rx A 10) $$ Hr; iintro Hr
  iapply (ld_rx A 11) $$ Hr; iintro Hr
  iapply (ld_rx A 12) $$ Hr; iintro Hr
  iapply (ld_rx A 13) $$ Hr; iintro Hr
  iapply (w_ret 0 (Q := Q) ⟨(MX (slots A) 12), (slot A 13)⟩); iapply HQ
  iexact Hr

theorem part21 (A : Inp F) {Q} :
    RX A ⊢ iprop((RX A -∗ Q ⟨(MX (slots A) 18), (slot A 19)⟩)
      -∗ W' 0 Q (k0_part21 xM hx qM hq kM hk vM hv oM ho uM hu wsM hws bcM hbc ptM hpt rxM hrx cxM hcx cc0_scratch5 cc0_scratch6 cc0_scratch7 cc0_scratch8 cc0_scratch9 cc0_scratch10 (MX (slots A) 12) (slot A 13))) := by
  simp only [k0_part21_eq_skeleton]; unfold k0_part21_skel RX
  simp only [Prog.lift, Prog.bind_op, Prog.bind_ret, Prog.pure_eq_ret]
  iintro Hr; iintro HQ
  iapply (ld_rx A 14) $$ Hr; iintro Hr
  iapply (ld_rx A 15) $$ Hr; iintro Hr
  iapply (ld_rx A 16) $$ Hr; iintro Hr
  iapply (ld_rx A 17) $$ Hr; iintro Hr
  iapply (ld_rx A 18) $$ Hr; iintro Hr
  iapply (ld_rx A 19) $$ Hr; iintro Hr
  iapply (w_ret 0 (Q := Q) ⟨(MX (slots A) 18), (slot A 19)⟩); iapply HQ
  iexact Hr

theorem part22 (A : Inp F) {Q} :
    RX A ⊢ iprop((RX A -∗ Q ⟨(MX (slots A) 24), (slot A 25)⟩)
      -∗ W' 0 Q (k0_part22 xM hx qM hq kM hk vM hv oM ho uM hu wsM hws bcM hbc ptM hpt rxM hrx cxM hcx cc0_scratch5 cc0_scratch6 cc0_scratch7 cc0_scratch8 cc0_scratch9 cc0_scratch10 (MX (slots A) 18) (slot A 19))) := by
  simp only [k0_part22_eq_skeleton]; unfold k0_part22_skel RX
  simp only [Prog.lift, Prog.bind_op, Prog.bind_ret, Prog.pure_eq_ret]
  iintro Hr; iintro HQ
  iapply (ld_rx A 20) $$ Hr; iintro Hr
  iapply (ld_rx A 21) $$ Hr; iintro Hr
  iapply (ld_rx A 22) $$ Hr; iintro Hr
  iapply (ld_rx A 23) $$ Hr; iintro Hr
  iapply (ld_rx A 24) $$ Hr; iintro Hr
  iapply (ld_rx A 25) $$ Hr; iintro Hr
  iapply (w_ret 0 (Q := Q) ⟨(MX (slots A) 24), (slot A 25)⟩); iapply HQ
  iexact Hr

theorem part23 (A : Inp F) {Q} :
    RX A ⊢ iprop((RX A -∗ Q ⟨(MX (slots A) 30), (slot A 31)⟩)
      -∗ W' 0 Q (k0_part23 xM hx qM hq kM hk vM hv oM ho uM hu wsM hws bcM hbc ptM hpt rxM hrx cxM hcx cc0_scratch5 cc0_scratch6 cc0_scratch7 cc0_scratch8 cc0_scratch9 cc0_scratch10 (MX (slots A) 24) (slot A 25))) := by
  simp only [k0_part23_eq_skeleton]; unfold k0_part23_skel RX
  simp only [Prog.lift, Prog.bind_op, Prog.bind_ret, Prog.pure_eq_ret]
  iintro Hr; iintro HQ
  iapply (ld_rx A 26) $$ Hr; iintro Hr
  iapply (ld_rx A 27) $$ Hr; iintro Hr
  iapply (ld_rx A 28) $$ Hr; iintro Hr
  iapply (ld_rx A 29) $$ Hr; iintro Hr
  iapply (ld_rx A 30) $$ Hr; iintro Hr
  iapply (ld_rx A 31) $$ Hr; iintro Hr
  iapply (w_ret 0 (Q := Q) ⟨(MX (slots A) 30), (slot A 31)⟩); iapply HQ
  iexact Hr

theorem part24 (A : Inp F) {Q} :
    RX A ⊢ iprop((RX A -∗ Q ⟨GM A, (CS (GM A) (slots A) 2), (LS (GM A) (slots A) 3), (cxOf (slots A 2)), (wb A 2)⟩)
      -∗ W' 0 Q (k0_part24 xM hx qM hq kM hk vM hv oM ho uM hu wsM hws bcM hbc ptM hpt rxM hrx cxM hcx cc0_scratch5 cc0_scratch6 cc0_scratch7 cc0_scratch8 cc0_scratch9 cc0_scratch10 (MX (slots A) 30) (slot A 31))) := by
  simp only [k0_part24_eq_skeleton]; unfold k0_part24_skel RX
  simp only [Prog.lift, Prog.bind_op, Prog.bind_ret, Prog.pure_eq_ret]
  iintro Hr; iintro HQ
  iapply (ld_rx A 0) $$ Hr; iintro Hr
  iapply (ld_rx A 1) $$ Hr; iintro Hr
  iapply (ld_rx A 2) $$ Hr; iintro Hr
  iapply (w_ret 0 (Q := Q) ⟨GM A, (CS (GM A) (slots A) 2), (LS (GM A) (slots A) 3), (cxOf (slots A 2)), (wb A 2)⟩); iapply HQ
  iexact Hr

theorem part25 (A : Inp F) {Q} :
    RX A ⊢ iprop((RX A -∗ Q ⟨(LS (GM A) (slots A) 6), (CS (GM A) (slots A) 6)⟩)
      -∗ W' 0 Q (k0_part25 xM hx qM hq kM hk vM hv oM ho uM hu wsM hws bcM hbc ptM hpt rxM hrx cxM hcx cc0_scratch5 cc0_scratch6 cc0_scratch7 cc0_scratch8 cc0_scratch9 cc0_scratch10 (GM A) (CS (GM A) (slots A) 2) (LS (GM A) (slots A) 3) (cxOf (slots A 2)) (wb A 2))) := by
  simp only [k0_part25_eq_skeleton]; unfold k0_part25_skel RX
  simp only [Prog.lift, Prog.bind_op, Prog.bind_ret, Prog.pure_eq_ret]
  iintro Hr; iintro HQ
  iapply (ld_rx A 3) $$ Hr; iintro Hr
  iapply (ld_rx A 4) $$ Hr; iintro Hr
  iapply (ld_rx A 5) $$ Hr; iintro Hr
  iapply (w_ret 0 (Q := Q) ⟨(LS (GM A) (slots A) 6), (CS (GM A) (slots A) 6)⟩); iapply HQ
  iexact Hr

theorem part26 (A : Inp F) {Q} :
    RX A ⊢ iprop((RX A -∗ Q ⟨(LS (GM A) (slots A) 9), (CS (GM A) (slots A) 9), (wide (slots A 9)), (df A 9)⟩)
      -∗ W' 0 Q (k0_part26 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 6) (CS (GM A) (slots A) 6))) := by
  simp only [k0_part26_eq_skeleton]; unfold k0_part26_skel RX
  simp only [Prog.lift, Prog.bind_op, Prog.bind_ret, Prog.pure_eq_ret]
  iintro Hr; iintro HQ
  iapply (ld_rx A 6) $$ Hr; iintro Hr
  iapply (ld_rx A 7) $$ Hr; iintro Hr
  iapply (ld_rx A 8) $$ Hr; iintro Hr
  iapply (ld_rx A 9) $$ Hr; iintro Hr
  iapply (w_ret 0 (Q := Q) ⟨(LS (GM A) (slots A) 9), (CS (GM A) (slots A) 9), (wide (slots A 9)), (df A 9)⟩); iapply HQ
  iexact Hr

theorem part27 (A : Inp F) {Q} :
    RX A ⊢ iprop((RX A -∗ Q ⟨(CS (GM A) (slots A) 12), (LS (GM A) (slots A) 13), (cxOf (slots A 12)), (wb A 12)⟩)
      -∗ W' 0 Q (k0_part27 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 9) (CS (GM A) (slots A) 9) (wide (slots A 9)) (df A 9))) := by
  simp only [k0_part27_eq_skeleton]; unfold k0_part27_skel RX
  simp only [Prog.lift, Prog.bind_op, Prog.bind_ret, Prog.pure_eq_ret]
  iintro Hr; iintro HQ
  iapply (ld_rx A 10) $$ Hr; iintro Hr
  iapply (ld_rx A 11) $$ Hr; iintro Hr
  iapply (ld_rx A 12) $$ Hr; iintro Hr
  iapply (w_ret 0 (Q := Q) ⟨(CS (GM A) (slots A) 12), (LS (GM A) (slots A) 13), (cxOf (slots A 12)), (wb A 12)⟩); iapply HQ
  iexact Hr

theorem part28 (A : Inp F) {Q} :
    RX A ⊢ iprop((RX A -∗ Q ⟨(LS (GM A) (slots A) 16), (CS (GM A) (slots A) 16)⟩)
      -∗ W' 0 Q (k0_part28 xM hx qM hq kM hk vM hv oM ho uM hu wsM hws bcM hbc ptM hpt rxM hrx cxM hcx cc0_scratch5 cc0_scratch6 cc0_scratch7 cc0_scratch8 cc0_scratch9 cc0_scratch10 (GM A) (CS (GM A) (slots A) 12) (LS (GM A) (slots A) 13) (cxOf (slots A 12)) (wb A 12))) := by
  simp only [k0_part28_eq_skeleton]; unfold k0_part28_skel RX
  simp only [Prog.lift, Prog.bind_op, Prog.bind_ret, Prog.pure_eq_ret]
  iintro Hr; iintro HQ
  iapply (ld_rx A 13) $$ Hr; iintro Hr
  iapply (ld_rx A 14) $$ Hr; iintro Hr
  iapply (ld_rx A 15) $$ Hr; iintro Hr
  iapply (w_ret 0 (Q := Q) ⟨(LS (GM A) (slots A) 16), (CS (GM A) (slots A) 16)⟩); iapply HQ
  iexact Hr

theorem part29 (A : Inp F) {Q} :
    RX A ⊢ iprop((RX A -∗ Q ⟨(LS (GM A) (slots A) 19), (CS (GM A) (slots A) 19), (wide (slots A 19)), (df A 19)⟩)
      -∗ W' 0 Q (k0_part29 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 16) (CS (GM A) (slots A) 16))) := by
  simp only [k0_part29_eq_skeleton]; unfold k0_part29_skel RX
  simp only [Prog.lift, Prog.bind_op, Prog.bind_ret, Prog.pure_eq_ret]
  iintro Hr; iintro HQ
  iapply (ld_rx A 16) $$ Hr; iintro Hr
  iapply (ld_rx A 17) $$ Hr; iintro Hr
  iapply (ld_rx A 18) $$ Hr; iintro Hr
  iapply (ld_rx A 19) $$ Hr; iintro Hr
  iapply (w_ret 0 (Q := Q) ⟨(LS (GM A) (slots A) 19), (CS (GM A) (slots A) 19), (wide (slots A 19)), (df A 19)⟩); iapply HQ
  iexact Hr

theorem part30 (A : Inp F) {Q} :
    RX A ⊢ iprop((RX A -∗ Q ⟨(CS (GM A) (slots A) 22), (LS (GM A) (slots A) 23), (cxOf (slots A 22)), (wb A 22)⟩)
      -∗ W' 0 Q (k0_part30 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 19) (CS (GM A) (slots A) 19) (wide (slots A 19)) (df A 19))) := by
  simp only [k0_part30_eq_skeleton]; unfold k0_part30_skel RX
  simp only [Prog.lift, Prog.bind_op, Prog.bind_ret, Prog.pure_eq_ret]
  iintro Hr; iintro HQ
  iapply (ld_rx A 20) $$ Hr; iintro Hr
  iapply (ld_rx A 21) $$ Hr; iintro Hr
  iapply (ld_rx A 22) $$ Hr; iintro Hr
  iapply (w_ret 0 (Q := Q) ⟨(CS (GM A) (slots A) 22), (LS (GM A) (slots A) 23), (cxOf (slots A 22)), (wb A 22)⟩); iapply HQ
  iexact Hr

theorem part31 (A : Inp F) {Q} :
    RX A ⊢ iprop((RX A -∗ Q ⟨(LS (GM A) (slots A) 26), (CS (GM A) (slots A) 26)⟩)
      -∗ W' 0 Q (k0_part31 xM hx qM hq kM hk vM hv oM ho uM hu wsM hws bcM hbc ptM hpt rxM hrx cxM hcx cc0_scratch5 cc0_scratch6 cc0_scratch7 cc0_scratch8 cc0_scratch9 cc0_scratch10 (GM A) (CS (GM A) (slots A) 22) (LS (GM A) (slots A) 23) (cxOf (slots A 22)) (wb A 22))) := by
  simp only [k0_part31_eq_skeleton]; unfold k0_part31_skel RX
  simp only [Prog.lift, Prog.bind_op, Prog.bind_ret, Prog.pure_eq_ret]
  iintro Hr; iintro HQ
  iapply (ld_rx A 23) $$ Hr; iintro Hr
  iapply (ld_rx A 24) $$ Hr; iintro Hr
  iapply (ld_rx A 25) $$ Hr; iintro Hr
  iapply (w_ret 0 (Q := Q) ⟨(LS (GM A) (slots A) 26), (CS (GM A) (slots A) 26)⟩); iapply HQ
  iexact Hr

theorem part32 (A : Inp F) {Q} :
    RX A ⊢ iprop((RX A -∗ Q ⟨(LS (GM A) (slots A) 29), (CS (GM A) (slots A) 29), (wide (slots A 29)), (df A 29)⟩)
      -∗ W' 0 Q (k0_part32 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 26) (CS (GM A) (slots A) 26))) := by
  simp only [k0_part32_eq_skeleton]; unfold k0_part32_skel RX
  simp only [Prog.lift, Prog.bind_op, Prog.bind_ret, Prog.pure_eq_ret]
  iintro Hr; iintro HQ
  iapply (ld_rx A 26) $$ Hr; iintro Hr
  iapply (ld_rx A 27) $$ Hr; iintro Hr
  iapply (ld_rx A 28) $$ Hr; iintro Hr
  iapply (ld_rx A 29) $$ Hr; iintro Hr
  iapply (w_ret 0 (Q := Q) ⟨(LS (GM A) (slots A) 29), (CS (GM A) (slots A) 29), (wide (slots A 29)), (df A 29)⟩); iapply HQ
  iexact Hr

theorem part33 (A : Inp F) {Q} :
    iprop(RX A ∗ KG A 0) ⊢ iprop((RX A ∗ KG A 1 -∗ Q ⟨GC A, hs1 A⟩)
      -∗ W' 0 Q (k0_part33 xM hx qM hq kM hk vM hv oM ho uM hu wsM hws bcM hbc ptM hpt rxM hrx cxM hcx cc0_scratch5 cc0_scratch6 cc0_scratch7 cc0_scratch8 cc0_scratch9 cc0_scratch10 (GM A) (LS (GM A) (slots A) 29) (CS (GM A) (slots A) 29) (wide (slots A 29)) (df A 29))) := by
  simp only [k0_part33_eq_skeleton]; unfold k0_part33_skel RX
  simp only [Prog.lift, Prog.bind_op, Prog.bind_ret, Prog.pure_eq_ret]
  iintro ⟨Hr, Hg⟩; iintro HQ
  iapply (ld_rx A 30) $$ Hr; iintro Hr
  iapply (ld_rx A 31) $$ Hr; iintro Hr
  iapply (dl_cg A) $$ Hg; iintro Hg
  iapply (st_cg A 0 (n := 0) rfl rfl) $$ Hg; iintro Hg
  iapply (w_ret 0 (Q := Q) ⟨GC A, hs1 A⟩); iapply HQ
  isplitl [Hr]; · iexact Hr
  iexact Hg

theorem part34 (A : Inp F) {Q} :
    iprop(KG A 1 ∗ KUG A 0) ⊢ iprop(((cxL 0 ↦{fullShare} CTXG A) ∗ KUG A 2 -∗ Q ⟨⟩)
      -∗ W' 0 Q (k0_part34 xM hx qM hq kM hk vM hv oM ho uM hu wsM hws bcM hbc ptM hpt rxM hrx cxM hcx cc0_scratch5 cc0_scratch6 cc0_scratch7 cc0_scratch8 cc0_scratch9 cc0_scratch10 (k0_pay198 (A.wo 0)) (GC A) (hs1 A))) := by
  simp only [k0_part34_eq_skeleton]; unfold k0_part34_skel
  simp only [Prog.lift, Prog.bind_op, Prog.bind_ret, Prog.pure_eq_ret]
  iintro ⟨Hg, Hu⟩; iintro HQ
  iapply (dl_cg A) $$ Hg; iintro Hg
  iapply (st_cg A 1 (n := 1) rfl rfl) $$ Hg; iintro Hg
  iapply (dl_cg A) $$ Hg; iintro Hg
  iapply (st_cg A 2 (n := 2) rfl rfl) $$ Hg; iintro Hg
  iapply (dl_cg A) $$ Hg; iintro Hg
  iapply (st_cg A 3 (n := 3) rfl rfl) $$ Hg; iintro Hg
  ihave Hg := (kg_done A) $$ Hg
  iapply (ld_cg A 0) $$ Hg; iintro Hg
  iapply (dl_ug A) $$ Hu; iintro Hu
  iapply (st_ug A 0 (n := 0) rfl (out0 A)) $$ Hu; iintro Hu
  iapply (ld_cg A 1) $$ Hg; iintro Hg
  iapply (dl_ug A) $$ Hu; iintro Hu
  iapply (st_ug A 1 (n := 1) rfl (out1 A)) $$ Hu; iintro Hu
  iapply w_ret; iapply HQ
  isplitl [Hg]; · iexact Hg
  iexact Hu

end Cert.KernelIdeal.Att

end
-- ==== Proof.KernelIdealGather.lean ====
/-
Device 0 up to the waits for its own sends: the partial results of all the devices, and their merge.
-/
module

public import proofs.«01_k».proof.Proof.KernelIdealSend
public import proofs.«01_k».proof.Proof.KernelIdealMerge

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## Device 0 waits for the partial results of the others -/

/-- Device 0 after `j` of these waits, with `m` to go. -/
def PW (j m : ℕ) : sProp 𝕄 := iprop(ows (F := F) 0 63 ∗ PX A j ∗ CX (F := F) m)

theorem z_wait {j m : ℕ} {off inb} {sem : DmaSem sig} {hsrc} {hdst} (hs : SemLoc.dma sem = csem 38)
    {α : Type} {Q : α → sProp 𝕄} {kk : PUnit → Prog (TpuEff nD τ sig (Elt F) Λ₀ .tc) α} :
    iprop(ctx A K ∗ PW A j (m + 1))
      ⊢ iprop((PW A (j + 1) m -∗ W' 0 Q (kk ⟨⟩)) -∗ W' 0 Q (.op (.waitDma2 sem ptM (rxS off inb) hsrc hdst) kk)) := by
  unfold PW
  iintro ⟨#HR, HO, HP, HC⟩
  iintro HQ
  ihave HC := (CX_succ m) $$ HC
  icases HC with ⟨HC1, HC⟩
  iapply (part_wait A K (j := j) (i := 63) ow_none0 (n := (rxS off inb).view.dmaCredit) (w := .waitDma2 sem ptM (rxS off inb) hsrc hdst) rfl
    (fun K' => by rw [← hs]; rfl)) $$ [HO HP HC1]
  · isplitr; · iexact HR
    isplitl [HO]; · iexact HO
    isplitl [HP]; · iexact HP
    iexact HC1
  iintro ⟨HO, HP⟩
  iapply HQ
  isplitl [HO]; · iexact HO
  isplitl [HP]; · iexact HP
  iexact HC

theorem z_last {off inb} {sem : DmaSem sig} {hsrc} {hdst} (hs : SemLoc.dma sem = csem 38)
    {α : Type} {Q : α → sProp 𝕄} {kk : PUnit → Prog (TpuEff nD τ sig (Elt F) Λ₀ .tc) α} :
    iprop(ctx A K ∗ PW A 30 1)
      ⊢ iprop((ows (F := F) 0 63 ∗ atPos ER (kcell ((0 : Dev nD), (38 : Fin 39))) 1 ∅ 0 ∗ bigSep (dut 0 38) (pay A 0 38) -∗ W' 0 Q (kk ⟨⟩))
        -∗ W' 0 Q (.op (.waitDma2 sem ptM (rxS off inb) hsrc hdst) kk)) := by
  unfold PW
  iintro ⟨#HR, HO, HP, HC⟩
  iintro HQ
  ihave HC := (CX_succ 0) $$ HC
  icases HC with ⟨HC1, -⟩
  iapply (last_wait A K (i := 63) ow_none0 (n := (rxS off inb).view.dmaCredit) (w := .waitDma2 sem ptM (rxS off inb) hsrc hdst) rfl
    (fun K' => by rw [← hs]; rfl)) $$ [HO HP HC1]
  · isplitr; · iexact HR
    isplitl [HO]; · iexact HO
    isplitl [HP]; · iexact HP
    iexact HC1
  iexact HQ

theorem wait11 (h : k0_cond17 (0 : Dev nD) = 1#1) {Q} :
    iprop(ctx A K ∗ PW A 0 31) ⊢ iprop((PW A 4 27 -∗ Q ⟨⟩) -∗ W' 0 Q (k0_part11 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part11_eq_skeleton]; unfold k0_part11_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait12 (h : k0_cond17 (0 : Dev nD) = 1#1) {Q} :
    iprop(ctx A K ∗ PW A 4 27) ⊢ iprop((PW A 8 23 -∗ Q ⟨⟩) -∗ W' 0 Q (k0_part12 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part12_eq_skeleton]; unfold k0_part12_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait13 (h : k0_cond17 (0 : Dev nD) = 1#1) {Q} :
    iprop(ctx A K ∗ PW A 8 23) ⊢ iprop((PW A 12 19 -∗ Q ⟨⟩) -∗ W' 0 Q (k0_part13 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part13_eq_skeleton]; unfold k0_part13_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait14 (h : k0_cond17 (0 : Dev nD) = 1#1) {Q} :
    iprop(ctx A K ∗ PW A 12 19) ⊢ iprop((PW A 16 15 -∗ Q ⟨⟩) -∗ W' 0 Q (k0_part14 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part14_eq_skeleton]; unfold k0_part14_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait15 (h : k0_cond17 (0 : Dev nD) = 1#1) {Q} :
    iprop(ctx A K ∗ PW A 16 15) ⊢ iprop((PW A 20 11 -∗ Q ⟨⟩) -∗ W' 0 Q (k0_part15 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part15_eq_skeleton]; unfold k0_part15_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait16 (h : k0_cond17 (0 : Dev nD) = 1#1) {Q} :
    iprop(ctx A K ∗ PW A 20 11) ⊢ iprop((PW A 24 7 -∗ Q ⟨⟩) -∗ W' 0 Q (k0_part16 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part16_eq_skeleton]; unfold k0_part16_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

theorem wait17 (h : k0_cond17 (0 : Dev nD) = 1#1) {Q} :
    iprop(ctx A K ∗ PW A 24 7) ⊢ iprop((PW A 28 3 -∗ Q ⟨⟩) -∗ W' 0 Q (k0_part17 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part17_eq_skeleton]; unfold k0_part17_skel
  simp only [Prog.lift, Prog.bind_op, Prog.bind_ret, Prog.pure_eq_ret]
  iintro ⟨#HR, HS⟩
  iintro HQ
  iterate 4
    iapply (z_wait A K rfl) $$ [HS]
    · isplitr; · iexact HR
      iexact HS
    iintro HS
  iapply (w_ret 0 (Q := Q) ⟨⟩); iapply HQ; iexact HS

/-- The slots of the receive buffer, all of them. -/
theorem sreg_all : (Finset.univ : Finset (Dev nD)).biUnion (fun t => sreg t.val) = Finset.univ := by
  ext i
  simp only [Finset.mem_biUnion, Finset.mem_univ, true_and, iff_true]
  exact ⟨i 0, Finset.mem_filter.mpr ⟨Finset.mem_univ _, rfl⟩⟩
theorem sreg_apart : ∀ s ∈ (Finset.univ : Finset (Dev nD)), ∀ t ∈ (Finset.univ : Finset (Dev nD)), s ≠ t → Disjoint (sreg s.val) (sreg t.val) :=
  fun s _ t _ h => Finset.disjoint_left.mpr fun i h1 h2 =>
    h (Fin.ext ((Finset.mem_filter.mp h1).2.symm.trans (Finset.mem_filter.mp h2).2))

theorem rx_slots (f : Buf (Elt F) (rxL 0)) : (rxL 0 ↦{fullShare} f : sProp 𝕄) = iprop(rxPts 0 f ∗ LT 0 fun t => rxPts t.val f) := by
  rw [show (iprop(rxPts 0 f ∗ LT 0 fun t => rxPts t.val f) : sProp 𝕄) = bigSep Finset.univ fun t : Dev nD => rxPts t.val f from
    (all_devs (fun t : Dev nD => (rxPts t.val f : sProp 𝕄))).symm]
  unfold rxPts
  rw [← sreg_all]
  exact pointsTo_biUnion (ℓ := rxL 0) (q := fullShare) (f := f) (Finset.univ : Finset (Dev nD)) (fun t => sreg t.val) sreg_apart

theorem rx_start : (iprop(∃ f, rxL 0 ↦{fullShare} f) : sProp 𝕄) ⊢ iprop(rxX (F := F) 0 ∗ LT 0 fun t => rxX (F := F) t.val) := by
  iintro ⟨%f, H⟩
  ihave H := (Entails.of_eq (rx_slots f)) $$ H
  icases H with ⟨H0, H1⟩
  isplitl [H0]; · iexists f; iexact H0
  iapply (LT_mono (j := 0) (Φ := fun t => rxPts t.val f) (Ψ := fun t => rxX (F := F) t.val) fun t _ => by
    iintro H; iexists f; iexact H)
  iexact H1

theorem rx_done : iprop(bigSep (dut 0 38) (pay A 0 38) ∗ rxPts 0 (PRX A)) ⊢ RX A := by
  have e : dut 0 38 = Finset.univ.filter fun t : Dev nD => 0 < t.val := by decide
  have h : (bigSep (dut 0 38) (pay A 0 38) : sProp 𝕄) = LT 0 fun t => rxPts t.val (PRX A) := by
    unfold LT; rw [e]; rfl
  rw [h]
  iintro ⟨H1, H0⟩
  unfold RX
  iapply (Entails.of_eq (rx_slots (PRX A)).symm)
  isplitl [H0]; · iexact H0
  iexact H1

theorem wait18 (h : k0_cond17 (0 : Dev nD) = 1#1) {Q} :
    iprop(ctx A K ∗ PW A 28 3 ∗ rxPts 0 (PRX A))
      ⊢ iprop((ows (F := F) 0 63 ∗ atPos ER (kcell ((0 : Dev nD), (38 : Fin 39))) 1 ∅ 0 ∗ RX A -∗ Q ⟨MX (slots A) 0, slot A 1⟩)
        -∗ W' 0 Q (k0_part18 xM hx qM hq kM hk vM hv oM ho uM hu wsM hws bcM hbc ptM hpt rxM hrx cxM hcx cc0_scratch5 cc0_scratch6 cc0_scratch7 cc0_scratch8 cc0_scratch9 cc0_scratch10 0 h)) := by
  simp only [k0_part18_eq_skeleton]; unfold k0_part18_skel
  simp only [Prog.lift, Prog.bind_op, Prog.bind_ret, Prog.pure_eq_ret]
  iintro ⟨#HR, HS, Hr⟩
  iintro HQ
  iterate 2
    iapply (z_wait A K rfl) $$ [HS]
    · isplitr; · iexact HR
      iexact HS
    iintro HS
  iapply (z_last A K rfl) $$ [HS]
  · isplitr; · iexact HR
    iexact HS
  iintro ⟨HO, HA, HP⟩
  ihave Hr := (rx_done A) $$ [HP Hr]
  · isplitl [HP]; · iexact HP
    iexact Hr
  ihave Hr := (show RX A ⊢ (rxL 0 ↦{fullShare} PRX A) from .rfl) $$ Hr
  iapply (ld_rx A 0) $$ Hr; iintro Hr
  iapply (ld_rx A 1) $$ Hr; iintro Hr
  iapply (w_ret 0 (Q := Q) ⟨MX (slots A) 0, slot A 1⟩); iapply HQ
  isplitl [HO]; · iexact HO
  isplitl [HA]; · iexact HA
  unfold RX; iexact Hr

theorem pw_start : iprop(ows (F := F) 0 63 ∗ atPos ER (kcell ((0 : Dev nD), (38 : Fin 39))) 0 ∅ 0 ∗ cr (F := F) 0 38) ⊢ PW A 0 31 := by
  unfold PW PX
  iintro ⟨HO, HA, HC⟩
  isplitl [HO]; · iexact HO
  isplitl [HA]
  · iexists ∅
    isplitr; · ipureintro; exact Finset.empty_subset _
    rw [Nat.zero_mul, bigSep_empty]
    isplitl [HA]; · iexact HA
    iempintro
  unfold CX
  iapply (Entails.of_eq (congrArg (fun n => cred (tallyAt (kcell ((0 : Dev nD), (38 : Fin 39))) () n))
    (show expc 0 38 = 31 * Np from congrArg (· * Np) (show (dut 0 38).card = 31 by decide))))
  iexact HC

/-! ## The program up to the sends of the shared buffer -/

/-- What device 0 starts with: its position, its credit and its tokens. -/
def ZPre : sProp 𝕄 :=
  iprop(ows (F := F) 0 0 ∗ AP (F := F) 0 ∅ ∗ cr (F := F) 0 0 ∗ cr (F := F) 0 4 ∗ cr (F := F) 0 38
    ∗ LT 0 (fun t => tk (F := F) t 0 0) ∗ tk (F := F) 0 2 0 ∗ tk (F := F) (nxt 0) 3 0
    ∗ LT 0 (fun t => tk (F := F) 0 (kb t) 0) ∗ LT 0 (fun t => tk (F := F) t 36 0))

/-- The cells that device 0 has waited on, with the first `j` sends of the shared buffer. -/
def DB (j : ℕ) : Finset (Fin 39) := insert 2 (insert 38 (insert 4 {0})) ∪ Finset.univ.filter fun k : Fin 39 => 5 ≤ k.val ∧ k.val < 5 + j

/-- What device 0 ends with, but for the sends of the shared buffer. -/
def ZMem : sProp 𝕄 :=
  iprop(xPts 0 A ∗ qPts 0 A ∗ kPts 0 A ∗ vPts 0 A ∗ oPts 0 A ∗ (uL 0 ↦{fullShare} OUT A 0) ∗ (wsL 0 ↦{fullShare} WS A 0)
    ∗ ptPts 0 (PART A 0) ∗ (cxL 0 ↦{fullShare} CTXG A) ∗ RX A)

def ZMid : sProp 𝕄 :=
  iprop(ows (F := F) 0 63 ∗ AP (F := F) 0 (insert 2 (insert 38 (insert 4 {0}))) ∗ LT 0 (EC (F := F)) ∗ bcPts 0 (Transfers.shareDrop fullShare 31) (BC A) ∗ ZMem A)

/-- What device 0 ends with. -/
def ZPost : sProp 𝕄 :=
  iprop(ows (F := F) 0 63 ∗ (∃ D, ⌜∀ k, k ∉ D → dut 0 k = ∅⌝ ∗ AP (F := F) 0 D) ∗ bcPts 0 fullShare (BC A) ∗ ZMem A)

set_option maxHeartbeats 1000000 in
theorem z57 {Q} :
    iprop(ctx A K ∗ ZPre (F := F) ∗ Mem0 A 0 ∗ (∃ f, rxL 0 ↦{fullShare} f))
      ⊢ iprop((ZMid A -∗ Q ⟨0, V2 0, Scalar.cmpi .eq (V2 0) 0#32⟩) -∗ W' 0 Q (k0_part57 xM hx qM hq kM hk vM hv oM ho uM hu wsM hws bcM hbc ptM hpt rxM hrx cxM hcx cc0_scratch5 cc0_scratch6 cc0_scratch7 cc0_scratch8 cc0_scratch9 cc0_scratch10)) := by
  have z : (0 : Dev nD).val = 0 := rfl
  have z31 : (0 : Dev nD).val < 31 := by decide
  simp only [k0_part57_eq_skeleton]; unfold k0_part57_skel
  simp only [Prog.lift, Prog.bind_op, Prog.bind_ret, Prog.pure_eq_ret]
  unfold ZPre Mem0
  iintro ⟨#HR, ⟨HO, HA, HC0, HC4, HC38, HT0, HT2, HT3, HTb, HT36⟩, ⟨Hx, Hq, Hk, Hv, Ho, Hu, ⟨%fw, Hw⟩, Hb, Hp, Hcx⟩, Hr⟩
  iintro HQ
  ihave Hw := ws_cut $$ Hw
  icases Hw with ⟨Hw0, Hw1, Hw3, Hw4⟩
  ihave Hr := rx_start $$ Hr
  icases Hr with ⟨Hr0, Hr⟩
  ihave HG := give_all $$ [HT0 Hr Hw3]
  · isplitl [HT0]; · iexact HT0
    isplitl [Hr]; · iexact Hr
    iexists fw; iexact Hw3
  rw [w_seq]; iapply (z38 A K) $$ [HO HA HC0 Hk HG]
  · isplitr; · iexact HR
    isplitl [HO]; · iexact HO
    isplitl [HA]; · iexact HA
    isplitl [HC0]; · iexact HC0
    isplitl [Hk]; · iexact Hk
    iexact HG
  iintro ⟨HO, HA, Hk, HX, HN⟩
  ihave HN := (Entails.of_eq (congrArg (fun d => wsX (F := F) d 0 128) (show (1 : Dev nD) = nxt 0 from Fin.ext (nxt_val z31).symm))) $$ HN
  rw [w_seq]; iapply (z39 A K) $$ [HO Hv Hq Hx Hw0 Hw1 Hw4 HT2 HT3 HN]
  · isplitr; · iexact HR
    isplitl [HO]; · iexact HO
    isplitl [Hv]; · iexact Hv
    isplitl [Hq]; · iexact Hq
    isplitl [Hx]; · iexact Hx
    isplitl [Hw0]; · iexists fw; iexact Hw0
    isplitl [Hw1]; · iexists fw; iexact Hw1
    isplitl [Hw4]; · iexists fw; iexact Hw4
    isplitl [HT2]; · iexact HT2
    isplitl [HT3]; · iexact HT3
    iexact HN
  iintro ⟨HO, Hv, Hq, Hx, HwA, HwB, HwB', HwC, HwE, Hc2⟩
  rw [w_seq]; iapply (z40 A K) $$ [HO Hx Hk Hv Hb HTb HT36 HX]
  · isplitr; · iexact HR
    isplitl [HO]; · iexact HO
    isplitl [Hx]; · iexact Hx
    isplitl [Hk]; · iexact Hk
    isplitl [Hv]; · iexact Hv
    isplitl [Hb]; · iexact Hb
    isplitl [HTb]; · iexact HTb
    isplitl [HT36]; · iexact HT36
    iexact HX
  iintro ⟨HO, Hx, Hk, Hv, Hb, HC⟩
  ihave Hp := (kp_start A 0) $$ Hp
  ihave Hd := (show iprop(bcPts 0 (Transfers.shareDrop fullShare 31) (BC A) ∗ kPts 0 A ∗ vPts 0 A) ⊢ Rd A 0 (Transfers.shareDrop fullShare 31) from .rfl) $$ [Hb Hk Hv]
  · isplitl [Hb]; · iexact Hb
    isplitl [Hk]; · iexact Hk
    iexact Hv
  rw [w_seq]; iapply (part41 A 0 (Transfers.shareDrop fullShare 31)) $$ [Hp Hd]
  · isplitl [Hp]; · iexact Hp
    iexact Hd
  iintro ⟨Hp, Hd⟩
  rw [w_seq]; iapply (part42 A 0 (Transfers.shareDrop fullShare 31)) $$ [Hp Hd]
  · isplitl [Hp]; · iexact Hp
    iexact Hd
  iintro ⟨Hp, Hd⟩
  rw [w_seq]; iapply (part43 A 0 (Transfers.shareDrop fullShare 31)) $$ [Hp Hd]
  · isplitl [Hp]; · iexact Hp
    iexact Hd
  iintro ⟨Hp, Hd⟩
  rw [w_seq]; iapply (part44 A 0 (Transfers.shareDrop fullShare 31)) $$ [Hp Hd]
  · isplitl [Hp]; · iexact Hp
    iexact Hd
  iintro ⟨Hp, Hd⟩
  rw [w_seq]; iapply (part45 A 0 (Transfers.shareDrop fullShare 31)) $$ [Hp Hd]
  · isplitl [Hp]; · iexact Hp
    iexact Hd
  iintro ⟨Hp, Hd⟩
  rw [w_seq]; iapply (part46 A 0 (Transfers.shareDrop fullShare 31)) $$ [Hp Hd]
  · isplitl [Hp]; · iexact Hp
    iexact Hd
  iintro ⟨Hp, Hd⟩
  rw [w_seq]; iapply (part47 A 0 (Transfers.shareDrop fullShare 31)) $$ [Hp Hd]
  · isplitl [Hp]; · iexact Hp
    iexact Hd
  iintro ⟨Hp, Hd⟩
  rw [w_seq]; iapply (part48 A 0 (Transfers.shareDrop fullShare 31)) $$ [Hp Hd]
  · isplitl [Hp]; · iexact Hp
    iexact Hd
  iintro ⟨Hp, Hd⟩
  rw [w_seq]; iapply (z49 A K (D := {0}) (by decide)) $$ [HO HA Hp Hr0 HC4]
  · isplitr; · iexact HR
    isplitl [HO]; · iexact HO
    isplitl [HA]; · iexact HA
    isplitl [Hp]; · iexact Hp
    isplitl [Hr0]; · iexact Hr0
    iexact HC4
  iintro ⟨HO, HA, Hp, Hr0, HwD⟩
  ihave Hw := (ws_read A) $$ [HwA HwB HwC HwD HwE]
  · isplitl [HwA]; · iexact HwA
    isplitl [HwB]; · iexact HwB
    isplitl [HwC]; · iexact HwC
    isplitl [HwD]; · iexact HwD
    iexact HwE
  icases Hw with ⟨Hw, HwA, HwD, HwE⟩
  ihave Hcx := (kc_start A 0) $$ Hcx
  ihave Ha := (show iprop((wsL 0 ↦{fullShare.left} WS A 0) ∗ KC A 0 0) ⊢ At A 0 fullShare.left 0 from .rfl) $$ [Hw Hcx]
  · isplitl [Hw]; · iexact Hw
    iexact Hcx
  rw [w_seq]; iapply (part50 A 0 fullShare.left) $$ Ha; iintro Ha
  rw [w_seq]; iapply (part51 A 0 fullShare.left) $$ Ha; iintro Ha
  rw [w_seq]; iapply (part52 A 0 fullShare.left) $$ Ha; iintro Ha
  rw [w_seq]; iapply (part53 A 0 fullShare.left) $$ Ha; iintro Ha
  rw [w_seq]; iapply (part54 A 0 fullShare.left) $$ Ha; iintro Ha
  rw [w_seq]; iapply (part55 A 0 fullShare.left) $$ Ha; iintro Ha
  rw [w_seq]; iapply (part56 A 0 fullShare.left) $$ [Ha Ho]
  · isplitl [Ha]; · iexact Ha
    iexact Ho
  iintro ⟨Hw, Hcx, Ho⟩
  ihave Hu := (ku_start A 0) $$ Hu
  iapply (dl_u A 0) $$ Hu; iintro Hu
  iapply (st_u A 0 0 (n := 0) rfl (w := k0_pay200 (k0_pay199 (A.wo 0) (ctxb A 0 0))) (fun i => if_pos rfl)) $$ Hu; iintro Hu
  iapply (ld_cx 0 A 1) $$ Hcx; iintro Hcx
  iapply (dl_u A 0) $$ Hu; iintro Hu
  iapply (st_u A 0 1 (n := 1) rfl (w := k0_pay201 (k0_pay198 (A.wo 0)) (ctxb A 0 1)) (fun i => if_neg (show ¬ (1 = 0) by decide))) $$ Hu; iintro Hu
  ihave Hu := (ku_done A 0) $$ Hu
  ihave Hd := (show Rd A 0 (Transfers.shareDrop fullShare 31) ⊢ iprop(bcPts 0 (Transfers.shareDrop fullShare 31) (BC A) ∗ kPts 0 A ∗ vPts 0 A) from .rfl) $$ Hd
  icases Hd with ⟨Hb, Hk, Hv⟩
  have e17 : k0_cond17 (0 : Dev nD) = 1#1 := (cond17_iff 0).mpr z
  simp only [dif_pos e17, dif_neg (mt (gt0_iff 0).mp (by decide)), dif_pos ((lt31_iff 0).mpr z31), Prog.bind_op, Prog.bind_ret]
  ihave HA := (Entails.of_eq (AP_take 0 (insert 4 {0}) 38 (by decide))) $$ HA
  icases HA with ⟨HA, HA'⟩
  ihave HS := (pw_start A) $$ [HO HA HC38]
  · isplitl [HO]; · iexact HO
    isplitl [HA]; · iexact HA
    iexact HC38
  iapply (w_then _ _); iapply (wait11 A K e17) $$ [HS]
  · isplitr; · iexact HR
    iexact HS
  iintro HS
  iapply (w_then _ _); iapply (wait12 A K e17) $$ [HS]
  · isplitr; · iexact HR
    iexact HS
  iintro HS
  iapply (w_then _ _); iapply (wait13 A K e17) $$ [HS]
  · isplitr; · iexact HR
    iexact HS
  iintro HS
  iapply (w_then _ _); iapply (wait14 A K e17) $$ [HS]
  · isplitr; · iexact HR
    iexact HS
  iintro HS
  iapply (w_then _ _); iapply (wait15 A K e17) $$ [HS]
  · isplitr; · iexact HR
    iexact HS
  iintro HS
  iapply (w_then _ _); iapply (wait16 A K e17) $$ [HS]
  · isplitr; · iexact HR
    iexact HS
  iintro HS
  iapply (w_then _ _); iapply (wait17 A K e17) $$ [HS]
  · isplitr; · iexact HR
    iexact HS
  iintro HS
  iapply (w_then _ _); iapply (wait18 A K e17) $$ [HS Hr0]
  · isplitr; · iexact HR
    isplitl [HS]; · iexact HS
    iexact Hr0
  iintro ⟨HO, HA, Hr⟩
  ihave HA := (Entails.of_eq (AP_put 0 (insert 4 {0}) 38)) $$ [HA HA']
  · isplitl [HA]; · iexact HA
    iexact HA'
  iapply (w_then _ _); iapply (part19 A) $$ Hr; iintro Hr
  iapply (w_then _ _); iapply (part20 A) $$ Hr; iintro Hr
  iapply (w_then _ _); iapply (part21 A) $$ Hr; iintro Hr
  iapply (w_then _ _); iapply (part22 A) $$ Hr; iintro Hr
  iapply (w_then _ _); iapply (part23 A) $$ Hr; iintro Hr
  iapply (w_then _ _); iapply (part24 A) $$ Hr; iintro Hr
  iapply (w_then _ _); iapply (part25 A) $$ Hr; iintro Hr
  iapply (w_then _ _); iapply (part26 A) $$ Hr; iintro Hr
  iapply (w_then _ _); iapply (part27 A) $$ Hr; iintro Hr
  iapply (w_then _ _); iapply (part28 A) $$ Hr; iintro Hr
  iapply (w_then _ _); iapply (part29 A) $$ Hr; iintro Hr
  iapply (w_then _ _); iapply (part30 A) $$ Hr; iintro Hr
  iapply (w_then _ _); iapply (part31 A) $$ Hr; iintro Hr
  iapply (w_then _ _); iapply (part32 A) $$ Hr; iintro Hr
  ihave Hcx := (kg_start A) $$ Hcx
  ihave Hu := (kug_start A) $$ Hu
  iapply (w_then _ _); iapply (part33 A) $$ [Hr Hcx]
  · isplitl [Hr]; · iexact Hr
    iexact Hcx
  iintro ⟨Hr, Hcx⟩
  iapply (w_then _ _); iapply (part34 A) $$ [Hcx Hu]
  · isplitl [Hcx]; · iexact Hcx
    iexact Hu
  iintro ⟨Hcx, Hu⟩
  ihave Hu := (kug_done A) $$ Hu
  iapply (wait_one A K 2 (insert 38 (insert 4 {0})) (dut_2 z31) (by decide) (lt_none ow_none0 2) rfl rfl
    (dst := wsS 256 inb_S2x2x544x4x64_S2x2x128x4x64_0_0_256_0_0) (P := wsPts 0 256 128 fullShare.right (WS A 0)) .rfl) $$ [HO HA Hc2]
  · isplitr; · iexact HR
    isplitl [HO]; · iexact HO
    isplitl [HA]; · iexact HA
    iapply (Entails.of_eq (cr_one (dut_2 z31)).symm); iexact Hc2
  iintro ⟨HO, HA, HwC⟩
  iapply (w_ret 0 (Q := Q) ⟨0, V2 0, Scalar.cmpi .eq (V2 0) 0#32⟩); iapply HQ
  unfold ZMid ZMem
  isplitl [HO]; · iexact HO
  isplitl [HA]; · iexact HA
  isplitl [HC]; · iexact HC
  isplitl [Hb]; · iexact Hb
  iframe
  iapply (ws_back A)
  iframe

end Cert.KernelIdeal.Att

end
-- ==== Proof.KernelIdealGatherEnd.lean ====
/-
The whole program of device 0.
-/
module

public import proofs.«01_k».proof.Proof.KernelIdealGather

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (A : Inp F) (K : Dev nD × Fin 39 → ℕ)

/-! ## The sends of the shared buffer have ended -/

theorem dut_kb {t : Dev nD} (h : 0 < t.val) : dut 0 (kb t) = {0} := by revert t; decide +kernel

/-- Device 0 after it has waited for the sends up to device `j`. -/
def BW (j : ℕ) : sProp 𝕄 := iprop(ows (F := F) 0 63 ∗ AP (F := F) 0 (DB j) ∗ LT j (EC (F := F)) ∗ LE j (lent A))

/-- The device of the send number `j`. -/
def dv (j : Fin 31) : Dev nD := ⟨j.val + 1, by have := j.isLt; show j.val + 1 < 32; omega⟩

theorem DB_succ (j : Fin 31) : insert (kb (dv j)) (DB j.val) = DB (j.val + 1) := by revert j; decide +kernel
theorem DB_not (j : Fin 31) : kb (dv j) ∉ DB j.val := by revert j; decide +kernel
theorem DB_zero : DB 0 = insert 2 (insert 38 (insert 4 {0})) := by decide
theorem DB_all (k : Fin 39) : k ∉ DB 31 → dut 0 k = ∅ := by revert k; decide +kernel

theorem z_bs (j : Fin 31) {sem : DmaSem sig} {hsrc} {hdst} (hs : SemLoc.dma sem = csem (kb (dv j)))
    {α : Type} {Q : α → sProp 𝕄} {kk : PUnit → Prog (TpuEff nD τ sig (Elt F) Λ₀ .tc) α} :
    iprop(ctx A K ∗ BW A j.val)
      ⊢ iprop((BW A (j.val + 1) -∗ W' 0 Q (kk ⟨⟩)) -∗ W' 0 Q (.op (.waitDma2 sem bcM bcM hsrc hdst) kk)) := by
  have h0 : 0 < (dv j).val := Nat.succ_pos _
  unfold BW
  rw [LT_next (n := dv j) rfl, LE_next (n := dv j) rfl]
  unfold EC
  refine (show iprop(ctx A K ∗ ows (F := F) 0 63 ∗ AP (F := F) 0 (DB j.val) ∗ (cred (tallyAt (kcell ((0 : Dev nD), kb (dv j))) () Nb)
    ∗ LT (j.val + 1) fun t => cred (tallyAt (kcell ((0 : Dev nD), kb t)) () Nb)) ∗ LE j.val (lent A)) ⊢ _ from ?_)
  iintro ⟨#HR, HO, HA, ⟨HC, HL⟩, HE⟩
  iintro HQ
  iapply (wait_one A K (kb (dv j)) (DB j.val) (dut_kb h0) (DB_not j) (lt_none ow_none0 _) hs (src := bcM) (dst := bcM) (amt_kb h0).symm
    (P := lent A (dv j)) (Entails.of_eq (pay_kb A h0))) $$ [HO HA HC]
  · isplitr; · iexact HR
    isplitl [HO]; · iexact HO
    isplitl [HA]; · iexact HA
    iapply (Entails.of_eq ((cr_one (dut_kb h0)).trans (by rw [amt_kb h0])).symm); iexact HC
  rw [DB_succ j]
  iintro ⟨HO, HA, HP⟩
  iapply HQ
  isplitl [HO]; · iexact HO
  isplitl [HA]; · iexact HA
  isplitl [HL]; · iexact HL
  isplitl [HP]; · iexact HP
  iexact HE

theorem bs35 {Q} :
    iprop(ctx A K ∗ BW A 0) ⊢ iprop((BW A 8 -∗ Q ⟨⟩) -∗ W' 0 Q (k0_part35 xM hx qM hq kM hk vM hv oM ho uM hu wsM hws bcM hbc ptM hpt rxM hrx cxM hcx cc0_scratch5 cc0_scratch6 cc0_scratch7 cc0_scratch8 cc0_scratch9 cc0_scratch10)) := by
  simp only [k0_part35_eq_skeleton]; unfold k0_part35_skel
  simp only [Prog.lift, Prog.bind_op, Prog.bind_ret, Prog.pure_eq_ret]
  iintro ⟨#HR, HS⟩
  iintro HQ
  iapply (z_bs A K 0 rfl) $$ [HS]
  · isplitr; · iexact HR
    iexact HS
  iintro HS
  iapply (z_bs A K 1 rfl) $$ [HS]
  · isplitr; · iexact HR
    iexact HS
  iintro HS
  iapply (z_bs A K 2 rfl) $$ [HS]
  · isplitr; · iexact HR
    iexact HS
  iintro HS
  iapply (z_bs A K 3 rfl) $$ [HS]
  · isplitr; · iexact HR
    iexact HS
  iintro HS
  iapply (z_bs A K 4 rfl) $$ [HS]
  · isplitr; · iexact HR
    iexact HS
  iintro HS
  iapply (z_bs A K 5 rfl) $$ [HS]
  · isplitr; · iexact HR
    iexact HS
  iintro HS
  iapply (z_bs A K 6 rfl) $$ [HS]
  · isplitr; · iexact HR
    iexact HS
  iintro HS
  iapply (z_bs A K 7 rfl) $$ [HS]
  · isplitr; · iexact HR
    iexact HS
  iintro HS
  iapply (w_ret 0 (Q := Q) ⟨⟩); iapply HQ; iexact HS

theorem bs36 {Q} :
    iprop(ctx A K ∗ BW A 8) ⊢ iprop((BW A 17 -∗ Q ⟨⟩) -∗ W' 0 Q (k0_part36 xM hx qM hq kM hk vM hv oM ho uM hu wsM hws bcM hbc ptM hpt rxM hrx cxM hcx cc0_scratch5 cc0_scratch6 cc0_scratch7 cc0_scratch8 cc0_scratch9 cc0_scratch10)) := by
  simp only [k0_part36_eq_skeleton]; unfold k0_part36_skel
  simp only [Prog.lift, Prog.bind_op, Prog.bind_ret, Prog.pure_eq_ret]
  iintro ⟨#HR, HS⟩
  iintro HQ
  iapply (z_bs A K 8 rfl) $$ [HS]
  · isplitr; · iexact HR
    iexact HS
  iintro HS
  iapply (z_bs A K 9 rfl) $$ [HS]
  · isplitr; · iexact HR
    iexact HS
  iintro HS
  iapply (z_bs A K 10 rfl) $$ [HS]
  · isplitr; · iexact HR
    iexact HS
  iintro HS
  iapply (z_bs A K 11 rfl) $$ [HS]
  · isplitr; · iexact HR
    iexact HS
  iintro HS
  iapply (z_bs A K 12 rfl) $$ [HS]
  · isplitr; · iexact HR
    iexact HS
  iintro HS
  iapply (z_bs A K 13 rfl) $$ [HS]
  · isplitr; · iexact HR
    iexact HS
  iintro HS
  iapply (z_bs A K 14 rfl) $$ [HS]
  · isplitr; · iexact HR
    iexact HS
  iintro HS
  iapply (z_bs A K 15 rfl) $$ [HS]
  · isplitr; · iexact HR
    iexact HS
  iintro HS
  iapply (z_bs A K 16 rfl) $$ [HS]
  · isplitr; · iexact HR
    iexact HS
  iintro HS
  iapply (w_ret 0 (Q := Q) ⟨⟩); iapply HQ; iexact HS

theorem bs37 {Q} :
    iprop(ctx A K ∗ BW A 17) ⊢ iprop((BW A 25 -∗ Q ⟨⟩) -∗ W' 0 Q (k0_part37 xM hx qM hq kM hk vM hv oM ho uM hu wsM hws bcM hbc ptM hpt rxM hrx cxM hcx cc0_scratch5 cc0_scratch6 cc0_scratch7 cc0_scratch8 cc0_scratch9 cc0_scratch10)) := by
  simp only [k0_part37_eq_skeleton]; unfold k0_part37_skel
  simp only [Prog.lift, Prog.bind_op, Prog.bind_ret, Prog.pure_eq_ret]
  iintro ⟨#HR, HS⟩
  iintro HQ
  iapply (z_bs A K 17 rfl) $$ [HS]
  · isplitr; · iexact HR
    iexact HS
  iintro HS
  iapply (z_bs A K 18 rfl) $$ [HS]
  · isplitr; · iexact HR
    iexact HS
  iintro HS
  iapply (z_bs A K 19 rfl) $$ [HS]
  · isplitr; · iexact HR
    iexact HS
  iintro HS
  iapply (z_bs A K 20 rfl) $$ [HS]
  · isplitr; · iexact HR
    iexact HS
  iintro HS
  iapply (z_bs A K 21 rfl) $$ [HS]
  · isplitr; · iexact HR
    iexact HS
  iintro HS
  iapply (z_bs A K 22 rfl) $$ [HS]
  · isplitr; · iexact HR
    iexact HS
  iintro HS
  iapply (z_bs A K 23 rfl) $$ [HS]
  · isplitr; · iexact HR
    iexact HS
  iintro HS
  iapply (z_bs A K 24 rfl) $$ [HS]
  · isplitr; · iexact HR
    iexact HS
  iintro HS
  iapply (w_ret 0 (Q := Q) ⟨⟩); iapply HQ; iexact HS

theorem zbody {Q} :
    iprop(ctx A K ∗ ZPre (F := F) ∗ Mem0 A 0 ∗ (∃ f, rxL 0 ↦{fullShare} f))
      ⊢ iprop((ZPost A -∗ Q ⟨⟩) -∗ W' 0 Q (cc0_body xM hx qM hq kM hk vM hv oM ho uM hu wsM hws bcM hbc ptM hpt rxM hrx cxM hcx cc0_scratch5 cc0_scratch6 cc0_scratch7 cc0_scratch8 cc0_scratch9 cc0_scratch10)) := by
  have z : (0 : Dev nD).val = 0 := rfl
  simp only [cc0_body_eq_skeleton]; unfold cc0_body_skel
  simp only [Prog.lift, Prog.bind_op, Prog.bind_ret, Prog.pure_eq_ret]
  iintro ⟨#HR, HN, HM, Hr⟩
  iintro HQ
  rw [w_seq]; iapply (z57 A K) $$ [HN HM Hr]
  · isplitr; · iexact HR
    isplitl [HN]; · iexact HN
    isplitl [HM]; · iexact HM
    iexact Hr
  unfold ZMid
  iintro ⟨HO, HA, HC, Hb, HZ⟩
  simp only [dif_pos ((eq0_iff 0).mpr z), dif_neg (mt (cond21_iff 0).mp (fun h => h z)), Prog.bind_op, Prog.bind_ret]
  ihave HS := (show iprop(ows (F := F) 0 63 ∗ AP (F := F) 0 (DB 0) ∗ LT 0 (EC (F := F)) ∗ LE 0 (lent A)) ⊢ BW A 0 from .rfl) $$ [HO HA HC]
  · isplitl [HO]; · iexact HO
    isplitl [HA]; · rw [DB_zero]; iexact HA
    isplitl [HC]; · iexact HC
    rw [LE_zero]; iempintro
  iapply (w_then _ _); iapply (bs35 A K) $$ [HS]
  · isplitr; · iexact HR
    iexact HS
  iintro HS
  iapply (w_then _ _); iapply (bs36 A K) $$ [HS]
  · isplitr; · iexact HR
    iexact HS
  iintro HS
  iapply (w_then _ _); iapply (bs37 A K) $$ [HS]
  · isplitr; · iexact HR
    iexact HS
  iintro HS
  iapply (z_bs A K 25 rfl) $$ [HS]
  · isplitr; · iexact HR
    iexact HS
  iintro HS
  iapply (z_bs A K 26 rfl) $$ [HS]
  · isplitr; · iexact HR
    iexact HS
  iintro HS
  iapply (z_bs A K 27 rfl) $$ [HS]
  · isplitr; · iexact HR
    iexact HS
  iintro HS
  iapply (z_bs A K 28 rfl) $$ [HS]
  · isplitr; · iexact HR
    iexact HS
  iintro HS
  iapply (z_bs A K 29 rfl) $$ [HS]
  · isplitr; · iexact HR
    iexact HS
  iintro HS
  iapply (z_bs A K 30 rfl) $$ [HS]
  · isplitr; · iexact HR
    iexact HS
  iintro HS
  ihave HS := (show BW A (((30 : Fin 31) : ℕ) + 1) ⊢ iprop(ows (F := F) 0 63 ∗ AP (F := F) 0 (DB 31) ∗ LT 31 (EC (F := F)) ∗ LE 31 (lent A)) from .rfl) $$ HS
  icases HS with ⟨HO, HA, -, HE⟩
  ihave HE := (Entails.of_eq (LE_all (lent A))) $$ HE
  ihave Hb := (bc_cut A).2 $$ [Hb HE]
  · isplitl [Hb]; · iexact Hb
    iexact HE
  iapply (w_ret 0 (Q := Q) ⟨⟩); iapply HQ
  unfold ZPost
  isplitl [HO]; · iexact HO
  isplitl [HA]
  · iexists _
    isplitr
    on_goal 2 => iexact HA
    ipureintro; exact DB_all
  isplitl [Hb]; · iexact Hb
  iexact HZ

end Cert.KernelIdeal.Att

end
-- ==== Proof.KernelIdealTokens.lean ====
/-

The ghost state that the launch mints: every device's cells, and the tokens of the contributions that it makes.

-/
module

public import proofs.«01_k».proof.Proof.KernelIdealOthersEnd
public import proofs.«01_k».proof.Proof.KernelIdealGatherEnd

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem ownSem_lt (i : Fin 38) : 6 + i.val < 44 := by have := i.isLt; omega
/-- The kernel's own transfer semaphores. -/
abbrev osem (i : Fin 38) : SemLoc sig := .dma ⟨6 + i.val, ownSem_lt i⟩

theorem csem_succ (i : Fin 38) : csem i.succ = osem i := by revert i; decide

theorem sems_split (Φ : Fin 39 → sProp 𝕄) : (bigSep Finset.univ Φ : sProp 𝕄) = iprop(Φ 0 ∗ bigSep Finset.univ fun i : Fin 38 => Φ i.succ) := by
  rw [bigSep_univ_at Φ 0, show (Finset.univ.erase (0 : Fin 39)) = Finset.univ.map (Fin.succEmb 38) from by decide, bigSep_map]; rfl

/-! ## Tokens -/

/-- The token for the contribution of device `x.1` to cell `x.2.1` of device `x.2.2`. -/
abbrev tokOf (x : Dev nD × Fin 39 × Dev nD) : GSem nD τ sig × ℕ × Dev nD := (kcell (x.2.2, x.2.1), 0, x.1)
theorem tokOf_injective : Function.Injective tokOf := by
  rintro ⟨d, k, c⟩ ⟨d', k', c'⟩ h
  have h1 := kcell_injective (congrArg Prod.fst h)
  have h2 : d = d' := congrArg (fun x : GSem nD τ sig × ℕ × Dev nD => x.2.2) h
  cases h1; cases h2; rfl

def ringCells : Finset (GSem nD τ sig) := Finset.univ.map ⟨kcell, kcell_injective⟩
def ringToks : Finset (GSem nD τ sig × ℕ × Dev nD) :=
  (Finset.univ.filter fun x : Dev nD × Fin 39 × Dev nD => Pd x.2.2 x.2.1 x.1).map ⟨tokOf, tokOf_injective⟩

def u₀ : UU :=
  (initOf (Pipeline.cells cfgs cellOf_inj) (Pipeline.launchToks cfgs cellOf_inj), initOf ringCells ringToks)

/-- The devices to whose cell `k` device `d` contributes. -/
def tgt (d : Dev nD) (k : Fin 39) : Finset (Dev nD) := Finset.univ.filter fun c => Pd c k d

/-- The tokens of the contributions that device `d` makes. -/
def payToks (d : Dev nD) : sProp 𝕄 := bigSep Finset.univ fun k : Fin 39 => bigSep (tgt d k) fun c => tk (F := F) c k d

theorem toks_eq : bigSep ringToks (fun x => (dutyTok ER x.1 x.2.1 x.2.2 : sProp 𝕄)) = bigSep Finset.univ fun d : Dev nD => payToks (F := F) d := by
  unfold ringToks
  rw [bigSep_map, bigSep_filter, bigSep_univ_prod]
  refine bigSep_congr fun d _ => ?_
  unfold payToks
  rw [bigSep_univ_prod]
  refine bigSep_congr fun k _ => ?_
  unfold tgt
  rw [bigSep_filter]
  rfl

variable (A : Inp F)

/-- What the launch mints for a device. -/
def G (c : Dev nD) : sProp 𝕄 :=
  iprop((bigSep Finset.univ fun k : Fin 39 => roundState ER (rd A) (kcell (c, k)) 0)
    ∗ (bigSep Finset.univ fun k : Fin 39 => iprop(atPos ER (kcell (c, k)) 0 ∅ 0 ∗ reached ER (kcell (c, k)) 0)) ∗ payToks (F := F) c)

theorem fund_ring : BI.own (ER (initOf ringCells ringToks)) ⊢ (|==> bigSep Finset.univ (G A) : sProp 𝕄) := by
  have hX (Φ : GSem nD τ sig → sProp 𝕄) : bigSep ringCells Φ = bigSep Finset.univ fun c : Dev nD => bigSep Finset.univ fun k : Fin 39 => Φ (kcell (c, k)) := by
    unfold ringCells; rw [bigSep_map, bigSep_univ_prod]; rfl
  iintro HX
  imod (Rounds.fund ER (rd A) ringCells ringToks) $$ HX with ⟨Hst, Hr, Hat, Htok⟩
  imodintro
  ihave Hst' := (Entails.of_eq (hX fun g => roundState ER (rd A) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The cells made -/

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems0_eq (c : Dev nD) :
    (bigSep Finset.univ fun k : Fin 39 => semVal (kcell (c, k)) 0 : sProp 𝕄)
      = iprop(unscopedSems0 c ∗ Pipeline.ownSems0 (Ix := Unit) (Name := ℕ) (U := UU) (Lvl := ℕ) (Val := Elt F) (τ := τ) osem c) := by
  rw [sems_split, unscopedSems0_eq]
  congr 1

theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (rd A) κ (kcell (c, k))))
          ∗ (bigSep Finset.univ fun k => iprop(atPos ER (kcell (c, k)) 0 ∅ 0 ∗ reached ER (kcell (c, k)) 0)) ∗ payToks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 39 => semVal (kcell (c, k)) 0) ∗ bigSep Finset.univ fun k : Fin 39 => roundState ER (rd A) (kcell (c, k)) 0)
      ⊢ (|={Set.univ}=> bigSep Finset.univ fun k => iprop(∃ κ : ℕ, cellInv ER (rd A) κ (kcell (c, k))) : sProp 𝕄) from by
        rw [← bigSep_sep']
        exact (bigSep_mono fun k _ => (Rounds.body_intro ER (rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device shares of the cells. -/
def records (K : Dev nD × Fin 39 → ℕ) : sProp 𝕄 :=
  iprop((bigSep Finset.univ fun ck : Dev nD × Fin 39 => cellInv ER (rd A) (K ck) (kcell ck))
    ∗ bigSep Finset.univ fun ck : Dev nD × Fin 39 => reached ER (kcell ck) 0)

instance records_persistent (K : Dev nD × Fin 39 → ℕ) : BI.Persistent (records A K) := by unfold records; infer_instance

/-- What a device has of the cells when it starts. -/
def G' (c : Dev nD) : sProp 𝕄 := iprop(∃ K, records A K ∗ AP (F := F) c ∅ ∗ payToks (F := F) c)

theorem ghost_intro (K : Dev nD × Fin 39 → ℕ) (c : Dev nD) : iprop(records A K ∗ AP (F := F) c ∅ ∗ payToks (F := F) c) ⊢ G' A c := by
  unfold G'; iintro H; iexists K; iexact H

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem AP_empty (c : Dev nD) : (bigSep Finset.univ fun k : Fin 39 => (atPos ER (kcell (c, k)) 0 ∅ 0 : sProp 𝕄)) = AP (F := F) c ∅ := by
  unfold AP; exact bigSep_congr fun k _ => by rw [if_neg (Finset.notMem_empty k)]

theorem regroup :
    (bigSep Finset.univ fun c : Dev nD => iprop((bigSep Finset.univ fun k => iprop(∃ κ : ℕ, cellInv ER (rd A) κ (kcell (c, k))))
          ∗ (bigSep Finset.univ fun k => iprop(atPos ER (kcell (c, k)) 0 ∅ 0 ∗ reached ER (kcell (c, k)) 0)) ∗ payToks (F := F) c) : sProp 𝕄)
      ⊢ bigSep Finset.univ (G' A) := by
  rw [bigSep_sep', bigSep_sep', ← bigSep_univ_prod (fun ck : Dev nD × Fin 39 => iprop(∃ κ : ℕ, cellInv ER (rd A) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄)),
    bigSep_congr (s := Finset.univ) (fun (c : Dev nD) _ => AP_empty (F := F) c)]
  iintro ⟨HI, ⟨Hat, #HR⟩, Htok⟩
  ihave HK := (BI.bigSep_exists_pi Finset.univ (fun (ck : Dev nD × Fin 39) (κ : ℕ) => (cellInv ER (rd A) κ (kcell ck) : sProp 𝕄))) $$ HI
  icases HK with ⟨%K, #HI⟩
  iapply (with_shared (R := records A K) fun c _ => ghost_intro A K c)
  isplitr
  · unfold records; isplitl; · iexact HI
    iexact HR
  · iapply (Entails.of_eq (bigSep_sep' Finset.univ (fun c : Dev nD => AP (F := F) c ∅) (payToks (F := F))).symm)
    isplitl [Hat]; · iexact Hat
    iexact Htok

/-- All the cells of all the devices are made at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credit of the launch -/

/-- What a device owes when it starts. -/
def O₀ (d : Dev nD) : CellTallies nD τ sig Unit := OO (ow d 0)

theorem ord_pos {c : Dev nD} {k : Fin 39} {d : Dev nD} (h : Pd c k d) (hk : OwK k) : 0 < ord d (c, k) := by
  obtain ⟨c, hc⟩ := c; obtain ⟨d, hd⟩ := d; obtain ⟨k, hk'⟩ := k
  simp only [Pd, OwK, ord] at h hk ⊢
  split
  · split
    · omega
    split <;> omega
  split
  · split
    · omega
    split <;> omega
  split
  · omega
  split <;> omega

theorem launch_at (c : Dev nD) (k : Fin 39) (hk : OwK k) :
    tallyOn (kcell (c, k)) (launchCredit (Pipeline.owing O₀) 0 (kcell (c, k))) = (tallyAt (kcell (c, k)) () (expc c k) : CellTallies nD τ sig Unit) := by
  unfold tallyAt; refine congrArg _ (Finsupp.ext fun u => ?_); cases u
  rw [Pipeline.launchCredit_owing, Finsupp.single_eq_same]
  have h : ∀ d ∈ (Finset.univ : Finset (Dev nD)), O₀ d (kcell (c, k)) () = if d ∈ dut c k then amt k else 0 := fun d _ => by
    unfold O₀; rw [OO_cell]
    exact if_congr (by rw [mem_ow, mem_dut]; exact ⟨fun h => h.1, fun h => ⟨h, hk, ord_pos h hk⟩⟩) rfl rfl
  rw [Finset.sum_congr rfl h, Finset.sum_ite_mem, Finset.univ_inter, Finset.sum_const, smul_eq_mul]
  rfl

theorem csem_injective : Function.Injective csem := fun a b h => by rw [← kOf_csem a, ← kOf_csem b, h]

theorem creds (c : Dev nD) : (Pipeline.launchCred O₀ c : sProp 𝕄) ⊢ bigSep (Finset.univ.filter OwK) fun k => cr (F := F) c k := by
  unfold Pipeline.launchCred
  refine (bigSep_subset (t := (Finset.univ.filter OwK).map ⟨csem, csem_injective⟩) (Finset.subset_univ _)).trans ?_
  rw [bigSep_map]
  exact bigSep_mono fun k hk => Entails.of_eq (by
    show (cred (tallyOn (kcell (c, k)) (launchCredit (Pipeline.owing O₀) 0 (kcell (c, k)))) : sProp 𝕄) = _
    rw [launch_at c k (Finset.mem_filter.mp hk).2])

theorem cr_list (c : Dev nD) : (bigSep (Finset.univ.filter OwK) fun k => cr (F := F) c k : sProp 𝕄)
    = iprop(cr (F := F) c 0 ∗ cr (F := F) c 3 ∗ cr (F := F) c 4 ∗ cr (F := F) c 36 ∗ cr (F := F) c 38) := by
  rw [bigSep_eq_bigSepL_of_eq [0, 3, 4, 36, 38] (by decide) (by decide)]; rfl

/-! ## The tokens of a device, one by one -/

theorem toks_some (c : Dev nD) : payToks (F := F) c
    ⊢ iprop(bigSep (tgt c 0) (fun e => tk (F := F) e 0 c) ∗ bigSep (tgt c 1) (fun e => tk (F := F) e 1 c) ∗ bigSep (tgt c 2) (fun e => tk (F := F) e 2 c)
      ∗ bigSep (tgt c 3) (fun e => tk (F := F) e 3 c) ∗ bigSep (tgt c 4) (fun e => tk (F := F) e 4 c) ∗ bigSep (tgt c 36) (fun e => tk (F := F) e 36 c)
      ∗ bigSep (tgt c 37) (fun e => tk (F := F) e 37 c) ∗ bigSep (tgt c 38) (fun e => tk (F := F) e 38 c)
      ∗ bigSep (Finset.univ.filter fun k : Fin 39 => 5 ≤ k.val ∧ k.val ≤ 35) fun k => bigSep (tgt c k) fun e => tk (F := F) e k c) := by
  have h : (Finset.univ : Finset (Fin 39)) = {0, 1, 2, 3, 4, 36, 37, 38} ∪ (Finset.univ.filter fun k : Fin 39 => 5 ≤ k.val ∧ k.val ≤ 35) := by decide
  unfold payToks
  refine (Entails.of_eq (congrArg (fun S => bigSep S fun k : Fin 39 => bigSep (tgt c k) fun e => tk (F := F) e k c) h)).trans ?_
  rw [bigSep_union (by decide), bigSep_eq_bigSepL_of_eq (S := {0, 1, 2, 3, 4, 36, 37, 38}) [0, 1, 2, 3, 4, 36, 37, 38] (by decide) (by decide)]
  refine (show iprop((_ ∗ _ ∗ _ ∗ _ ∗ _ ∗ _ ∗ _ ∗ _) ∗ _) ⊢ _ from ?_)
  iintro ⟨⟨H0, H1, H2, H3, H4, H5, H6, H7⟩, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iapply (Entails.of_eq (show (bigSepL [(38 : Fin 39)] fun k => bigSep (tgt c k) fun e => tk (F := F) e k c) = bigSep (tgt c 38) (fun e => tk (F := F) e 38 c) from rfl))
    iexact H7
  iexact H8

theorem tgt_one {c : Dev nD} {k : Fin 39} {e : Dev nD} (h : ∀ x, Pd x k c ↔ x = e) : bigSep (tgt c k) (fun x => tk (F := F) x k c) = tk (F := F) e k c := by
  rw [show tgt c k = {e} from by ext x; simp [tgt, h x], bigSep_singleton]

theorem tgt_zero_eq {c : Dev nD} (h0 : c.val ≠ 0) :
    tgt c 0 = (if c.val < 31 then {nxt c} else ∅) ∪ ((if 1 < c.val then {prv c} else ∅) ∪ {0}) := by
  revert h0; revert c; decide

theorem tgt_zero {c : Dev nD} (h0 : c.val ≠ 0) : bigSep (tgt c 0) (fun x => tk (F := F) x 0 c)
    = iprop((if c.val < 31 then tk (F := F) (nxt c) 0 c else iprop(emp)) ∗ (if 1 < c.val then tk (F := F) (prv c) 0 c else iprop(emp)) ∗ tk (F := F) 0 0 c) := by
  have hc : c.val < 32 := c.isLt
  have hp := prv_val c
  have hz : ((0 : Dev nD)).val = 0 := rfl
  have hi : ∀ (p : Prop) [Decidable p] (e : Dev nD), bigSep (if p then {e} else ∅) (fun x => tk (F := F) x 0 c) = if p then tk (F := F) e 0 c else iprop(emp) := by
    intro p _ e; split
    · rw [bigSep_singleton]
    · rw [bigSep_empty]; rfl
  rw [tgt_zero_eq h0, bigSep_union, bigSep_union, hi, hi, bigSep_singleton]
  · rfl
  · exact (show ∀ c : Dev nD, c.val ≠ 0 → Disjoint (if 1 < c.val then {prv c} else ∅ : Finset (Dev nD)) {0} by decide) c h0
  · exact (show ∀ c : Dev nD, c.val ≠ 0 → Disjoint (if c.val < 31 then {nxt c} else ∅ : Finset (Dev nD)) ((if 1 < c.val then {prv c} else ∅) ∪ {0}) by decide) c h0

/-- What a device's body is given of the cells. -/
def Cells (c : Dev nD) : sProp 𝕄 :=
  iprop(ows (F := F) c 0 ∗ AP (F := F) c ∅ ∗ payToks (F := F) c
    ∗ (cr (F := F) c 0 ∗ cr (F := F) c 3 ∗ cr (F := F) c 4 ∗ cr (F := F) c 36 ∗ cr (F := F) c 38))

set_option maxHeartbeats 1000000 in
theorem n_start {c : Dev nD} (h0 : c.val ≠ 0) : Cells (F := F) c ⊢ NPre (F := F) c := by
  have hc : c.val < 32 := c.isLt
  have hp := prv_val c
  have hz : ((0 : Dev nD)).val = 0 := rfl
  have e1 : ∀ x, Pd x 1 c ↔ x = c := fun x => by
    simp only [Pd, Fin.ext_iff, show ((1 : Fin 39) : ℕ) = 1 from rfl, ne_eq, true_and, and_true, not_true_eq_false, not_false_eq_true, and_false, false_and, or_false, false_or, true_or, or_true]; omega
  have e4 : ∀ x, Pd x 4 c ↔ x = prv c := fun x => by
    simp only [Pd, Fin.ext_iff, show ((4 : Fin 39) : ℕ) = 4 from rfl, hp, ne_eq, true_and, and_true, not_true_eq_false, not_false_eq_true, and_false, false_and, or_false, false_or, true_or, or_true]; omega
  have e37 : ∀ x, Pd x 37 c ↔ x = c := fun x => by
    simp only [Pd, Fin.ext_iff, show ((37 : Fin 39) : ℕ) = 37 from rfl, ne_eq, true_and, and_true, not_true_eq_false, not_false_eq_true, and_false, false_and, or_false, false_or, true_or, or_true]; omega
  have e38 : ∀ x, Pd x 38 c ↔ x = 0 := fun x => by
    simp only [Pd, Fin.ext_iff, show ((38 : Fin 39) : ℕ) = 38 from rfl, hz, ne_eq, true_and, and_true, not_true_eq_false, not_false_eq_true, and_false, false_and, or_false, false_or, true_or, or_true]; omega
  unfold Cells NPre
  iintro ⟨HO, HA, HT, Hc0, Hc3, Hc4, Hc36, -⟩
  ihave H := (toks_some c) $$ HT
  icases H with ⟨H0, H1, H2, H3, H4, -, H37, H38, -⟩
  ihave H0 := (Entails.of_eq (tgt_zero h0)) $$ H0
  icases H0 with ⟨Ha, Hb, Hz⟩
  isplitl [HO]; · iexact HO
  isplitl [HA]; · iexact HA
  isplitl [Hc0]; · iexact Hc0
  isplitl [Hc36]; · iexact Hc36
  isplitl [Hc3]; · iexact Hc3
  isplitl [Hc4]
  · split
    · iexact Hc4
    · iempintro
  isplitl [Ha]; · iexact Ha
  isplitl [Hb]; · iexact Hb
  isplitl [H2 H3]
  · split
    · rename_i h1
      have hn := nxt_val h1
      isplitl [H2]
      · iapply (Entails.of_eq (tgt_one (k := 2) (e := c) fun x => by
          simp only [Pd, Fin.ext_iff, show ((2 : Fin 39) : ℕ) = 2 from rfl, ne_eq, true_and, and_true, not_true_eq_false, not_false_eq_true, and_false, false_and, or_false, false_or, true_or, or_true]; omega)); iexact H2
      · iapply (Entails.of_eq (tgt_one (k := 3) (e := nxt c) fun x => by
          simp only [Pd, Fin.ext_iff, show ((3 : Fin 39) : ℕ) = 3 from rfl, hn, ne_eq, true_and, and_true, not_true_eq_false, not_false_eq_true, and_false, false_and, or_false, false_or, true_or, or_true]; omega)); iexact H3
    · iempintro
  isplitl [Hz]; · iexact Hz
  isplitl [H1]; · iapply (Entails.of_eq (tgt_one e1)); iexact H1
  isplitl [H4]; · iapply (Entails.of_eq (tgt_one e4)); iexact H4
  isplitl [H37]; · iapply (Entails.of_eq (tgt_one e37)); iexact H37
  iapply (Entails.of_eq (tgt_one e38)); iexact H38

theorem kb_injective : Function.Injective kb := fun a b h => Fin.ext (by
  have : 4 + a.val = 4 + b.val := congrArg Fin.val h
  omega)

set_option maxHeartbeats 1000000 in
theorem z_start : Cells (F := F) 0 ⊢ ZPre (F := F) := by
  have hz : ((0 : Dev nD)).val = 0 := rfl
  have hn : (nxt 0).val = 1 := nxt_val (c := 0) (by decide)
  have e2 : ∀ x, Pd x 2 0 ↔ x = 0 := fun x => by
    simp only [Pd, Fin.ext_iff, show ((2 : Fin 39) : ℕ) = 2 from rfl, hz, ne_eq, true_and, and_true, not_true_eq_false, not_false_eq_true, and_false, false_and, or_false, false_or, true_or, or_true]; omega
  have e3 : ∀ x, Pd x 3 0 ↔ x = nxt 0 := fun x => by
    simp only [Pd, Fin.ext_iff, show ((3 : Fin 39) : ℕ) = 3 from rfl, hz, hn, ne_eq, true_and, and_true, not_true_eq_false, not_false_eq_true, and_false, false_and, or_false, false_or, true_or, or_true]; omega
  have e0 : tgt 0 0 = Finset.univ.filter fun t : Dev nD => 0 < t.val := by decide
  have e36 : tgt 0 36 = Finset.univ.filter fun t : Dev nD => 0 < t.val := by decide
  have eb : (Finset.univ.filter fun k : Fin 39 => 5 ≤ k.val ∧ k.val ≤ 35) = (Finset.univ.filter fun t : Dev nD => 0 < t.val).map ⟨kb, kb_injective⟩ := by decide
  have ekb : ∀ t ∈ (Finset.univ.filter fun t : Dev nD => 0 < t.val), (bigSep (tgt 0 (kb t)) fun e => tk (F := F) e (kb t) 0) = tk (F := F) 0 (kb t) 0 := fun t ht => by
    have h1 : 0 < t.val := (Finset.mem_filter.mp ht).2
    have h2 : t.val < 32 := t.isLt
    exact tgt_one fun x => by simp only [Pd, kb, Fin.ext_iff, hz, ne_eq, true_and, and_true, not_true_eq_false, not_false_eq_true, and_false, false_and, or_false, false_or, true_or, or_true]; omega
  unfold Cells ZPre
  iintro ⟨HO, HA, HT, Hc0, -, Hc4, -, Hc38⟩
  ihave H := (toks_some 0) $$ HT
  icases H with ⟨H0, -, H2, H3, -, H36, -, -, Hb⟩
  isplitl [HO]; · iexact HO
  isplitl [HA]; · iexact HA
  isplitl [Hc0]; · iexact Hc0
  isplitl [Hc4]; · iexact Hc4
  isplitl [Hc38]; · iexact Hc38
  isplitl [H0]
  · unfold LT; iapply (Entails.of_eq (congrArg (fun S => bigSep S fun e => tk (F := F) e 0 0) e0)); iexact H0
  isplitl [H2]; · iapply (Entails.of_eq (tgt_one e2)); iexact H2
  isplitl [H3]; · iapply (Entails.of_eq (tgt_one e3)); iexact H3
  isplitl [Hb]
  · unfold LT
    iapply ((Entails.of_eq (congrArg (fun S => bigSep S fun k => bigSep (tgt 0 k) fun e => tk (F := F) e k 0) eb)).trans
      (Entails.of_eq ((bigSep_map _).trans (bigSep_congr ekb))))
    iexact Hb
  unfold LT; iapply (Entails.of_eq (congrArg (fun S => bigSep S fun e => tk (F := F) e 36 0) e36)); iexact H36

/-! ## The cells closed -/

theorem cell_done (K : Dev nD × Fin 39 → ℕ) (c : Dev nD) (D : Finset (Fin 39)) (hD : ∀ k, k ∉ D → dut c k = ∅) (k : Fin 39) :
    iprop(ctx A K ∗ atPos ER (kcell (c, k)) (if k ∈ D then 1 else 0) ∅ 0) ⊢ (|={Set.univ}=> semVal (kcell (c, k)) 0 : sProp 𝕄) :=
  (sep_mono_left (ctx_inv A K (c, k))).trans (Rounds.cell_close ER (rd A) (Set.mem_univ _) (fun h => h)
    fun r hr => by
      by_cases hk : k ∈ D
      · rw [if_pos hk] at hr; exact duties_later A _ r hr
      · rcases Nat.eq_zero_or_pos r with rfl | h
        · rw [duties_rd]; exact hD k hk
        · exact duties_later A _ r h)

theorem cells_done (K : Dev nD × Fin 39 → ℕ) (c : Dev nD) (D : Finset (Fin 39)) (hD : ∀ k, k ∉ D → dut c k = ∅) :
    iprop(ctx A K ∗ AP (F := F) c D) ⊢ (|={Set.univ}=> bigSep Finset.univ fun k : Fin 39 => semVal (kcell (c, k)) 0 : sProp 𝕄) := by
  unfold AP
  exact (with_shared fun k _ => cell_done A K c D hD k).trans (bigSep_fupd _ _)

end Cert.KernelIdeal.Att

end
-- ==== Proof.KernelIdealLaunch.lean ====
/-

The launch: from any memory, with all counters at zero, the mesh runs to an end at which every device's output is
written, every argument is unchanged and every counter is at zero again.

-/
module

public import proofs.«01_k».proof.Proof.KernelIdealTokens
public import proofs.«01_k».proof.Proof.Gen.KernelIdeal.Points
public import Idealize.ShloMosaic.Lib.Pipeline.CollectiveSegs
public import Idealize.ShloMosaic.Lib.StableHlo.RunHlo

@[expose] public section

noncomputable section

namespace Cert.KernelIdeal.Att

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

def s₀ : MemSt nD τ sig (Elt F) := ⟨m, fun _ => 0, ρ⟩

/-- The devices' inputs as the memory holds them. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-- What the device starts from: the cells, what it may spend and owes, and the levels. -/
def start (c : Dev nD) : sProp 𝕄 :=
  iprop(G' (inp m) c ∗ (cr (F := F) c 0 ∗ cr (F := F) c 3 ∗ cr (F := F) c 4 ∗ cr (F := F) c 36 ∗ cr (F := F) c 38) ∗ levAts L lv)

/-- The scratch buffers, at some contents. -/
def scrs (c : Dev nD) : sProp 𝕄 :=
  iprop((∃ f, wsL c ↦{fullShare} f) ∗ (∃ f, bcL c ↦{fullShare} f) ∗ (∃ f, ptL c ↦{fullShare} f) ∗ (∃ f, rxL c ↦{fullShare} f) ∗ (∃ f, cxL c ↦{fullShare} f))

def Φ₀ (c : Dev nD) : sProp 𝕄 := iprop(start m c ∗ scrs (F := F) c)
def Φ₁ (c : Dev nD) : sProp 𝕄 := iprop((bigSep Finset.univ fun k : Fin 39 => semVal (kcell (c, k)) 0) ∗ scrs (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => OUT (inp m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : iprop(((c : Thread nD τ).loc b) ↦{fullShare} X) ⊢ (stg c b X : sProp 𝕄) := by
  iintro H; iexists X; isplitr
  · ipureintro; rfl
  · iexact H

/-- What a body is given: the cells, its inputs staged, and its buffers at some contents. -/
def BodyIn (A : Inp F) (c : Dev nD) : sProp 𝕄 :=
  iprop(Cells (F := F) c ∗ xPts c A ∗ qPts c A ∗ kPts c A ∗ vPts c A ∗ oPts c A ∗ (∃ f, uL c ↦{fullShare} f) ∗ scrs (F := F) c)

/-- What it gives back. -/
def BodyOut (A : Inp F) (c : Dev nD) : sProp 𝕄 :=
  iprop(Φ₁ (F := F) c ∗ (∃ W, owes (c : Thread nD τ) 0 W) ∗ xPts c A ∗ qPts c A ∗ kPts c A ∗ vPts c A ∗ oPts c A ∗ (uL c ↦{fullShare} OUT A c))

theorem ows_none {c : Dev nD} {i : ℕ} (h : ow c i = ∅) : ows (F := F) c i ⊢ iprop(∃ W, owes (c : Thread nD τ) 0 W) := by
  unfold ows; rw [h, show OO ∅ = 0 from Finset.sum_empty]

theorem OUT_n (A : Inp F) {c : Dev nD} (h0 : c.val ≠ 0) : OUT A c = OUTL A c := by
  funext i; unfold OUT; rw [dif_neg fun h => h0 h.1]

theorem body_n (A : Inp F) (K : Dev nD × Fin 39 → ℕ) {c : Dev nD} (h0 : c.val ≠ 0) :
    iprop(ctx A K ∗ BodyIn A c) ⊢ W' c (fun _ => iprop(|={Set.univ}=> BodyOut A c)) (cc0_body xM hx qM hq kM hk vM hv oM ho uM hu wsM hws bcM hbc ptM hpt rxM hrx cxM hcx cc0_scratch5 cc0_scratch6 cc0_scratch7 cc0_scratch8 cc0_scratch9 cc0_scratch10) := by
  unfold BodyIn scrs
  iintro ⟨#HR, HC, Hx, Hq, Hk, Hv, Ho, Hu, Hws, Hbc, Hpt, Hrx, Hcx⟩
  ihave HN := (n_start h0) $$ HC
  iapply (nbody A K h0) $$ [HN Hx Hq Hk Hv Ho Hu Hws Hbc Hpt Hcx]
  · isplitr; · iexact HR
    isplitl [HN]; · iexact HN
    unfold Mem0
    isplitl [Hx]; · iexact Hx
    isplitl [Hq]; · iexact Hq
    isplitl [Hk]; · iexact Hk
    isplitl [Hv]; · iexact Hv
    isplitl [Ho]; · iexact Ho
    isplitl [Hu]; · iexact Hu
    isplitl [Hws]; · iexact Hws
    isplitl [Hbc]
    · unfold bcX bcPts; iexact Hbc
    isplitl [Hpt]
    · unfold ptPts; iexact Hpt
    iexact Hcx
  unfold NPost
  iintro ⟨HO, ⟨%D, %hD, HA⟩, Hx, Hq, Hk, Hv, Ho, Hu, Hws, Hbc, Hpt, Hcx⟩
  imod (cells_done A K c D hD) $$ [HA] with HZ
  · isplitr; · iexact HR
    iexact HA
  imodintro
  unfold BodyOut Φ₁ scrs
  isplitl [HZ Hws Hbc Hpt Hrx Hcx]
  · isplitl [HZ]; · iexact HZ
    isplitl [Hws]; · iexists _; iexact Hws
    isplitl [Hbc]
    · unfold bcPts; iexists _; iexact Hbc
    isplitl [Hpt]
    · unfold ptPts; iexists _; iexact Hpt
    isplitl [Hrx]; · iexact Hrx
    iexists _; iexact Hcx
  isplitl [HO]; · iapply (ows_none (ow_none h0)); iexact HO
  isplitl [Hx]; · iexact Hx
  isplitl [Hq]; · iexact Hq
  isplitl [Hk]; · iexact Hk
  isplitl [Hv]; · iexact Hv
  isplitl [Ho]; · iexact Ho
  rw [OUT_n A h0]; iexact Hu

theorem body_z (A : Inp F) (K : Dev nD × Fin 39 → ℕ) :
    iprop(ctx A K ∗ BodyIn A 0) ⊢ W' 0 (fun _ => iprop(|={Set.univ}=> BodyOut A 0)) (cc0_body xM hx qM hq kM hk vM hv oM ho uM hu wsM hws bcM hbc ptM hpt rxM hrx cxM hcx cc0_scratch5 cc0_scratch6 cc0_scratch7 cc0_scratch8 cc0_scratch9 cc0_scratch10) := by
  unfold BodyIn scrs
  iintro ⟨#HR, HC, Hx, Hq, Hk, Hv, Ho, Hu, Hws, Hbc, Hpt, Hrx, Hcx⟩
  ihave HN := (z_start (F := F)) $$ HC
  iapply (zbody A K) $$ [HN Hx Hq Hk Hv Ho Hu Hws Hbc Hpt Hrx Hcx]
  · isplitr; · iexact HR
    isplitl [HN]; · iexact HN
    unfold Mem0
    isplitr [Hrx]
    on_goal 2 => iexact Hrx
    isplitl [Hx]; · iexact Hx
    isplitl [Hq]; · iexact Hq
    isplitl [Hk]; · iexact Hk
    isplitl [Hv]; · iexact Hv
    isplitl [Ho]; · iexact Ho
    isplitl [Hu]; · iexact Hu
    isplitl [Hws]; · iexact Hws
    isplitl [Hbc]
    · unfold bcX bcPts; iexact Hbc
    isplitl [Hpt]
    · unfold ptPts; iexact Hpt
    iexact Hcx
  unfold ZPost ZMem RX
  iintro ⟨HO, ⟨%D, %hD, HA⟩, Hbc, Hx, Hq, Hk, Hv, Ho, Hu, Hws, Hpt, Hcx, Hrx⟩
  imod (cells_done A K 0 D hD) $$ [HA] with HZ
  · isplitr; · iexact HR
    iexact HA
  imodintro
  unfold BodyOut Φ₁ scrs
  isplitl [HZ Hws Hbc Hpt Hrx Hcx]
  · isplitl [HZ]; · iexact HZ
    isplitl [Hws]; · iexists _; iexact Hws
    isplitl [Hbc]
    · unfold bcPts; iexists _; iexact Hbc
    isplitl [Hpt]
    · unfold ptPts; iexists _; iexact Hpt
    isplitl [Hrx]; · iexists _; iexact Hrx
    iexists _; iexact Hcx
  isplitl [HO]; · iapply (ows_none ow_none0); iexact HO
  isplitl [Hx]; · iexact Hx
  isplitl [Hq]; · iexact Hq
  isplitl [Hk]; · iexact Hk
  isplitl [Hv]; · iexact Hv
  isplitl [Ho]; · iexact Ho
  iexact Hu

theorem w_fupd (c : Dev nD) {α : Type} (p : Prog (TpuEff nD τ sig (Elt F) Λ₀ .tc) α) (Q : α → sProp 𝕄) :
    W' c (fun a => iprop(|={Set.univ}=> Q a)) p ⊢ W' c Q p := wp_fupd _ _ _ p Q

theorem body_any (A : Inp F) (K : Dev nD × Fin 39 → ℕ) (c : Dev nD) :
    iprop(ctx A K ∗ BodyIn A c) ⊢ W' c (fun _ => BodyOut A c) (cc0_body xM hx qM hq kM hk vM hv oM ho uM hu wsM hws bcM hbc ptM hpt rxM hrx cxM hcx cc0_scratch5 cc0_scratch6 cc0_scratch7 cc0_scratch8 cc0_scratch9 cc0_scratch10) := by
  by_cases h0 : c.val = 0
  · obtain rfl : c = 0 := Fin.ext h0
    exact (body_z A K).trans (w_fupd 0 _ _)
  · exact (body_n A K h0).trans (w_fupd c _ _)

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ (F := F) c ∗ (dats m ρ 0 c).owesAt () t0_0.succ ∗ stg c cc0_stg0_0 ((inp m).x c) ∗ stg c cc0_stg1_0 ((inp m).wq c) ∗ stg c cc0_stg2_0 ((inp m).k c)
    ∗ stg c cc0_stg3_0 ((inp m).v c) ∗ stg c cc0_stg4_0 ((inp m).wo c) ∗ stg c cc0_stg5_0 (OUT (inp m) c))

theorem ctx_of (A : Inp F) (K : Dev nD × Fin 39 → ℕ) : iprop(records A K ∗ levAts L lv) ⊢ ctx A K := by
  unfold records ctx
  iintro ⟨⟨H1, H2⟩, H3⟩
  isplitl [H1]; · iexact H1
  isplitl [H2]; · iexact H2
  iexact H3

theorem out_post (c : Dev nD) : BodyOut (inp m) c ⊢ bodyPost m ρ c := by
  unfold BodyOut bodyPost Dat.owesAt Pipeline.owesWithin xPts qPts kPts vPts oPts
  iintro ⟨HF, ⟨%W, HO⟩, H0, H1, H2, H3, H4, H5⟩
  isplitl [HF]; · iexact HF
  isplitl [HO]
  · iexists W; isplitr
    · ipureintro; exact fun _ _ => Or.inl trivial
    · iexact HO
  isplitl [H0]; · iapply (stg_of c cc0_stg0_0); iexact H0
  isplitl [H1]; · iapply (stg_of c cc0_stg1_0); iexact H1
  isplitl [H2]; · iapply (stg_of c cc0_stg2_0); iexact H2
  isplitl [H3]; · iapply (stg_of c cc0_stg3_0); iexact H3
  isplitl [H4]; · iapply (stg_of c cc0_stg4_0); iexact H4
  iapply (stg_of c cc0_stg5_0); iexact H5

theorem sound_body (c : Dev nD) : bodyPre m ρ c ⊢ W' c (fun _ => bodyPost m ρ c) (cc0_body xM hx qM hq kM hk vM hv oM ho uM hu wsM hws bcM hbc ptM hpt rxM hrx cxM hcx cc0_scratch5 cc0_scratch6 cc0_scratch7 cc0_scratch8 cc0_scratch9 cc0_scratch10) := by
  unfold bodyPre Φ₀ start G'
  iintro ⟨⟨⟨⟨%K, #HR, HA, HT⟩, HC, #HL⟩, HS⟩, HO, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = (inp m).x c := by rw [hg0]; unfold Dat.before; rw [if_pos (fetch0_0 t0_0)]; rfl
  have e1 : g1 = (inp m).wq c := by rw [hg1]; unfold Dat.before; rw [if_pos (fetch0_1 t0_0)]; rfl
  have e2 : g2 = (inp m).k c := by rw [hg2]; unfold Dat.before; rw [if_pos (fetch0_2 t0_0)]; rfl
  have e3 : g3 = (inp m).v c := by rw [hg3]; unfold Dat.before; rw [if_pos (fetch0_3 t0_0)]; rfl
  have e4 : g4 = (inp m).wo c := by rw [hg4]; unfold Dat.before; rw [if_pos (fetch0_4 t0_0)]; rfl
  rw [e0, e1, e2, e3, e4]
  unfold Dat.owesAt Pipeline.owesWithin
  icases HO with ⟨%W, %hW, HO⟩
  ihave #HX := (ctx_of (inp m) K) $$ [HR HL]
  · isplitr; · iexact HR
    iexact HL
  iapply ((body_any (inp m) K c).trans (wp_mono _ _ _ fun _ => out_post m ρ c))
  isplitr; · iexact HX
  unfold BodyIn Cells ows xPts qPts kPts vPts oPts
  isplitl [HO HA HT HC]
  · isplitl [HO]; · iexists W; iexact HO
    isplitl [HA]; · iexact HA
    isplitl [HT]; · iexact HT
    iexact HC
  isplitl [H0]; · iexact H0
  isplitl [H1]; · iexact H1
  isplitl [H2]; · iexact H2
  isplitl [H3]; · iexact H3
  isplitl [H4]; · iexact H4
  isplitl [H5]; · iexists _; iexact H5
  iexact HS

set_option maxRecDepth 4000 in
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

/-! ## The side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := ((creds (F := F) c).trans (Entails.of_eq (cr_list c))) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scrs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scrs
  rw [sems0_eq]
  iintro ⟨⟨Hu, Ho⟩, Hr⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ (ow c 0) fun x hx => by
        have hk := (mem_ow.mp hx).2.1
        have h1 : 0 < lvk x.2 := by revert hk; generalize x.2 = k; revert k; decide
        exact lt_of_eq_of_lt (by fin_cases w <;> fin_cases s <;> decide) h1
    · show _ ⊢ MayWait _ _ _ 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution ends, with the arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 6) = m ((c : Thread nD τ).loc main_arg0) := (dats (F := F) m ρ 0 c).arrAt_in (0 : Fin 6) rfl _
theorem finalA_q (c : Dev nD) : finalA m ρ c (1 : Fin 6) = m ((c : Thread nD τ).loc main_arg1) := (dats (F := F) m ρ 0 c).arrAt_in (1 : Fin 6) rfl _
theorem finalA_k (c : Dev nD) : finalA m ρ c (2 : Fin 6) = m ((c : Thread nD τ).loc main_arg2) := (dats (F := F) m ρ 0 c).arrAt_in (2 : Fin 6) rfl _
theorem finalA_v (c : Dev nD) : finalA m ρ c (3 : Fin 6) = m ((c : Thread nD τ).loc main_arg3) := (dats (F := F) m ρ 0 c).arrAt_in (3 : Fin 6) rfl _
theorem finalA_o (c : Dev nD) : finalA m ρ c (4 : Fin 6) = m ((c : Thread nD τ).loc main_arg4) := (dats (F := F) m ρ 0 c).arrAt_in (4 : Fin 6) rfl _

/-- The arguments end as they were. -/
def Same (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

theorem same_of {r : PUnit × MemSt nD τ sig (Elt F)} (h : QC m ρ r) : Same m r := fun c =>
  ⟨(h c (0 : Fin 6)).trans (finalA_x m ρ c), (h c (1 : Fin 6)).trans (finalA_q m ρ c), (h c (2 : Fin 6)).trans (finalA_k m ρ c),
    (h c (3 : Fin 6)).trans (finalA_v m ρ c), (h c (4 : Fin 6)).trans (finalA_o m ρ c)⟩

theorem run_same : θ_run defs (onTc (τ := τ) (main (F := F))) (s₀ m ρ) (fun r => Same m r ∧ r.2.sem = fun _ => 0) :=
  θ_run_mono (run_main m ρ) fun r h => ⟨same_of m ρ h.1, h.2⟩

end Cert.KernelIdeal.Att

end
-- ==== Proof.KernelRun.lean ====
/-
The kernel on bit patterns runs as the idealized one does. The two programs differ in one constant only, the mask that
the idealized program names: read with the instance that gives every named constant its own bits, they are equal.
-/
module

public import proofs.«01_k».proof.Defs
public import proofs.«01_k».proof.Proof.KernelIdealLaunch
public import proofs.«01_k».proof.Proof.Gen.Kernel

@[expose] public section

noncomputable section

namespace Cert.Proof

open Idealize.ShloMosaic Idealize.SL.Sem

/-- Every named constant is the number of its own bits. -/
@[instance_reducible] def ownBits : Named Bits where
  named _ _ {φ} b := Scalar.ofBits φ b

attribute [local instance] ownBits Cert.Kernel.Gen.facts Cert.KernelIdeal.Gen.facts

set_option maxHeartbeats 4000000 in
set_option maxRecDepth 100000 in
/-- The bodies are the same program. -/
theorem same_body : @Cert.Kernel.cc0_body Bits _ _ = @Cert.KernelIdeal.cc0_body Bits _ _ _ := rfl

set_option maxHeartbeats 4000000 in
set_option maxRecDepth 100000 in
theorem same_defs₀ : @Cert.Kernel.defs₀ Bits _ _ = @Cert.KernelIdeal.defs₀ Bits _ _ _ := by
  refine congrArg Defs.onTc (funext fun l => funext fun a => ?_)
  match l, a with
  | ⟨0, _⟩, (t, s) => rfl
  | ⟨n + 1, h⟩, _ => exact absurd h (Nat.not_lt.2 (Nat.le_add_left _ _))

set_option maxHeartbeats 4000000 in
set_option maxRecDepth 100000 in
theorem same_main : Cert.Kernel.main (F := Bits) = Cert.KernelIdeal.main (F := Bits) := rfl

set_option maxHeartbeats 4000000 in
set_option maxRecDepth 100000 in
theorem same_defs : Cert.Kernel.defs (F := Bits) = Cert.KernelIdeal.defs (F := Bits) := by
  unfold Cert.Kernel.defs Cert.KernelIdeal.defs
  rw [same_defs₀]
  rfl

theorem kernel_runs : Cert.quiescent_Kernel (hKernel := Cert.Kernel.Gen.facts) := fun m g _ => by
  have h := Cert.KernelIdeal.Att.run_same (F := Bits) m g
  rw [← same_defs, ← same_main] at h
  exact h

theorem kernelIdeal_runs : Cert.quiescent_KernelIdeal (hKernelIdeal := Cert.KernelIdeal.Gen.facts) := fun m g _ =>
  Cert.KernelIdeal.Att.run_same (F := Ideal) m g

end Cert.Proof

end
-- ==== Proof.Softmax.lean ====
/-
Attention weights over the extended reals: scores are real numbers, the weighted values are arbitrary. A row computed
with its maximum taken off, and masked scores at minus infinity, is the plain weighted mean over the kept positions;
rows merged from parts, each with its own maximum, are the plain weighted mean over all the parts.
-/
module

public import Idealize.ShloMosaic.Lib.Pointwise

@[expose] public section

noncomputable section

namespace Cert.KernelIdeal.Att

open Idealize.ShloMosaic

variable {ι : Type*}

/-- The mean of `v` over `S`, weighted by the exponentials of the scores. -/
def att (S : Finset ι) (s : ι → ℝ) (v : ι → EReal) : EReal :=
  ∑ j ∈ S, ((Real.exp (s j) / ∑ k ∈ S, Real.exp (s k) : ℝ) : EReal) * v j

theorem coe_sum_real (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor goes into a sum. -/
theorem mul_sum_real {a : ℝ} (ha : 0 ≤ a) (S : Finset ι) (f : ι → EReal) :
    (a : EReal) * ∑ j ∈ S, f j = ∑ j ∈ S, (a : EReal) * f j := by
  classical
  induction S using Finset.induction_on with
  | empty => simp
  | insert b S hb ih =>
    rw [Finset.sum_insert hb, Finset.sum_insert hb,
      EReal.left_distrib_of_nonneg_of_ne_top (EReal.coe_nonneg.2 ha) (EReal.coe_ne_top a), ih]

/-- The greatest of finitely many real numbers and of minus infinities, one of them real, is real. -/
theorem fold_max_real [Fintype ι] (t : ι → EReal) (ht : ∀ j, t j ≠ ⊤) (j₀ : ι) (h₀ : t j₀ ≠ ⊥) :
    ∃ μ : ℝ, Finset.fold max ⊥ t Finset.univ = (μ : EReal) := by
  have e : Finset.fold max ⊥ t Finset.univ = Finset.univ.sup t := rfl
  rw [e]
  have h1 : Finset.univ.sup t ≠ ⊤ := by
    refine ne_of_lt ((Finset.sup_lt_iff bot_lt_top).2 fun j _ => lt_top_iff_ne_top.2 (ht j))
  have h2 : Finset.univ.sup t ≠ ⊥ := fun h =>
    h₀ (le_bot_iff.1 (h ▸ Finset.le_sup (f := t) (Finset.mem_univ j₀)))
  exact ⟨_, (EReal.coe_toReal h1 h2).symm⟩

/-- A masked row. -/
theorem row_eq [Fintype ι] [DecidableEq ι] (S : Finset ι) (hS : S.Nonempty) (s : ι → ℝ) (t v : ι → EReal)
    (ht : ∀ j, t j = if j ∈ S then (s j : EReal) else ⊥) :
    ∑ j, Ideal.div (Ideal.exp (t j - Finset.fold max ⊥ t Finset.univ))
        (∑ k, Ideal.exp (t k - Finset.fold max ⊥ t Finset.univ)) * v j = att S s v := by
  obtain ⟨j₀, hj₀⟩ := hS
  obtain ⟨μ, hμ⟩ := fold_max_real t (fun j => by rw [ht]; split <;> simp) j₀ (by rw [ht, if_pos hj₀]; simp)
  rw [hμ]
  have hw : ∀ j, Ideal.exp (t j - μ) = if j ∈ S then ((Real.exp (s j - μ) : ℝ) : EReal) else 0 := by
    intro j
    rw [ht]
    split
    · rw [← EReal.coe_sub, Ideal.exp_coe]
    · rw [EReal.bot_sub, Ideal.exp_bot]
  have hsum : ∑ k, Ideal.exp (t k - μ) = ((∑ k ∈ S, Real.exp (s k - μ) : ℝ) : EReal) := by
    rw [coe_sum_real]
    simp only [hw, Finset.sum_ite_mem, Finset.univ_inter]
  have hpos : 0 < ∑ k ∈ S, Real.exp (s k - μ) := Finset.sum_pos (fun _ _ => Real.exp_pos _) ⟨j₀, hj₀⟩
  have hfac : ∑ k ∈ S, Real.exp (s k - μ) = (∑ k ∈ S, Real.exp (s k)) / Real.exp μ := by
    simp only [Real.exp_sub, Finset.sum_div]
  rw [hsum, att, ← Finset.sum_subset (Finset.subset_univ S)]
  · refine Finset.sum_congr rfl fun j hj => ?_
    rw [Ideal.div_coe hpos.ne', hw, if_pos hj, ← EReal.coe_mul, hfac, Real.exp_sub]
    congr 2
    have : 0 < ∑ k ∈ S, Real.exp (s k) := Finset.sum_pos (fun _ _ => Real.exp_pos _) ⟨j₀, hj₀⟩
    have := Real.exp_pos μ
    field_simp
  · intro j _ hj
    rw [Ideal.div_coe hpos.ne', hw, if_neg hj, zero_mul, zero_mul]

/-- Parts merged: each part has its own shift `m j`, and the merge a shift `M`. -/
theorem merge_eq {J K : Type*} [Fintype J] [Fintype K] [Nonempty J] [Nonempty K] (s : J → K → ℝ) (v : J → K → EReal) (m : J → ℝ) (M : ℝ) :
    Ideal.div (∑ j, Ideal.exp ((m j : EReal) - M) * ∑ k, Ideal.exp ((s j k : EReal) - m j) * v j k)
        (∑ j, Ideal.exp ((m j : EReal) - M) * ∑ k, Ideal.exp ((s j k : EReal) - m j))
      = att (Finset.univ : Finset (J × K)) (fun p => s p.1 p.2) (fun p => v p.1 p.2) := by
  have hpos : 0 < ∑ p : J × K, Real.exp (s p.1 p.2 - M) := Finset.sum_pos (fun _ _ => Real.exp_pos _) Finset.univ_nonempty
  have hfac : ∑ p : J × K, Real.exp (s p.1 p.2 - M) = (∑ p : J × K, Real.exp (s p.1 p.2)) / Real.exp M := by
    simp only [Real.exp_sub, Finset.sum_div]
  have hsum : ∑ j, Ideal.exp ((m j : EReal) - M) * ∑ k, Ideal.exp ((s j k : EReal) - m j)
      = ((∑ p : J × K, Real.exp (s p.1 p.2 - M) : ℝ) : EReal) := by
    rw [coe_sum_real, Fintype.sum_prod_type]
    refine Finset.sum_congr rfl fun j _ => ?_
    rw [← EReal.coe_sub, Ideal.exp_coe, mul_sum_real (Real.exp_pos _).le]
    refine Finset.sum_congr rfl fun k _ => ?_
    rw [← EReal.coe_sub, Ideal.exp_coe, ← EReal.coe_mul, ← Real.exp_add]
    congr 2; ring
  rw [hsum, Ideal.div_coe hpos.ne', mul_comm, mul_sum_real (one_div_nonneg.2 hpos.le), hfac, att]
  have hL : 0 < ∑ p : J × K, Real.exp (s p.1 p.2) := Finset.sum_pos (fun _ _ => Real.exp_pos _) Finset.univ_nonempty
  generalize (∑ p : J × K, Real.exp (s p.1 p.2)) = L at hL
  rw [Fintype.sum_prod_type]
  refine Finset.sum_congr rfl fun j _ => ?_
  rw [← EReal.coe_sub, Ideal.exp_coe, ← mul_assoc, ← EReal.coe_mul, mul_sum_real (by positivity)]
  refine Finset.sum_congr rfl fun k _ => ?_
  rw [← EReal.coe_sub, Ideal.exp_coe, ← mul_assoc, ← EReal.coe_mul]
  congr 2
  have := Real.exp_pos M
  have h4 := Real.exp_pos (m j)
  rw [Real.exp_sub, Real.exp_sub]
  field_simp

/-- The mean does not depend on how the positions are named. -/
theorem att_image {κ : Type*} [DecidableEq κ] (f : ι → κ) (S : Finset ι) (T : Finset κ) (hf : Set.InjOn f S) (hT : S.image f = T)
    (s : κ → ℝ) (v : κ → EReal) : att S (fun i => s (f i)) (fun i => v (f i)) = att T s v := by
  subst hT
  rw [att, att, Finset.sum_image hf, Finset.sum_image hf]

theorem att_congr (S : Finset ι) {s s' : ι → ℝ} {v v' : ι → EReal} (hs : ∀ i ∈ S, s i = s' i) (hv : ∀ i ∈ S, v i = v' i) :
    att S s v = att S s' v' := by
  have e : ∑ k ∈ S, Real.exp (s k) = ∑ k ∈ S, Real.exp (s' k) := Finset.sum_congr rfl fun k hk => by rw [hs k hk]
  rw [att, att, e]
  exact Finset.sum_congr rfl fun k hk => by rw [hs k hk, hv k hk]

/-! The constants. -/

theorem minus_inf : Ideal.ofBits .f32 0xFF800000#32 = ⊥ := by
  simp [Ideal.ofBits, Ideal.ieee]

/-- The scale of the scores is a real number. -/
theorem eighth_real : ∃ r : ℝ, Ideal.ofBits .f32 0x3E000000#32 = (r : EReal) := by
  unfold Ideal.ofBits Ideal.ieee
  dsimp only
  rw [if_neg (by decide), if_neg (by decide)]
  exact ⟨_, rfl⟩

end Cert.KernelIdeal.Att

end
-- ==== Proof.ReferenceRead.lean ====
/-
The reference's composed term read at an index: attention with scores masked at minus infinity, over the whole arrays.
-/
module

public import proofs.«01_k».proof.Proof.Softmax
public import proofs.«01_k».proof.Proof.Gen.ReferenceIdeal.Run
public import Idealize.ShloMosaic.Lib.Routing.OpsOrder

@[expose] public section

noncomputable section

namespace Cert.KernelIdeal.Att

open Idealize.ShloMosaic

/-! The whole arrays' attention. -/

section Whole

variable (X : (⟨3, ![2, 8192, 512]⟩ : Shape).Idx → EReal) (W : (⟨2, ![512, 256]⟩ : Shape).Idx → EReal)
  (K V : (⟨4, ![2, 8192, 4, 64]⟩ : Shape).Idx → EReal) (O : (⟨2, ![256, 512]⟩ : Shape).Idx → EReal)

/-- The projected query. -/
def qry (b : Fin 2) (i : Fin 8192) (h : Fin 4) (d : Fin 64) : EReal :=
  ∑ x : Fin 512, X (ix3 b i x) * W (ix2 x ⟨h.val * 64 + d.val, by omega⟩)

/-- The scaled score. -/
def scr (b : Fin 2) (h : Fin 4) (i j : Fin 8192) : EReal :=
  (∑ d : Fin 64, qry X W b i h d * K (ix4 b j h d)) * Ideal.ofBits .f32 0x3E000000#32

/-- Position `j` is kept for row `i`. -/
def near (i j : ℕ) : Prop := (i ≤ j + 128 ∧ j ≤ i + 128) ∨ j < 32 ∨ i < 32

instance (i j : ℕ) : Decidable (near i j) := by unfold near; infer_instance

def keep (i : Fin 8192) : Finset (Fin 8192) := Finset.univ.filter fun j => near i.val j.val

/-- The attention's row before the output projection. -/
def ctxw (b : Fin 2) (i : Fin 8192) (h : Fin 4) (d : Fin 64) : EReal :=
  att (keep i) (fun j => (scr X W K b h i j).toReal) fun j => V (ix4 b j h d)

def res (b : Fin 2) (i : Fin 8192) (n : Fin 512) : EReal :=
  ∑ x : Fin 256, ctxw X W K V b i ⟨x.val / 64, by omega⟩ ⟨x.val % 64, by omega⟩ * O (ix2 x n)

end Whole

section Reference

open Cert.ReferenceIdeal Cert.ReferenceIdeal.Gen

variable (X : FVec Ideal S2x8192x512 .bf16) (W : FVec Ideal S512x256 .bf16) (K V : FVec Ideal S2x8192x4x64 .bf16) (O : FVec Ideal S256x512 .bf16)

/-! The composed term in stages: the mask, the kept rows, the scores, the masked scores, the exponentials, the weights. -/

def mkR : IVec S8192x8192 1 :=
  ori (cmpi .sle (absi (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (broadcastInDim S8192x8192 ![] bcast_S_S8192x8192 (constantI S_ 32 128#32))) (ori (broadcastInDim S8192x8192 ![0, 1] bcast_S1x8192_S8192x8192_0_1 (cmpi .slt (broadcastInDim S1x8192 ![1] bcast_S8192_S1x8192_1 (iotaInDim S8192 32 0)) (broadcastInDim S1x8192 ![] bcast_S_S1x8192 (constantI S_ 32 32#32)))) (broadcastInDim S8192x8192 ![0, 1] bcast_S8192x1_S8192x8192_0_1 (cmpi .slt (broadcastInDim S8192x1 ![0] bcast_S8192_S8192x1_0 (iotaInDim S8192 32 0)) (broadcastInDim S8192x1 ![] bcast_S_S8192x1 (constantI S_ 32 32#32)))))

def anyR : IVec S8192 1 :=
  Host.reduce IntOp.ori mkR (constantI S_ 1 0#1) reducesTo_S8192x8192_S8192_d1 h_S_

def scR : FVec Ideal S2x4x8192x8192 .f32 :=
  mulf (extf .f32 (truncf .bf16 (Host.dotGeneral dot_S2x8192x4x64_S2x8192x4x64_S2x4x8192x8192_3_3_1_1_02_02 none (shapeCast _ (truncf .bf16 (Host.dotGeneral dot_S2x8192x512_S512x256_S2x8192x256_2_0_01_1_n_n none X W) bitsLt_bf16_f32) shapeCasts_S2x8192x256_S2x8192x4x64) K) bitsLt_bf16_f32) bitsLt_bf16_f32) (broadcastInDim S2x4x8192x8192 ![] bcast_S_S2x4x8192x8192 (constant S_ .f32 0x3E000000#32))

def msR : FVec Ideal S2x4x8192x8192 .f32 :=
  select (broadcastInDim S2x4x8192x8192 ![0, 1, 2, 3] bcast_S1x1x8192x8192_S2x4x8192x8192_0_1_2_3 (broadcastInDim S1x1x8192x8192 ![2, 3] bcast_S8192x8192_S1x1x8192x8192_2_3 mkR)) (scR X W K) (broadcastInDim S2x4x8192x8192 ![] bcast_S_S2x4x8192x8192 (id (constant S_ .f32 0xFF800000#32)))

def exR (M : FVec Ideal S2x4x8192x8192 .f32) : FVec Ideal S2x4x8192x8192 .f32 :=
  Host.exp (subf M (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduce FloatOps.maximumf M (constant S_ .f32 0xFF800000#32) reducesTo_S2x4x8192x8192_S2x4x8192_d3 h_S_))))

def sumR (E : FVec Ideal S2x4x8192x8192 .f32) : FVec Ideal S2x4x8192 .f32 :=
  Host.reduceAdd E (constant S_ .f32 0x00000000#32) reducesTo_S2x4x8192x8192_S2x4x8192_d3 h_S_

def wtR (a : IVec S8192 1) (s : FVec Ideal S2x4x8192 .f32) (E : FVec Ideal S2x4x8192x8192 .f32) : FVec Ideal S2x4x8192x8192 .f32 :=
  select (broadcastInDim S2x4x8192x8192 ![0, 1, 2, 3] bcast_S1x1x8192x1_S2x4x8192x8192_0_1_2_3 (broadcastInDim S1x1x8192x1 ![2] bcast_S8192_S1x1x8192x1_2 a)) (Host.divf E (broadcastInDim S2x4x8192x8192 ![0, 1, 2, 3] bcast_S2x4x8192x1_S2x4x8192x8192_0_1_2_3 (select (broadcastInDim S2x4x8192x1 ![0, 1, 2, 3] bcast_S1x1x8192x1_S2x4x8192x1_0_1_2_3 (broadcastInDim S1x1x8192x1 ![2] bcast_S8192_S1x1x8192x1_2 a)) (broadcastInDim S2x4x8192x1 ![0, 1, 2] bcast_S2x4x8192_S2x4x8192x1_0_1_2 s) (broadcastInDim S2x4x8192x1 ![] bcast_S_S2x4x8192x1 (id (constant S_ .f32 0x3F800000#32)))))) (broadcastInDim S2x4x8192x8192 ![] bcast_S_S2x4x8192x8192 (id (constant S_ .f32 0x00000000#32)))

def outR (V : FVec Ideal S2x8192x4x64 .bf16) (O : FVec Ideal S256x512 .bf16) (w : FVec Ideal S2x4x8192x8192 .f32) : FVec Ideal S2x8192x512 .f32 :=
  Host.dotGeneral dot_S2x8192x256_S256x512_S2x8192x512_2_0_01_1_n_n none (shapeCast _ (transpose S2x8192x4x64 [0, 3, 1, 2] (Host.dotGeneral dot_S2x8192x4x64_S2x4x8192x8192_S2x4x64x8192_1_3_3_2_02_01 none V w) transposes_S2x4x64x8192_S2x8192x4x64_0_3_1_2) shapeCasts_S2x8192x4x64_S2x8192x256) O

set_option maxRecDepth 16384

theorem mkR_ap (i j : Fin 8192) : mkR (ix2 i j) = IntOp.ori
      (IntOp.cmpi .sle (IntOp.absi (IntOp.subi (BitVec.ofNat 32 i.val) (BitVec.ofNat 32 j.val))) 128#32)
      (IntOp.ori (IntOp.cmpi .slt (BitVec.ofNat 32 j.val) 32#32) (IntOp.cmpi .slt (BitVec.ofNat 32 i.val) 32#32)) := by
  unfold mkR
  pointwise

theorem scR_ap (b : Fin 2) (h : Fin 4) (i j : Fin 8192) : scR X W K (ix4 b h i j) = scr X W K b h i j := by
  unfold scR scr qry
  pointwise

theorem anyR_ap (i : Fin 8192) : anyR (ix1 i) = Finset.fold IntOp.ori (0#1) (fun j => mkR (ix2 i j)) Finset.univ := by
  unfold anyR
  pointwise

theorem msR_ap (b : Fin 2) (h : Fin 4) (i j : Fin 8192) :
    msR X W K (ix4 b h i j) = Scalar.select (mkR (ix2 i j)) (scR X W K (ix4 b h i j)) (Ideal.ofBits .f32 0xFF800000#32) := by
  unfold msR
  pointwise [id]

theorem exR_ap (M) (b : Fin 2) (h : Fin 4) (i j : Fin 8192) :
    exR M (ix4 b h i j) = Ideal.exp (M (ix4 b h i j) - Finset.fold max (Ideal.ofBits .f32 0xFF800000#32) (fun k => M (ix4 b h i k)) Finset.univ) := by
  unfold exR
  pointwise

theorem sumR_ap (E) (b : Fin 2) (h : Fin 4) (i : Fin 8192) : sumR E (ix3 b h i) = ∑ k : Fin 8192, E (ix4 b h i k) := by
  unfold sumR
  rw [Host.reduceAdd_apply]
  refine (Ideal.hostReduceAdd_r4_a3 _ _ _ _).trans ?_
  rw [show (constant (F := Ideal) S_ .f32 0x00000000#32) (Shape.Idx.first h_S_) = 0 from Ideal.ofBits_zero_f32, zero_add]
  rfl

theorem wtR_ap (a s E) (b : Fin 2) (h : Fin 4) (i j : Fin 8192) (ha : a (ix1 i) = 1#1) :
    wtR a s E (ix4 b h i j) = Ideal.div (E (ix4 b h i j)) (s (ix3 b h i)) := by
  unfold wtR
  pointwise
  rw [ha]
  rfl

theorem outR_ap (w) (b : Fin 2) (i : Fin 8192) (n : Fin 512) :
    outR V O w (ix3 b i n) = ∑ x : Fin 256, (∑ j : Fin 8192, V (ix4 b j ⟨x.val / 64, by omega⟩ ⟨x.val % 64, by omega⟩) * w (ix4 b ⟨x.val / 64, by omega⟩ i j)) * O (ix2 x n) := by
  unfold outR
  pointwise

end Reference

end Cert.KernelIdeal.Att

end
-- ==== Proof.MaskRead.lean ====
/-
The masks of the kernel and of the reference, as statements about the row and the column.
-/
module

public import proofs.«01_k».proof.Proof.ReferenceRead
public import proofs.«01_k».proof.Proof.KernelIdealSpec
public import Idealize.ShloMosaic.Lib.Affine

@[expose] public section

noncomputable section

namespace Cert.KernelIdeal.Att

open Idealize.ShloMosaic

theorem absi_word (x y : ℕ) (hx : x < 2 ^ 30) (hy : y < 2 ^ 30) :
    IntOp.absi (IntOp.subi (BitVec.ofNat 32 x) (BitVec.ofNat 32 y)) = BitVec.ofNat 32 (if y ≤ x then x - y else y - x) := by
  unfold IntOp.absi IntOp.subi
  apply BitVec.eq_of_toNat_eq
  rw [BitVec.msb_eq_decide]
  by_cases h : y ≤ x
  · rw [if_neg (by simp only [BitVec.toNat_sub, BitVec.toNat_ofNat, decide_eq_true_eq]; omega), if_pos h]
    simp only [BitVec.toNat_sub, BitVec.toNat_ofNat]; omega
  · rw [if_pos (by simp only [BitVec.toNat_sub, BitVec.toNat_ofNat, decide_eq_true_eq]; omega), if_neg h]
    simp only [BitVec.toNat_neg, BitVec.toNat_sub, BitVec.toNat_ofNat]; omega

theorem ofBool_one (b : Bool) : BitVec.ofBool b = 1#1 ↔ b = true := by cases b <;> decide

theorem slt_word (x y : ℕ) (hx : x < 2 ^ 30) (hy : y < 2 ^ 30) :
    IntOp.cmpi .slt (BitVec.ofNat 32 x) (BitVec.ofNat 32 y) = 1#1 ↔ x < y := by
  unfold IntOp.cmpi
  rw [ofBool_one]; simp only [BitVec.slt_iff_toInt_lt, BitVec.toInt_eq_toNat_cond, BitVec.toNat_ofNat]
  omega

theorem sle_word (x y : ℕ) (hx : x < 2 ^ 30) (hy : y < 2 ^ 30) :
    IntOp.cmpi .sle (BitVec.ofNat 32 x) (BitVec.ofNat 32 y) = 1#1 ↔ x ≤ y := by
  unfold IntOp.cmpi
  rw [ofBool_one]; simp only [BitVec.sle_iff_toInt_le, BitVec.toInt_eq_toNat_cond, BitVec.toNat_ofNat]
  omega

theorem close_word (x y : ℕ) (hx : x < 2 ^ 30) (hy : y < 2 ^ 30) :
    IntOp.cmpi .sle (IntOp.absi (IntOp.subi (BitVec.ofNat 32 x) (BitVec.ofNat 32 y))) 128#32 = 1#1 ↔ x ≤ y + 128 ∧ y ≤ x + 128 := by
  rw [absi_word x y hx hy, show (128#32) = BitVec.ofNat 32 128 from rfl, sle_word _ _ (by split <;> omega) (by omega)]
  split <;> omega

theorem ori_one (c d : BitVec 1) : IntOp.ori c d = 1#1 ↔ c = 1#1 ∨ d = 1#1 := by revert c d; decide

/-- The reference's mask. -/
theorem mkR_iff (i j : Fin 8192) : mkR (ix2 i j) = 1#1 ↔ j ∈ keep i := by
  rw [mkR_ap, ori_one, ori_one, close_word _ _ (by omega) (by omega), show (32#32) = BitVec.ofNat 32 32 from rfl,
    slt_word _ _ (by omega) (by omega), slt_word _ _ (by omega) (by omega), keep, Finset.mem_filter, near]
  simp only [Finset.mem_univ, true_and]

/-- Every row keeps its own position. -/
theorem self_mem (i : Fin 8192) : i ∈ keep i := by
  rw [keep, Finset.mem_filter, near]; exact ⟨Finset.mem_univ _, .inl ⟨by omega, by omega⟩⟩

theorem anyR_one (i : Fin 8192) : anyR (ix1 i) = 1#1 := by
  rw [anyR_ap, Routing.fold_ori]
  exact ⟨i, Finset.mem_univ _, (mkR_iff i i).2 (self_mem i)⟩

/-- The column of the whole arrays that column `j` of device `c`'s window holds; a column that holds nothing is far away. -/
def colw (c : Fin 32) (j : Fin 544) : ℕ :=
  if j.val < 128 then (if 0 < c.val then c.val * 256 + j.val - 128 else 1000000000)
  else if j.val < 384 then c.val * 256 + j.val - 128
  else if j.val < 512 then (if c.val < 31 then c.val * 256 + j.val - 128 else 1000000000)
  else (if 0 < c.val then j.val - 512 else 1000000000)

open Cert.KernelIdeal Cert.KernelIdeal.Gen in
theorem V2_eq (c : Dev nD) : V2 c = BitVec.ofNat 32 c.val := by revert c; decide +kernel

set_option maxRecDepth 16384 in
set_option maxHeartbeats 2000000 in
open Cert.KernelIdeal Cert.KernelIdeal.Gen in
/-- The kernel's mask. -/
theorem MASK_iff (c : Dev nD) (i : Fin 256) (j : Fin 544) : MASK c (ix2 i j) = 1#1 ↔ near (c.val * 256 + i.val) (colw c j) := by
  have hc : c.val < 32 := c.isLt
  have hrow : IntOp.addi (BitVec.ofNat 32 i.val) (Scalar.muli (256#32) (V2 c)) = BitVec.ofNat 32 (c.val * 256 + i.val) := by
    rw [V2_eq]; apply BitVec.eq_of_toNat_eq
    simp only [IntOp.addi, Scalar.muli, IntOp.muli, BitVec.toNat_add, BitVec.toNat_mul, BitVec.toNat_ofNat]; omega
  have key : ∀ w : BitVec 32, w = BitVec.ofNat 32 (colw c j) → (IntOp.ori (IntOp.ori
      (IntOp.cmpi .sle (IntOp.absi (IntOp.subi (BitVec.ofNat 32 (c.val * 256 + i.val)) w)) 128#32) (IntOp.cmpi .slt w 32#32))
      (IntOp.cmpi .slt (BitVec.ofNat 32 (c.val * 256 + i.val)) 32#32) = 1#1 ↔ near (c.val * 256 + i.val) (colw c j)) := by
    rintro w rfl
    have hw : colw c j < 2 ^ 30 := by unfold colw; have := j.isLt; split <;> (try split) <;> (try split) <;> (try split) <;> omega
    rw [ori_one, ori_one, close_word _ _ (by omega) hw, show (32#32) = BitVec.ofNat 32 32 from rfl,
      slt_word _ _ hw (by omega), slt_word _ _ (by omega) (by omega), near]
    tauto
  unfold MASK
  unfold_payloads
  pointwise
  rw [hrow]
  refine key _ ?_
  have sel : ∀ (p : Prop) [Decidable p] (b : BitVec 1) (x y : BitVec 32), (b = 1#1 ↔ p) → Scalar.select b x y = if p then x else y := by
    intro p _ b x y hb
    by_cases h : p
    · rw [if_pos h, hb.2 h]; rfl
    · rw [if_neg h, (BitVec.eq_zero_or_eq_one b).resolve_right fun e => h (hb.1 e)]; rfl
  have s1 : Scalar.cmpi .sgt (V2 c) 0#32 = 1#1 ↔ 0 < c.val := by
    rw [V2_eq]; exact slt_word 0 c.val (by omega) (by omega)
  have s2 : Scalar.cmpi .slt (V2 c) 31#32 = 1#1 ↔ c.val < 31 := by
    rw [V2_eq]; exact slt_word c.val 31 (by omega) (by omega)
  simp only [sel _ _ _ _ s1, sel _ _ _ _ s2]
  rw [V2_eq]
  unfold colw
  have := j.isLt
  apply BitVec.eq_of_toNat_eq
  split_ifs <;>
    first
    | rfl
    | omega
    | (simp only [IntOp.addi, IntOp.subi, Scalar.muli, Scalar.addi, IntOp.muli, BitVec.toNat_add, BitVec.toNat_sub, BitVec.toNat_mul, BitVec.toNat_ofNat]; omega)

end Cert.KernelIdeal.Att

end
-- ==== Proof.ReferenceValue.lean ====
/-
The reference's result, with real scores, is the attention over the kept positions; and scores of real entries are real.
-/
module

public import proofs.«01_k».proof.Proof.MaskRead

@[expose] public section

noncomputable section

namespace Cert.KernelIdeal.Att

open Idealize.ShloMosaic

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.sum {ι : Type*} (S : Finset ι) (f : ι → EReal) (h : ∀ j, IsReal (f j)) : IsReal (∑ j ∈ S, f j) := by
  choose g hg using h
  exact ⟨∑ j ∈ S, g j, by rw [coe_sum_real]; exact Finset.sum_congr rfl fun j _ => hg j⟩

theorem IsReal.eq {x : EReal} : IsReal x → x = (x.toReal : EReal) := by rintro ⟨a, rfl⟩; rw [EReal.toReal_coe]

section

variable (X : (⟨3, ![2, 8192, 512]⟩ : Shape).Idx → EReal) (W : (⟨2, ![512, 256]⟩ : Shape).Idx → EReal)
  (K V : (⟨4, ![2, 8192, 4, 64]⟩ : Shape).Idx → EReal) (O : (⟨2, ![256, 512]⟩ : Shape).Idx → EReal)

/-- Scores of real entries are real. -/
theorem scr_real (hX : ∀ i, IsReal (X i)) (hW : ∀ i, IsReal (W i)) (hK : ∀ i, IsReal (K i)) (b : Fin 2) (h : Fin 4) (i j : Fin 8192) :
    IsReal (scr X W K b h i j) :=
  (IsReal.sum _ _ fun d => (IsReal.sum _ _ fun x => (hX _).mul (hW _)).mul (hK _)).mul eighth_real

end

open Cert.ReferenceIdeal Cert.ReferenceIdeal.Gen

variable (X : FVec Ideal S2x8192x512 .bf16) (W : FVec Ideal S512x256 .bf16) (K V : FVec Ideal S2x8192x4x64 .bf16) (O : FVec Ideal S256x512 .bf16)

/-- One row of the reference. -/
theorem rowR (hs : ∀ b h i j, IsReal (scr X W K b h i j)) (b : Fin 2) (h : Fin 4) (i : Fin 8192) (d : Fin 64) :
    ∑ j : Fin 8192, V (ix4 b j h d) * wtR anyR (sumR (exR (msR X W K))) (exR (msR X W K)) (ix4 b h i j) = ctxw X W K V b i h d := by
  refine Eq.trans ?_ (row_eq (keep i) ⟨i, self_mem i⟩ (fun j => (scr X W K b h i j).toReal) (fun j => msR X W K (ix4 b h i j)) _ fun j => ?_)
  · refine Finset.sum_congr rfl fun j _ => ?_
    rw [mul_comm, wtR_ap _ _ _ _ _ _ _ (anyR_one i), sumR_ap]
    simp only [exR_ap, minus_inf]
  · rw [msR_ap, scR_ap, minus_inf]
    by_cases hm : j ∈ keep i
    · rw [if_pos hm, (mkR_iff i j).2 hm]; exact (hs b h i j).eq
    · rw [if_neg hm, (BitVec.eq_zero_or_eq_one (mkR (ix2 i j))).resolve_right fun e => hm ((mkR_iff i j).1 e)]; rfl

theorem outR_res (hs : ∀ b h i j, IsReal (scr X W K b h i j)) (b : Fin 2) (i : Fin 8192) (n : Fin 512) :
    outR V O (wtR anyR (sumR (exR (msR X W K))) (exR (msR X W K))) (ix3 b i n) = res X W K V O b i n := by
  rw [outR_ap, res]
  exact Finset.sum_congr rfl fun x _ => by rw [rowR X W K V hs]

end Cert.KernelIdeal.Att

namespace Cert.ReferenceIdeal

open Cert.KernelIdeal.Att
open Cert.ReferenceIdeal.Gen
open Idealize.ShloMosaic

set_option maxRecDepth 16384 in
/-- The composed term is the stages. -/
theorem res_stages (m : (ℓ : Loc nD τ sig) → Buf (Elt Ideal) ℓ) (c : Dev nD) :
    Cert.ReferenceIdeal.Value.res_main_v45 m c =
      outR (m ((c.tc : Thread nD τ).loc main_arg3)) (m ((c.tc : Thread nD τ).loc main_arg4))
        (wtR anyR (sumR (exR (msR (m ((c.tc : Thread nD τ).loc main_arg0)) (m ((c.tc : Thread nD τ).loc main_arg1)) (m ((c.tc : Thread nD τ).loc main_arg2)))))
          (exR (msR (m ((c.tc : Thread nD τ).loc main_arg0)) (m ((c.tc : Thread nD τ).loc main_arg1)) (m ((c.tc : Thread nD τ).loc main_arg2))))) := rfl

end Cert.ReferenceIdeal

end
-- ==== Proof.KernelRead.lean ====
/-
What the kernel's buffers hold at an index, read down to the staged inputs.
-/
module

public import proofs.«01_k».proof.Proof.ReferenceValue

@[expose] public section

set_option maxRecDepth 16384

noncomputable section

namespace Cert.KernelIdeal.Att

open Cert.KernelIdeal Cert.KernelIdeal.Gen
open Idealize.ShloMosaic

variable (A : Inp Ideal)

theorem Qv_ap (c : Dev nD) (b : Fin 2) (i : Fin 256) (h : Fin 4) (d : Fin 64) :
    Qv A c b (ix3 i h d) = ∑ x : Fin 512, A.x c (ix3 b i x) * A.wq c (ix2 x ⟨h.val * 64 + d.val, by omega⟩) := by
  unfold Qv xsl
  unfold_payloads
  pointwise

/-- The named constant of the ideal kernel is minus infinity. -/
theorem mask_bot : (Named.named κ "mask" 0xCE6E6B28#32 : Ideal .f32) = (⊥ : EReal) := rfl

/-- Masked attention over the window, read at an index; `t` is the masked score. -/
theorem pay197_ap (M : IVec S256x544 1) (q : FVec Ideal S256x64 .bf16) (k v : Vec Ideal S1x1x544x1x64 .bf16) (i : Fin 256) (d : Fin 64) (t : Fin 544 → EReal)
    (ht : t = fun x => Scalar.select (M (ix2 i x)) ((∑ e : Fin 64, q (ix2 i e) * k (ix5 0 0 x 0 e)) * Ideal.ofBits .f32 0x3E000000#32)
      (Named.named κ "mask" 0xCE6E6B28#32 : Ideal .f32)) :
    k0_pay197 M q k v (ix4 0 i 0 d) = ∑ x : Fin 544, Ideal.div (Ideal.exp (t x - Finset.fold max (Ideal.ofBits .f32 0xFF800000#32) t Finset.univ))
        (∑ y, Ideal.exp (t y - Finset.fold max (Ideal.ofBits .f32 0xFF800000#32) t Finset.univ)) * v (ix5 0 0 x 0 d) := by
  subst ht
  unfold_payloads
  pointwise

theorem qsel_ap (q : FVec Ideal S256x4x64 .f32) (h : Fin 4) (i : Fin 256) (e : Fin 64) : qsel q h (ix2 i e) = q (ix3 i h e) := by
  fin_cases h
  all_goals
    unfold qsel
    try unfold_payloads
    pointwise

theorem GC_ap (b : Fin 2) (h : Fin 4) (i : Fin 32) (d : Fin 64) :
    GC A (ix4 b h i d) = Ideal.div (CS (GM A) (slots A) 32 (ix4 b h i d)) (LS (GM A) (slots A) 32 (ix4 b h i 0)) := by
  unfold GC
  pointwise

theorem CS_succ (M : FVec Ideal S2x4x32x1 .f32) (g : ℕ → Vec Ideal S1x2x4x32x66 .bf16) (n : ℕ) (b : Fin 2) (h : Fin 4) (i : Fin 32) (d : Fin 64) :
    CS M g (n + 1) (ix4 b h i d) = CS M g n (ix4 b h i d) + Ideal.exp (g n (ix5 0 b h i 64) - M (ix4 b h i 0)) * g n (ix5 0 b h i ⟨d.val, by omega⟩) := by
  rw [CS]
  generalize CS M g n = C
  unfold wt cxOf mxOf wide
  pointwise

theorem LS_succ (M : FVec Ideal S2x4x32x1 .f32) (g : ℕ → Vec Ideal S1x2x4x32x66 .bf16) (n : ℕ) (b : Fin 2) (h : Fin 4) (i : Fin 32) :
    LS M g (n + 1) (ix4 b h i 0) = LS M g n (ix4 b h i 0) + Ideal.exp (g n (ix5 0 b h i 64) - M (ix4 b h i 0)) * g n (ix5 0 b h i 65) := by
  rw [LS]
  generalize LS M g n = C
  unfold wt smOf mxOf wide
  pointwise

theorem MX_succ (g : ℕ → Vec Ideal S1x2x4x32x66 .bf16) (n : ℕ) (b : Fin 2) (h : Fin 4) (i : Fin 32) :
    MX g (n + 1) (ix4 b h i 0) = max (MX g n (ix4 b h i 0)) (g (n + 1) (ix5 0 b h i 64)) := by
  rw [MX]
  generalize MX g n = C
  unfold mxOf wide
  pointwise

theorem MX_zero (g : ℕ → Vec Ideal S1x2x4x32x66 .bf16) (b : Fin 2) (h : Fin 4) (i : Fin 32) :
    MX g 0 (ix4 b h i 0) = g 0 (ix5 0 b h i 64) := by
  unfold MX mxOf wide
  pointwise

theorem CS_zero (M : FVec Ideal S2x4x32x1 .f32) (g : ℕ → Vec Ideal S1x2x4x32x66 .bf16) (b : Fin 2) (h : Fin 4) (i : Fin 32) (d : Fin 64) :
    CS M g 0 (ix4 b h i d) = 0 := Ideal.ofBits_zero_f32

theorem LS_zero (M : FVec Ideal S2x4x32x1 .f32) (g : ℕ → Vec Ideal S1x2x4x32x66 .bf16) (b : Fin 2) (h : Fin 4) (i : Fin 32) :
    LS M g 0 (ix4 b h i 0) = 0 := Ideal.ofBits_zero_f32

/-- The score of a global query with a key of device `c`, as the kernel computes it. -/
def psc (c : Dev nD) (b : Fin 2) (h : Fin 4) (i : Fin 32) (x : Fin 256) : EReal :=
  (∑ e : Fin 64, Qv A 0 b (ix3 ⟨i.val, by omega⟩ h e) * A.k c (ix4 b x h e)) * Ideal.ofBits .f32 0x3E000000#32

theorem PART_max (c : Dev nD) (b : Fin 2) (h : Fin 4) (i : Fin 32) :
    PART A c (ix5 0 b h i 64) = Finset.fold max (Ideal.ofBits .f32 0xFF800000#32) (psc A c b h i) Finset.univ := by
  unfold PART qg BC hd4 psc
  unfold_payloads
  pointwise

theorem PART_sum (c : Dev nD) (b : Fin 2) (h : Fin 4) (i : Fin 32) :
    PART A c (ix5 0 b h i 65) = ∑ x : Fin 256, Ideal.exp (psc A c b h i x - Finset.fold max (Ideal.ofBits .f32 0xFF800000#32) (psc A c b h i) Finset.univ) := by
  unfold PART qg BC hd4 psc
  unfold_payloads
  pointwise

theorem PART_val (c : Dev nD) (b : Fin 2) (h : Fin 4) (i : Fin 32) (d : Fin 64) :
    PART A c (ix5 0 b h i ⟨d.val, by omega⟩) =
      ∑ x : Fin 256, Ideal.exp (psc A c b h i x - Finset.fold max (Ideal.ofBits .f32 0xFF800000#32) (psc A c b h i) Finset.univ) * A.v c (ix4 b x h d) := by
  unfold PART qg BC hd4 psc
  unfold_payloads
  pointwise

theorem slots_ap (n : Fin 32) (b : Fin 2) (h : Fin 4) (i : Fin 32) (d : Fin 66) : slots A n.val (ix5 0 b h i d) = PART A n (ix5 0 b h i d) := by
  unfold slots
  rw [dif_pos n.isLt]
  unfold slot PRX
  by_cases h0 : n.val = 0
  · obtain rfl : n = 0 := Fin.ext h0
    unfold_payloads
    pointwise
  · pointwise [h0]

end Cert.KernelIdeal.Att

end
-- ==== Proof.KernelValue.lean ====
/-
The kernel's buffers, when the devices hold the blocks of the whole arrays, are the attention over the kept positions.
-/
module

public import proofs.«01_k».proof.Proof.KernelRead

@[expose] public section

set_option maxRecDepth 16384

noncomputable section

namespace Cert.KernelIdeal.Att

open Cert.KernelIdeal Cert.KernelIdeal.Gen
open Idealize.ShloMosaic

variable {A : Inp Ideal} {X : (⟨3, ![2, 8192, 512]⟩ : Shape).Idx → EReal} {W : (⟨2, ![512, 256]⟩ : Shape).Idx → EReal}
  {K V : (⟨4, ![2, 8192, 4, 64]⟩ : Shape).Idx → EReal} {O : (⟨2, ![256, 512]⟩ : Shape).Idx → EReal}

/-- Row `i` of device `c` among all the rows. -/
def row (c : Fin 32) (i : Fin 256) : Fin 8192 := ⟨c.val * 256 + i.val, by omega⟩

variable (A X W K V O) in
/-- The devices hold their blocks of the whole arrays; the weights are held whole. -/
structure Holds : Prop where
  x : ∀ c b i n, A.x c (ix3 b i n) = X (ix3 b (row c i) n)
  wq : ∀ c i n, A.wq c (ix2 i n) = W (ix2 i n)
  k : ∀ c b i h d, A.k c (ix4 b i h d) = K (ix4 b (row c i) h d)
  v : ∀ c b i h d, A.v c (ix4 b i h d) = V (ix4 b (row c i) h d)
  wo : ∀ c i n, A.wo c (ix2 i n) = O (ix2 i n)

theorem Holds.qry (H : Holds A X W K V O) (c : Dev nD) (b : Fin 2) (i : Fin 256) (h : Fin 4) (d : Fin 64) :
    Qv A c b (ix3 i h d) = qry X W b (row c i) h d := by
  rw [Qv_ap]
  exact Finset.sum_congr rfl fun x _ => by rw [H.x, H.wq]

/-! The window. -/

/-- The position that column `x` of the window holds. -/
def colf (c : Fin 32) (x : Fin 544) : Fin 8192 := ⟨min (colw c x) 8191, by omega⟩

theorem colf_val {c : Fin 32} {x : Fin 544} (hx : colw c x < 8192) : (colf c x).val = colw c x := by
  show min (colw c x) 8191 = _; omega

theorem kvs_k (c : Dev nD) (b : Fin 2) (i : Fin 256) (h : Fin 4) (d : Fin 64) : kvs A c 0 (ix5 0 b i h d) = A.k c (ix4 b i h d) := by
  unfold kvs
  unfold_payloads
  pointwise

theorem kvs_v (c : Dev nD) (b : Fin 2) (i : Fin 256) (h : Fin 4) (d : Fin 64) : kvs A c 1 (ix5 0 b i h d) = A.v c (ix4 b i h d) := by
  unfold kvs
  unfold_payloads
  pointwise

theorem gE_k (b : Fin 2) (i : Fin 32) (h : Fin 4) (d : Fin 64) : gE A 0 (ix5 0 b i h d) = A.k 0 (ix4 b ⟨i.val, by omega⟩ h d) := by
  unfold gE bcs BC top
  unfold_payloads
  pointwise
  rfl

theorem gE_v (b : Fin 2) (i : Fin 32) (h : Fin 4) (d : Fin 64) : gE A 1 (ix5 0 b i h d) = A.v 0 (ix4 b ⟨i.val, by omega⟩ h d) := by
  unfold gE bcs BC top
  unfold_payloads
  pointwise
  rfl

/-- A column of the window that holds a position holds that position's entry, whatever is read (`s`) from the devices. -/
theorem WS_of (s : Fin 2) (f : Dev nD → Vec Ideal S2x256x4x64 .bf16) (Y : (⟨4, ![2, 8192, 4, 64]⟩ : Shape).Idx → EReal)
    (h1 : ∀ c b i h d, kvs A c s (ix5 0 b i h d) = f c (ix4 b i h d))
    (h2 : ∀ b i h d, gE A s (ix5 0 b i h d) = f 0 (ix4 b ⟨i.val, lt_trans i.isLt (by decide)⟩ h d))
    (hf : ∀ c b i h d, f c (ix4 b i h d) = Y (ix4 b (row c i) h d))
    (c : Dev nD) (b : Fin 2) (x : Fin 544) (h : Fin 4) (d : Fin 64) (hx : colw c x < 8192) :
    WS A c (ix5 s b x h d) = Y (ix4 b (colf c x) h d) := by
  have hc : c.val < 32 := c.isLt
  have rd : ∀ (c' : Fin 32) (i : Fin 256), (row c' i).val = colw c x → f c' (ix4 b i h d) = Y (ix4 b (colf c x) h d) := by
    intro c' i e
    rw [hf, show row c' i = colf c x from Fin.ext (e.trans (colf_val hx).symm)]
  unfold colw at hx rd
  have hx' := x.isLt
  show (if h1 : x.val < 128 then
      if c.val = 0 then zL s (ix5 0 b ⟨x.val, h1⟩ h d) else kvs A (prv c) s (ix5 0 b ⟨x.val + 128, by omega⟩ h d)
    else if h2 : x.val < 384 then kvs A c s (ix5 0 b ⟨x.val - 128, by omega⟩ h d)
    else if h3 : x.val < 512 then
      if c.val = 31 then zR s (ix5 0 b ⟨x.val - 384, by omega⟩ h d) else kvs A (nxt c) s (ix5 0 b ⟨x.val - 384, by omega⟩ h d)
    else if c.val = 0 then zE s (ix5 0 b ⟨x.val - 512, by omega⟩ h d) else gE A s (ix5 0 b ⟨x.val - 512, by omega⟩ h d)) = _
  by_cases c1 : x.val < 128
  · rw [if_pos c1] at hx
    simp only [if_pos c1] at rd
    by_cases c0 : c.val = 0
    · rw [if_neg (by omega)] at hx; omega
    rw [dif_pos c1, if_neg c0, h1]
    refine rd (prv c) _ ?_
    rw [if_pos (by omega)]
    show (c.val - 1) * 256 + (x.val + 128) = _
    omega
  by_cases c2 : x.val < 384
  · simp only [if_neg c1, if_pos c2] at rd
    rw [dif_neg c1, dif_pos c2, h1]
    refine rd c _ ?_
    show c.val * 256 + (x.val - 128) = _
    omega
  by_cases c3 : x.val < 512
  · rw [if_neg c1, if_neg c2, if_pos c3] at hx
    simp only [if_neg c1, if_neg c2, if_pos c3] at rd
    by_cases c0 : c.val = 31
    · rw [if_neg (by omega)] at hx; omega
    rw [dif_neg c1, dif_neg c2, dif_pos c3, if_neg c0, h1]
    refine rd (nxt c) _ ?_
    rw [if_pos (by omega)]
    show (nxt c).val * 256 + (x.val - 384) = _
    rw [nxt, dif_pos (by omega)]
    show (c.val + 1) * 256 + (x.val - 384) = _
    omega
  · rw [if_neg c1, if_neg c2, if_neg c3] at hx
    simp only [if_neg c1, if_neg c2, if_neg c3] at rd
    by_cases c0 : c.val = 0
    · rw [if_neg (by omega)] at hx; omega
    rw [dif_neg c1, dif_neg c2, dif_neg c3, if_neg c0, h2]
    refine rd 0 _ ?_
    rw [if_pos (by omega)]
    show 0 * 256 + (x.val - 512) = _
    omega

theorem Holds.WS_k (H : Holds A X W K V O) (c : Dev nD) (b : Fin 2) (x : Fin 544) (h : Fin 4) (d : Fin 64) (hx : colw c x < 8192) :
    WS A c (ix5 0 b x h d) = K (ix4 b (colf c x) h d) := WS_of 0 A.k K kvs_k gE_k H.k c b x h d hx

theorem Holds.WS_v (H : Holds A X W K V O) (c : Dev nD) (b : Fin 2) (x : Fin 544) (h : Fin 4) (d : Fin 64) (hx : colw c x < 8192) :
    WS A c (ix5 1 b x h d) = V (ix4 b (colf c x) h d) := WS_of 1 A.v V kvs_v gE_v H.v c b x h d hx

/-! The local rows. -/

/-- The columns of the window that the row keeps. -/
def keepw (c : Fin 32) (i : Fin 256) : Finset (Fin 544) := Finset.univ.filter fun x => near (row c i).val (colw c x)

theorem mem_keepw {c : Fin 32} {i : Fin 256} {x : Fin 544} : x ∈ keepw c i ↔ near (row c i).val (colw c x) := by
  rw [keepw, Finset.mem_filter]; exact and_iff_right (Finset.mem_univ _)

theorem mem_keep {i j : Fin 8192} : j ∈ keep i ↔ near i.val j.val := by
  rw [keep, Finset.mem_filter]; exact and_iff_right (Finset.mem_univ _)

/-- A local row keeps no column that holds nothing. -/
theorem colw_lt {c : Fin 32} {i : Fin 256} (hl : ¬ (c.val = 0 ∧ i.val < 32)) {x : Fin 544} (hx : x ∈ keepw c i) : colw c x < 8192 := by
  have h := mem_keepw.1 hx
  have hr : (row c i).val = c.val * 256 + i.val := rfl
  rw [near, hr] at h
  unfold colw at h ⊢
  have := c.isLt; have := i.isLt; have := x.isLt
  split_ifs at h ⊢ <;> omega

theorem colf_inj {c : Fin 32} {i : Fin 256} (hl : ¬ (c.val = 0 ∧ i.val < 32)) : Set.InjOn (colf c) (keepw c i) := by
  intro x hx y hy e
  have h1 := colw_lt hl hx
  have h2 := colw_lt hl hy
  have e' : colw c x = colw c y := by rw [← colf_val h1, ← colf_val h2, e]
  unfold colw at h1 h2 e'
  have := c.isLt; have := x.isLt; have := y.isLt
  apply Fin.ext
  split_ifs at h1 h2 e' <;> omega

theorem colf_image {c : Fin 32} {i : Fin 256} (hl : ¬ (c.val = 0 ∧ i.val < 32)) : (keepw c i).image (colf c) = keep (row c i) := by
  have hr : (row c i).val = c.val * 256 + i.val := rfl
  have hc := c.isLt
  have hi := i.isLt
  ext y
  rw [Finset.mem_image]
  constructor
  · rintro ⟨x, hx, rfl⟩
    rw [mem_keep, colf_val (colw_lt hl hx)]
    exact mem_keepw.1 hx
  · intro hy
    rw [mem_keep] at hy
    have hy' := hy
    rw [near, hr] at hy'
    have hyl := y.isLt
    have get : ∀ x : Fin 544, colw c x = y.val → ∃ a ∈ keepw c i, colf c a = y := fun x e =>
      ⟨x, mem_keepw.2 (e ▸ hy), Fin.ext ((colf_val (by rw [e]; exact hyl)).trans e)⟩
    by_cases h0 : 0 < c.val ∧ y.val < 32
    · refine get ⟨512 + y.val, by omega⟩ ?_
      unfold colw
      dsimp only
      split_ifs <;> omega
    · refine get ⟨y.val + 128 - c.val * 256, by omega⟩ ?_
      unfold colw
      dsimp only
      split_ifs <;> omega

theorem Holds.CTX (H : Holds A X W K V O) (hs : ∀ b h i j, IsReal (scr X W K b h i j)) (c : Dev nD) (b : Fin 2) (i : Fin 256) (h : Fin 4) (d : Fin 64)
    (hl : ¬ (c.val = 0 ∧ i.val < 32)) : CTX A c (ix4 b i h d) = ctxw X W K V b (row c i) h d := by
  have e : keepw c i = Finset.univ.filter fun x => near (row c i).val (colw c x) := rfl
  have self : (keepw c i).Nonempty := by
    have := self_mem (row c i)
    rw [← colf_image hl, Finset.mem_image] at this
    obtain ⟨x, hx, _⟩ := this
    exact ⟨x, hx⟩
  show k0_pay197 (MASK c) (qsel (Qv A c b) h) (wsl A c 0 b h) (wsl A c 1 b h) (ix4 0 i 0 d) = _
  rw [pay197_ap _ _ _ _ _ _ _ rfl, minus_inf, mask_bot]
  refine (row_eq (keepw c i) self (fun x => (scr X W K b h (row c i) (colf c x)).toReal) _ (fun x => WS A c (ix5 1 b x h d)) fun x => ?_).trans ?_
  · by_cases hm : x ∈ keepw c i
    · rw [if_pos hm, (MASK_iff c i x).2 (mem_keepw.1 hm), ← (hs b h (row c i) (colf c x)).eq]
      show (∑ e : Fin 64, qsel (Qv A c b) h (ix2 i e) * WS A c (ix5 0 b x h e)) * _ = _
      rw [scr]
      congr 1
      exact Finset.sum_congr rfl fun e _ => by rw [qsel_ap, H.qry, H.WS_k _ _ _ _ _ (colw_lt hl hm)]
    · rw [if_neg hm, (BitVec.eq_zero_or_eq_one (MASK c (ix2 i x))).resolve_right fun e => hm (mem_keepw.2 ((MASK_iff c i x).1 e))]; rfl
  · rw [ctxw, ← att_image (colf c) (keepw c i) (keep (row c i)) (colf_inj hl) (colf_image hl)]
    exact att_congr _ (fun _ _ => rfl) fun x hx => H.WS_v _ _ _ _ _ (colw_lt hl hx)

end Cert.KernelIdeal.Att

end
-- ==== Proof.KernelMerge.lean ====
/-
The merged rows of device 0, and the kernel's output: the whole arrays' attention, projected.
-/
module

public import proofs.«01_k».proof.Proof.KernelValue

@[expose] public section

set_option maxRecDepth 16384

noncomputable section

namespace Cert.KernelIdeal.Att

open Cert.KernelIdeal Cert.KernelIdeal.Gen
open Idealize.ShloMosaic

variable {A : Inp Ideal} {X : (⟨3, ![2, 8192, 512]⟩ : Shape).Idx → EReal} {W : (⟨2, ![512, 256]⟩ : Shape).Idx → EReal}
  {K V : (⟨4, ![2, 8192, 4, 64]⟩ : Shape).Idx → EReal} {O : (⟨2, ![256, 512]⟩ : Shape).Idx → EReal}

theorem CS_sum (M : FVec Ideal S2x4x32x1 .f32) (g : ℕ → Vec Ideal S1x2x4x32x66 .bf16) (n : ℕ) (b : Fin 2) (h : Fin 4) (i : Fin 32) (d : Fin 64) :
    CS M g n (ix4 b h i d) = ∑ j ∈ Finset.range n, Ideal.exp (g j (ix5 0 b h i 64) - M (ix4 b h i 0)) * g j (ix5 0 b h i ⟨d.val, by omega⟩) := by
  induction n with
  | zero => rw [CS_zero, Finset.sum_range_zero]
  | succ n ih => rw [CS_succ, Finset.sum_range_succ, ih]

theorem LS_sum (M : FVec Ideal S2x4x32x1 .f32) (g : ℕ → Vec Ideal S1x2x4x32x66 .bf16) (n : ℕ) (b : Fin 2) (h : Fin 4) (i : Fin 32) :
    LS M g n (ix4 b h i 0) = ∑ j ∈ Finset.range n, Ideal.exp (g j (ix5 0 b h i 64) - M (ix4 b h i 0)) * g j (ix5 0 b h i 65) := by
  induction n with
  | zero => rw [LS_zero, Finset.sum_range_zero]
  | succ n ih => rw [LS_succ, Finset.sum_range_succ, ih]

/-- The greatest of real numbers is real. -/
theorem MX_real (g : ℕ → Vec Ideal S1x2x4x32x66 .bf16) (b : Fin 2) (h : Fin 4) (i : Fin 32) (N : ℕ)
    (hg : ∀ n ≤ N, IsReal (g n (ix5 0 b h i 64))) : ∀ n ≤ N, IsReal (MX g n (ix4 b h i 0)) := by
  intro n
  induction n with
  | zero => intro hn; rw [MX_zero]; exact hg 0 hn
  | succ n ih =>
    intro hn
    obtain ⟨a, ha⟩ := ih (by omega)
    obtain ⟨c, hc⟩ := hg (n + 1) hn
    rw [MX_succ, ha, hc]
    exact ⟨max a c, (EReal.coe_strictMono.monotone.map_max).symm⟩

/-- Row `i` of the global rows. -/
abbrev grow (i : Fin 32) : Fin 8192 := row 0 ⟨i.val, by omega⟩

theorem Holds.psc (H : Holds A X W K V O) (c : Dev nD) (b : Fin 2) (h : Fin 4) (i : Fin 32) (x : Fin 256) :
    psc A c b h i x = scr X W K b h (grow i) (row c x) := by
  unfold Att.psc scr
  congr 1
  exact Finset.sum_congr rfl fun e _ => by rw [H.qry, H.k]

/-- A global row keeps every position, each held by one device. -/
theorem grow_image (i : Fin 32) : (Finset.univ : Finset (Fin 32 × Fin 256)).image (fun p => row p.1 p.2) = keep (grow i) := by
  ext y
  rw [Finset.mem_image, mem_keep]
  have hy := y.isLt
  refine ⟨fun _ => .inr (.inr ?_), fun _ => ⟨(⟨y.val / 256, by omega⟩, ⟨y.val % 256, by omega⟩), Finset.mem_univ _, Fin.ext ?_⟩⟩
  · show 0 * 256 + i.val < 32
    omega
  · show y.val / 256 * 256 + y.val % 256 = y.val
    omega

theorem row_inj : Function.Injective (fun p : Fin 32 × Fin 256 => row p.1 p.2) := by
  rintro ⟨c, i⟩ ⟨c', i'⟩ e
  have e' : c.val * 256 + i.val = c'.val * 256 + i'.val := congrArg Fin.val e
  have := i.isLt; have := i'.isLt
  exact Prod.ext (Fin.ext (by show c.val = c'.val; omega)) (Fin.ext (by show i.val = i'.val; omega))

theorem Holds.GC (H : Holds A X W K V O) (hs : ∀ b h i j, IsReal (scr X W K b h i j)) (b : Fin 2) (h : Fin 4) (i : Fin 32) (d : Fin 64) :
    GC A (ix4 b h i d) = ctxw X W K V b (grow i) h d := by
  have hp : ∀ (n : Fin 32) (x : Fin 256), Att.psc A n b h i x = ((scr X W K b h (grow i) (row n x)).toReal : EReal) := fun n x => by
    rw [H.psc]; exact (hs _ _ _ _).eq
  have hm : ∀ n : Fin 32, IsReal (Finset.fold max ⊥ (Att.psc A n b h i) Finset.univ) := fun n =>
    fold_max_real _ (fun x => by rw [hp]; exact EReal.coe_ne_top _) 0 (by rw [hp]; exact EReal.coe_ne_bot _)
  choose m hm using hm
  have p64 : ∀ n : Fin 32, slots A n.val (ix5 0 b h i 64) = (m n : EReal) := fun n => by
    rw [slots_ap, PART_max, minus_inf, hm]
  have p65 : ∀ n : Fin 32, slots A n.val (ix5 0 b h i 65) = ∑ x : Fin 256, Ideal.exp (((scr X W K b h (grow i) (row n x)).toReal : EReal) - m n) := fun n => by
    rw [slots_ap, PART_sum, minus_inf, hm]
    exact Finset.sum_congr rfl fun x _ => by rw [hp]
  have pv : ∀ n : Fin 32, slots A n.val (ix5 0 b h i ⟨d.val, by omega⟩) =
      ∑ x : Fin 256, Ideal.exp (((scr X W K b h (grow i) (row n x)).toReal : EReal) - m n) * V (ix4 b (row n x) h d) := fun n => by
    rw [slots_ap, PART_val, minus_inf, hm]
    exact Finset.sum_congr rfl fun x _ => by rw [hp, H.v]
  obtain ⟨M, hM⟩ : IsReal (GM A (ix4 b h i 0)) :=
    MX_real (slots A) b h i 31 (fun n hn => ⟨m ⟨n, by omega⟩, p64 ⟨n, by omega⟩⟩) 31 le_rfl
  rw [GC_ap, CS_sum, LS_sum, Finset.sum_range, Finset.sum_range, hM]
  simp only [p64, p65, pv]
  rw [merge_eq (fun n x => (scr X W K b h (grow i) (row n x)).toReal) (fun n x => V (ix4 b (row n x) h d)) m M, ctxw,
    ← att_image (fun p : Fin 32 × Fin 256 => row p.1 p.2) Finset.univ (keep (grow i)) row_inj.injOn (grow_image i)]

/-! The output. -/

theorem hsel_ap (q : FVec Ideal S2x4x32x64 .f32) (h : Fin 4) (b : Fin 2) (i : Fin 32) (d : Fin 64) : hsel q h (ix4 b i 0 d) = q (ix4 b h i d) := by
  fin_cases h
  all_goals
    unfold hsel
    try unfold_payloads
    pointwise

theorem OUT_local (c : Dev nD) (b : Fin 2) (i : Fin 256) (n : Fin 512) (hl : ¬ (c.val = 0 ∧ i.val < 32)) :
    OUT A c (ix3 b i n) = ∑ x : Fin 256, CTX A c (ix4 b i ⟨x.val / 64, by omega⟩ ⟨x.val % 64, by omega⟩) * A.wo c (ix2 x n) := by
  refine (dif_neg hl).trans ?_
  fin_cases b
  all_goals
    unfold OUTL ctxb
    unfold_payloads
    pointwise

theorem OUT_global (b : Fin 2) (i : Fin 32) (n : Fin 512) :
    OUT A 0 (ix3 b ⟨i.val, by omega⟩ n) = ∑ x : Fin 256, Att.GC A (ix4 b ⟨x.val / 64, by omega⟩ i ⟨x.val % 64, by omega⟩) * A.wo 0 (ix2 x n) := by
  have e : ∀ b : Fin 2, ctxg A b = fun j => Att.GC A (ix4 b (j 2) (j 1) (j 3)) := fun b => funext fun j => hsel_ap _ _ _ _ _
  refine (dif_pos ⟨rfl, i.isLt⟩).trans ?_
  rw [e, e]
  fin_cases b
  all_goals
    unfold_payloads
    pointwise

theorem Holds.OUT (H : Holds A X W K V O) (hs : ∀ b h i j, IsReal (scr X W K b h i j)) (c : Dev nD) (b : Fin 2) (i : Fin 256) (n : Fin 512) :
    Att.OUT A c (ix3 b i n) = res X W K V O b (row c i) n := by
  rw [res]
  by_cases hl : c.val = 0 ∧ i.val < 32
  · obtain rfl : c = 0 := Fin.ext hl.1
    have := OUT_global (A := A) b ⟨i.val, hl.2⟩ n
    refine this.trans (Finset.sum_congr rfl fun x _ => ?_)
    rw [H.GC hs, H.wo]
  · rw [OUT_local c b i n hl]
    exact Finset.sum_congr rfl fun x _ => by rw [H.CTX hs c b i _ _ hl, H.wo]

end Cert.KernelIdeal.Att

end
-- ==== Proof.KernelAlgebraic.lean ====
/-
The kernel and the reference leave the same result: each device's block of the attention over the whole arrays.
-/
module

public import proofs.«01_k».proof.Defs
public import proofs.«01_k».proof.Proof.KernelMerge
public import proofs.«01_k».proof.Proof.KernelIdealLaunch
public import proofs.«01_k».proof.Proof.Gen.Pre_finite_KernelIdeal
public import Idealize.ShloMosaic.Lib.Layout

@[expose] public section

set_option maxRecDepth 16384

noncomputable section

namespace Cert.KernelIdeal.Att

open Cert.KernelIdeal Cert.KernelIdeal.Gen
open Idealize.ShloMosaic Idealize.SL.Sem
open Idealize.ShloMosaic.TcCoe

/-! What the memory holds, through the windows: each window's one block is its whole array. -/

section

variable {F : FTy → Type} [FloatOps F] [Named F] (m : (ℓ : Loc nD τ sig) → Buf (Elt F) ℓ) (ρ : Dev nD → PrngReg)

theorem inp_x (c : Dev nD) : (inp m).x c = m ((c : Thread nD τ).loc main_arg0) := by
  show (win0_0.blk (0 : Fin 1)).view.read (Elt F) (m ((c : Thread nD τ).loc main_arg0)) = _
  exact Memref.read_access_unit_zero (Elt F) main_arg0 (off := fun a => win0_0.index (0 : Fin 1) a * main_arg0.ty.shape.size a)
    (funext fun a => by fin_cases a <;> decide) (fun a => by fin_cases a <;> decide) _

theorem inp_wq (c : Dev nD) : (inp m).wq c = m ((c : Thread nD τ).loc main_arg1) := by
  show (win0_1.blk (0 : Fin 1)).view.read (Elt F) (m ((c : Thread nD τ).loc main_arg1)) = _
  exact Memref.read_access_unit_zero (Elt F) main_arg1 (off := fun a => win0_1.index (0 : Fin 1) a * main_arg1.ty.shape.size a)
    (funext fun a => by fin_cases a <;> decide) (fun a => by fin_cases a <;> decide) _

theorem inp_k (c : Dev nD) : (inp m).k c = m ((c : Thread nD τ).loc main_arg2) := by
  show (win0_2.blk (0 : Fin 1)).view.read (Elt F) (m ((c : Thread nD τ).loc main_arg2)) = _
  exact Memref.read_access_unit_zero (Elt F) main_arg2 (off := fun a => win0_2.index (0 : Fin 1) a * main_arg2.ty.shape.size a)
    (funext fun a => by fin_cases a <;> decide) (fun a => by fin_cases a <;> decide) _

theorem inp_v (c : Dev nD) : (inp m).v c = m ((c : Thread nD τ).loc main_arg3) := by
  show (win0_3.blk (0 : Fin 1)).view.read (Elt F) (m ((c : Thread nD τ).loc main_arg3)) = _
  exact Memref.read_access_unit_zero (Elt F) main_arg3 (off := fun a => win0_3.index (0 : Fin 1) a * main_arg3.ty.shape.size a)
    (funext fun a => by fin_cases a <;> decide) (fun a => by fin_cases a <;> decide) _

theorem inp_wo (c : Dev nD) : (inp m).wo c = m ((c : Thread nD τ).loc main_arg4) := by
  show (win0_4.blk (0 : Fin 1)).view.read (Elt F) (m ((c : Thread nD τ).loc main_arg4)) = _
  exact Memref.read_access_unit_zero (Elt F) main_arg4 (off := fun a => win0_4.index (0 : Fin 1) a * main_arg4.ty.shape.size a)
    (funext fun a => by fin_cases a <;> decide) (fun a => by fin_cases a <;> decide) _

/-- The output array ends as the kernel's output. -/
theorem finalA_u (c : Dev nD) : finalA m ρ c (5 : Fin 6) = OUT (inp m) c := by
  have e : (win0_5.blk (0 : Fin 1)).view.read (Elt F) (finalA m ρ c (5 : Fin 6)) = OUT (inp m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (Memref.read_access_unit_zero (Elt F) main_v1 (off := fun a => win0_5.index (0 : Fin 1) a * main_v1.ty.shape.size a)
    (funext fun a => by fin_cases a <;> decide) (fun a => by fin_cases a <;> decide) _).symm.trans e

end

/-! Blocks. -/

theorem block3 (v : (⟨3, ![2, 8192, 512]⟩ : Shape).Idx → EReal) (c : Fin 32) (b : Fin 2) (i : Fin 256) (n : Fin 512) :
    Layout.block ⟨3, ![2, 256, 512]⟩ ⟨3, ![2, 8192, 512]⟩ 1 32 c v (by decide) (ix3 b i n) = v (ix3 b (row c i) n) :=
  congrArg v (funext fun a => Fin.ext (by fin_cases a <;> rfl))

theorem block4 (v : (⟨4, ![2, 8192, 4, 64]⟩ : Shape).Idx → EReal) (c : Fin 32) (b : Fin 2) (i : Fin 256) (h : Fin 4) (d : Fin 64) :
    Layout.block ⟨4, ![2, 256, 4, 64]⟩ ⟨4, ![2, 8192, 4, 64]⟩ 1 32 c v (by decide) (ix4 b i h d) = v (ix4 b (row c i) h d) :=
  congrArg v (funext fun a => Fin.ext (by fin_cases a <;> rfl))

theorem as_ix3 {p q r : ℕ} (i : (⟨3, ![p, q, r]⟩ : Shape).Idx) : ∃ (a : Fin p) (b : Fin q) (c : Fin r), i = ix3 a b c :=
  ⟨i 0, i 1, i 2, funext fun a => by fin_cases a <;> rfl⟩

theorem as_ix4 {p q r s : ℕ} (i : (⟨4, ![p, q, r, s]⟩ : Shape).Idx) : ∃ (a : Fin p) (b : Fin q) (c : Fin r) (d : Fin s), i = ix4 a b c d :=
  ⟨i 0, i 1, i 2, i 3, funext fun a => by fin_cases a <;> rfl⟩

/-- Every row of the whole arrays is some device's. -/
theorem row_surj (j : Fin 8192) : ∃ (c : Fin 32) (i : Fin 256), row c i = j :=
  ⟨⟨j.val / 256, by omega⟩, ⟨j.val % 256, by omega⟩, Fin.ext (by show j.val / 256 * 256 + j.val % 256 = j.val; omega)⟩

/-! Finite entries. -/

theorem inf_bf16 : Ideal.ofBits .bf16 0x7F80#16 = ⊤ := by
  simp [Ideal.ofBits, Ideal.ieee]

/-- An entry whose absolute value is below infinity is a real number. -/
theorem real_of_abs (x : EReal) (h : Ideal.cmp .olt (max x (-x)) (Ideal.ofBits .bf16 0x7F80#16) = 1#1) : IsReal x := by
  rw [inf_bf16] at h
  have h' : max x (-x) < ⊤ := by
    by_contra hn
    have e : Ideal.cmp .olt (max x (-x)) ⊤ = 0#1 := by
      simp only [Ideal.cmp, hn, decide_false, BitVec.ofBool_false]
      rfl
    rw [e] at h
    exact absurd h (by decide)
  refine ⟨x.toReal, (EReal.coe_toReal ?_ ?_).symm⟩
  · rintro rfl; simp at h'
  · rintro rfl; simp at h'

section

variable (x : FVec Ideal Pre_finite_KernelIdeal.S2x256x512 .bf16) (wq : FVec Ideal Pre_finite_KernelIdeal.S512x256 .bf16)
  (k v : FVec Ideal Pre_finite_KernelIdeal.S2x256x4x64 .bf16) (wo : FVec Ideal Pre_finite_KernelIdeal.S256x512 .bf16)

theorem real_x (h : (Pre_finite_KernelIdeal.fn (F := Ideal) x wq k v wo).1 = fun _ => 1#1) (i) : IsReal (x i) := real_of_abs _ (congrFun h i)
theorem real_wq (h : (Pre_finite_KernelIdeal.fn (F := Ideal) x wq k v wo).2.1 = fun _ => 1#1) (i) : IsReal (wq i) := real_of_abs _ (congrFun h i)
theorem real_k (h : (Pre_finite_KernelIdeal.fn (F := Ideal) x wq k v wo).2.2 = fun _ => 1#1) (i) : IsReal (k i) := real_of_abs _ (congrFun h i)

end

/-- The two programs' results agree. -/
theorem agree : Cert.algebraic_KernelIdeal_ReferenceIdeal_pre_finite_KernelIdeal (hReferenceIdeal := Cert.ReferenceIdeal.Gen.facts) := by
  intro m g m' g' hp ha
  let X : (⟨3, ![2, 8192, 512]⟩ : Shape).Idx → EReal := m' (((0 : Dev Cert.ReferenceIdeal.nD).tc : Thread Cert.ReferenceIdeal.nD Cert.ReferenceIdeal.τ).loc Cert.ReferenceIdeal.main_arg0)
  let W : (⟨2, ![512, 256]⟩ : Shape).Idx → EReal := m' (((0 : Dev Cert.ReferenceIdeal.nD).tc : Thread Cert.ReferenceIdeal.nD Cert.ReferenceIdeal.τ).loc Cert.ReferenceIdeal.main_arg1)
  let K : (⟨4, ![2, 8192, 4, 64]⟩ : Shape).Idx → EReal := m' (((0 : Dev Cert.ReferenceIdeal.nD).tc : Thread Cert.ReferenceIdeal.nD Cert.ReferenceIdeal.τ).loc Cert.ReferenceIdeal.main_arg2)
  let V : (⟨4, ![2, 8192, 4, 64]⟩ : Shape).Idx → EReal := m' (((0 : Dev Cert.ReferenceIdeal.nD).tc : Thread Cert.ReferenceIdeal.nD Cert.ReferenceIdeal.τ).loc Cert.ReferenceIdeal.main_arg3)
  let O : (⟨2, ![256, 512]⟩ : Shape).Idx → EReal := m' (((0 : Dev Cert.ReferenceIdeal.nD).tc : Thread Cert.ReferenceIdeal.nD Cert.ReferenceIdeal.τ).loc Cert.ReferenceIdeal.main_arg4)
  have H : Holds (inp m) X W K V O :=
    ⟨fun c b i n => (congrFun ((inp_x m c).trans (ha c).1) _).trans (block3 X c b i n),
      fun c i n => congrFun ((inp_wq m c).trans (ha c).2.1) _,
      fun c b i h d => (congrFun ((inp_k m c).trans (ha c).2.2.1) _).trans (block4 K c b i h d),
      fun c b i h d => (congrFun ((inp_v m c).trans (ha c).2.2.2.1) _).trans (block4 V c b i h d),
      fun c i n => congrFun ((inp_wo m c).trans (ha c).2.2.2.2) _⟩
  have hX : ∀ i, IsReal (X i) := fun i => by
    obtain ⟨b, j, n, rfl⟩ := as_ix3 i
    obtain ⟨c, r, rfl⟩ := row_surj j
    rw [← block3 X c b r n, ← (ha c).1]
    exact real_x _ _ _ _ _ (hp c).1 _
  have hW : ∀ i, IsReal (W i) := fun i => by
    have := real_wq _ _ _ _ _ (hp 0).2.1 i
    rw [(ha 0).2.1] at this
    exact this
  have hK : ∀ i, IsReal (K i) := fun i => by
    obtain ⟨b, j, h, d, rfl⟩ := as_ix4 i
    obtain ⟨c, r, rfl⟩ := row_surj j
    rw [← block4 K c b r h d, ← (ha c).2.2.1]
    exact real_k _ _ _ _ _ (hp c).2.2 _
  have hs := scr_real X W K hX hW hK
  have hR : ∀ b i n, Cert.ReferenceIdeal.Value.res_main_v45 m' 0 (ix3 b i n) = res X W K V O b i n := fun b i n =>
    (congrFun (Cert.ReferenceIdeal.res_stages m' 0) _).trans (outR_res X W K V O hs b i n)
  refine ⟨Cert.ReferenceIdeal.Value.res_main_v45 m' 0, θ_run_mono (run_main m g) fun r h c => ⟨?_, same_of m g h.1 c⟩, ?_⟩
  · refine ((h.1 c (5 : Fin 6)).trans (finalA_u m g c)).trans (funext fun i => ?_)
    obtain ⟨b, j, n, rfl⟩ := as_ix3 i
    exact (H.OUT hs c _ _ _).trans ((block3 _ c _ _ _).trans (hR _ _ _)).symm
  · exact (θ_run _ _ _).mono (fun r h => h 0) (Cert.ReferenceIdeal.Value.run (F := Ideal) m' g')

end Cert.KernelIdeal.Att

end
-- ==== Proof.lean ====
/-
The certificate's claims, each by its own module: the kernel's two frames by the protocol and launch modules, the
reference's frame by the composed run of its host operations, the named constant by its rule, and the kernel's and the
reference's results by reading both down to the same attention.
-/
module

public import proofs.«01_k».proof.Defs
public import proofs.«01_k».proof.Proof.KernelRun
public import proofs.«01_k».proof.Proof.KernelAlgebraic
public import proofs.«01_k».proof.Proof.Gen.Pre_finite_KernelIdeal
public import proofs.«01_k».proof.Proof.Gen.Pre_finite_ReferenceIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs, its arguments end as they were, and it declares no semaphore. -/
theorem reference_runs : Cert.quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

theorem mask_named : Cert.preserves_Kernel_KernelIdeal := IdealRules.named_const.statement _ _ _ _ _ rfl

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, kernel_runs, kernelIdeal_runs, fun m g _ => kernelIdeal_runs m g trivial, reference_runs,
    fun m g _ => reference_runs m g trivial, mask_named, Cert.KernelIdeal.Att.agree⟩

end Cert.Proof

end
